-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v31) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "neg_log2e" .f32 0xBFB8AA3B#32 ((-((Real.log 2)⁻¹) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x2064x2048 : Shape := ⟨3, ![8, 2064, 2048]⟩
abbrev S8x2064x4096 : Shape := ⟨3, ![8, 2064, 4096]⟩
abbrev S8x2064x16 : Shape := ⟨3, ![8, 2064, 16]⟩
abbrev S_ : Shape := ⟨0, ![]⟩

class Facts : Prop where
  bitsLt_bf16_f32 : FTy.bits .bf16 < FTy.bits .f32
  bcast_S_S8x2064x2048 : S_.BroadcastsInDim S8x2064x2048 (![] : Fin 0 → Fin S8x2064x2048.rank)
  reducesTo_S8x2064x2048_S_d0_1_2 : S8x2064x2048.ReducesTo [0, 1, 2] S_
  h_S_ : 0 < S_.numel
  bcast_S_S8x2064x4096 : S_.BroadcastsInDim S8x2064x4096 (![] : Fin 0 → Fin S8x2064x4096.rank)
  reducesTo_S8x2064x4096_S_d0_1_2 : S8x2064x4096.ReducesTo [0, 1, 2] S_
  bcast_S_S8x2064x16 : S_.BroadcastsInDim S8x2064x16 (![] : Fin 0 → Fin S8x2064x16.rank)
  reducesTo_S8x2064x16_S_d0_1_2 : S8x2064x16.ReducesTo [0, 1, 2] S_

variable [Facts]

def fn_part1 {F : FTy → Type} [FloatOps F] (main_v16 : IVec S_ 1) (main_v17 : FVec F S8x2064x16 .f32) : IVec S_ 1 :=
  let main_cst_4 : FVec F S_ .f32 := constant S_ .f32 0x7F800000#32
  let main_v18 : FVec F S8x2064x16 .f32 := broadcastInDim S8x2064x16 ![] bcast_S_S8x2064x16 main_cst_4
  let main_v19 : IVec S8x2064x16 1 := cmpf .olt main_v17 main_v18
  let main_c_5 : IVec S_ 1 := constantI S_ 1 1#1
  let main_v20 : IVec S_ 1 := (fun x v => Host.reduce IntOp.andi x v reducesTo_S8x2064x16_S_d0_1_2 h_S_) main_v19 main_c_5
  let main_v21 : IVec S_ 1 := andi main_v16 main_v20
  main_v21

def fn {F : FTy → Type} [FloatOps F] (main_arg0 : FVec F S8x2064x2048 .bf16) (main_arg1 : FVec F S8x2064x2048 .bf16) (main_arg2 : FVec F S8x2064x4096 .bf16) (main_arg3 : FVec F S8x2064x16 .f32) : IVec S_ 1 :=
  let main_v0 : FVec F S8x2064x2048 .f32 := (extf .f32 · bitsLt_bf16_f32) main_arg0
  let main_v1 : FVec F S8x2064x2048 .f32 := Host.absf main_v0
  let main_cst : FVec F S_ .f32 := constant S_ .f32 0x7F800000#32
  let main_v2 : FVec F S8x2064x2048 .f32 := broadcastInDim S8x2064x2048 ![] bcast_S_S8x2064x2048 main_cst
  let main_v3 : IVec S8x2064x2048 1 := cmpf .olt main_v1 main_v2
  let main_c : IVec S_ 1 := constantI S_ 1 1#1
  let main_v4 : IVec S_ 1 := (fun x v => Host.reduce IntOp.andi x v reducesTo_S8x2064x2048_S_d0_1_2 h_S_) main_v3 main_c
  let main_v5 : FVec F S8x2064x2048 .f32 := (extf .f32 · bitsLt_bf16_f32) main_arg1
  let main_v6 : FVec F S8x2064x2048 .f32 := Host.absf main_v5
  let main_cst_0 : FVec F S_ .f32 := constant S_ .f32 0x7F800000#32
  let main_v7 : FVec F S8x2064x2048 .f32 := broadcastInDim S8x2064x2048 ![] bcast_S_S8x2064x2048 main_cst_0
  let main_v8 : IVec S8x2064x2048 1 := cmpf .olt main_v6 main_v7
  let main_c_1 : IVec S_ 1 := constantI S_ 1 1#1
  let main_v9 : IVec S_ 1 := (fun x v => Host.reduce IntOp.andi x v reducesTo_S8x2064x2048_S_d0_1_2 h_S_) main_v8 main_c_1
  let main_v10 : IVec S_ 1 := andi main_v4 main_v9
  let main_v11 : FVec F S8x2064x4096 .f32 := (extf .f32 · bitsLt_bf16_f32) main_arg2
  let main_v12 : FVec F S8x2064x4096 .f32 := Host.absf main_v11
  let main_cst_2 : FVec F S_ .f32 := constant S_ .f32 0x7F800000#32
  let main_v13 : FVec F S8x2064x4096 .f32 := broadcastInDim S8x2064x4096 ![] bcast_S_S8x2064x4096 main_cst_2
  let main_v14 : IVec S8x2064x4096 1 := cmpf .olt main_v12 main_v13
  let main_c_3 : IVec S_ 1 := constantI S_ 1 1#1
  let main_v15 : IVec S_ 1 := (fun x v => Host.reduce IntOp.andi x v reducesTo_S8x2064x4096_S_d0_1_2 h_S_) main_v14 main_c_3
  let main_v16 : IVec S_ 1 := andi main_v10 main_v15
  let main_v17 : FVec F S8x2064x16 .f32 := Host.absf main_arg3
  fn_part1 (F := F) main_v16 main_v17
-- ==== Kernel.lean ====
abbrev S8x2064x2048 : Shape := ⟨3, ![8, 2064, 2048]⟩
abbrev S8x2064x4096 : Shape := ⟨3, ![8, 2064, 4096]⟩
abbrev S8x2064x16 : Shape := ⟨3, ![8, 2064, 16]⟩
abbrev S8x2064x8 : Shape := ⟨3, ![8, 2064, 8]⟩
abbrev S8x8x2064 : Shape := ⟨3, ![8, 8, 2064]⟩
abbrev S8x8x2048 : Shape := ⟨3, ![8, 8, 2048]⟩
abbrev S8x8x4x512 : Shape := ⟨4, ![8, 8, 4, 512]⟩
abbrev S8x8x16 : Shape := ⟨3, ![8, 8, 16]⟩
abbrev S8x8x1x16 : Shape := ⟨4, ![8, 8, 1, 16]⟩
abbrev S1x2064x512 : Shape := ⟨3, ![1, 2064, 512]⟩
abbrev S1x2064x1024 : Shape := ⟨3, ![1, 2064, 1024]⟩
abbrev S1x2x4x512 : Shape := ⟨4, ![1, 2, 4, 512]⟩
abbrev S1x2x1x16 : Shape := ⟨4, ![1, 2, 1, 16]⟩
abbrev S2x256x512 : Shape := ⟨3, ![2, 256, 512]⟩
abbrev S2x1x256 : Shape := ⟨3, ![2, 1, 256]⟩
abbrev S2x1x1 : Shape := ⟨3, ![2, 1, 1]⟩
abbrev S1x1x1x16 : Shape := ⟨4, ![1, 1, 1, 16]⟩
abbrev S1x16 : Shape := ⟨2, ![1, 16]⟩
abbrev S1x16x256 : Shape := ⟨3, ![1, 16, 256]⟩
abbrev S16x256 : Shape := ⟨2, ![16, 256]⟩
abbrev S1x16x512 : Shape := ⟨3, ![1, 16, 512]⟩
abbrev S16x512 : Shape := ⟨2, ![16, 512]⟩
abbrev S16x16 : Shape := ⟨2, ![16, 16]⟩
abbrev S16 : Shape := ⟨1, ![16]⟩
abbrev S16x1 : Shape := ⟨2, ![16, 1]⟩
abbrev S1x1x1 : Shape := ⟨3, ![1, 1, 1]⟩
abbrev S1x1 : Shape := ⟨2, ![1, 1]⟩
abbrev S1x256x512 : Shape := ⟨3, ![1, 256, 512]⟩
abbrev S256x512 : Shape := ⟨2, ![256, 512]⟩
abbrev S1x1x256 : Shape := ⟨3, ![1, 1, 256]⟩
abbrev S1x256 : Shape := ⟨2, ![1, 256]⟩
abbrev S1 : Shape := ⟨1, ![1]⟩
abbrev S256 : Shape := ⟨1, ![256]⟩
abbrev S1x1x1x512 : Shape := ⟨4, ![1, 1, 1, 512]⟩
abbrev S1x512 : Shape := ⟨2, ![1, 512]⟩
abbrev S1x512x256 : Shape := ⟨3, ![1, 512, 256]⟩
abbrev S512x256 : Shape := ⟨2, ![512, 256]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S8x2064x2048, .bf16⟩
  | .hbm, ⟨1, _⟩ => ⟨S8x2064x2048, .bf16⟩
  | .hbm, ⟨2, _⟩ => ⟨S8x2064x4096, .bf16⟩
  | .hbm, ⟨3, _⟩ => ⟨S8x2064x16, .f32⟩
  | .hbm, ⟨4, _⟩ => ⟨S8x2064x8, .f32⟩
  | .hbm, ⟨5, _⟩ => ⟨S8x8x2064, .f32⟩
  | .hbm, ⟨6, _⟩ => ⟨S8x8x2048, .f32⟩
  | .hbm, ⟨7, _⟩ => ⟨S8x8x4x512, .f32⟩
  | .hbm, ⟨8, _⟩ => ⟨S8x8x16, .f32⟩
  | .hbm, ⟨9, _⟩ => ⟨S8x8x1x16, .f32⟩
  | .hbm, ⟨10, _⟩ => ⟨S8x2064x8, .f32⟩
  | .hbm, ⟨11, _⟩ => ⟨S8x8x2064, .f32⟩
  | .hbm, ⟨12, _⟩ => ⟨S8x8x2048, .f32⟩
  | .hbm, ⟨13, _⟩ => ⟨S8x8x4x512, .f32⟩
  | .hbm, ⟨14, _⟩ => ⟨S8x8x16, .f32⟩
  | .hbm, ⟨15, _⟩ => ⟨S8x8x1x16, .f32⟩
  | .hbm, ⟨16, _⟩ => ⟨S8x2064x4096, .bf16⟩
  | .local _ .vmem, ⟨0, _⟩ => ⟨S1x2064x512, .bf16⟩
  | .local _ .vmem, ⟨1, _⟩ => ⟨S1x2064x512, .bf16⟩
  | .local _ .vmem, ⟨2, _⟩ => ⟨S1x2064x512, .bf16⟩
  | .local _ .vmem, ⟨3, _⟩ => ⟨S1x2064x512, .bf16⟩
  | .local _ .vmem, ⟨4, _⟩ => ⟨S1x2064x1024, .bf16⟩
  | .local _ .vmem, ⟨5, _⟩ => ⟨S1x2064x1024, .bf16⟩
  | .local _ .vmem, ⟨6, _⟩ => ⟨S1x2x4x512, .f32⟩
  | .local _ .vmem, ⟨7, _⟩ => ⟨S1x2x4x512, .f32⟩
  | .local _ .vmem, ⟨8, _⟩ => ⟨S1x2x4x512, .f32⟩
  | .local _ .vmem, ⟨9, _⟩ => ⟨S1x2x4x512, .f32⟩
  | .local _ .vmem, ⟨10, _⟩ => ⟨S1x2x1x16, .f32⟩
  | .local _ .vmem, ⟨11, _⟩ => ⟨S1x2x1x16, .f32⟩
  | .local _ .vmem, ⟨12, _⟩ => ⟨S1x2x1x16, .f32⟩
  | .local _ .vmem, ⟨13, _⟩ => ⟨S1x2x1x16, .f32⟩
  | .local _ .vmem, ⟨14, _⟩ => ⟨S1x2064x1024, .bf16⟩
  | .local _ .vmem, ⟨15, _⟩ => ⟨S1x2064x1024, .bf16⟩
  | .local _ .vmem, ⟨16, _⟩ => ⟨S2x256x512, .f32⟩
  | .local _ .vmem, ⟨17, _⟩ => ⟨S2x1x256, .f32⟩
  | .local _ .vmem, ⟨18, _⟩ => ⟨S2x1x1, .f32⟩
  | _, _ => ⟨S8x2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2064x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x2064x2048 : Shape := ⟨3, ![8, 2064, 2048]⟩
abbrev S8x2064x4096 : Shape := ⟨3, ![8, 2064, 4096]⟩
abbrev S8x2064x16 : Shape := ⟨3, ![8, 2064, 16]⟩
abbrev S8x2064x8x256 : Shape := ⟨4, ![8, 2064, 8, 256]⟩
abbrev S8x8x2064x256 : Shape := ⟨4, ![8, 8, 2064, 256]⟩
abbrev S_ : Shape := ⟨0, ![]⟩
abbrev S8x2064x8x512 : Shape := ⟨4, ![8, 2064, 8, 512]⟩
abbrev S8x8x2064x512 : Shape := ⟨4, ![8, 8, 2064, 512]⟩
abbrev S8x2064x8 : Shape := ⟨3, ![8, 2064, 8]⟩
abbrev S8x8x2064 : Shape := ⟨3, ![8, 8, 2064]⟩
abbrev S8x8x256x512 : Shape := ⟨4, ![8, 8, 256, 512]⟩
abbrev S8x8x256 : Shape := ⟨3, ![8, 8, 256]⟩
abbrev S8x8 : Shape := ⟨2, ![8, 8]⟩
abbrev S8x8x16x256 : Shape := ⟨4, ![8, 8, 16, 256]⟩
abbrev S8x8x16x512 : Shape := ⟨4, ![8, 8, 16, 512]⟩
abbrev S8x8x16 : Shape := ⟨3, ![8, 8, 16]⟩
abbrev S16x16 : Shape := ⟨2, ![16, 16]⟩
abbrev S8x8x16x1 : Shape := ⟨4, ![8, 8, 16, 1]⟩
abbrev S8x8x1x16 : Shape := ⟨4, ![8, 8, 1, 16]⟩
abbrev S8x8x16x16 : Shape := ⟨4, ![8, 8, 16, 16]⟩
abbrev S8x8x1 : Shape := ⟨3, ![8, 8, 1]⟩
abbrev S8x8x1x1 : Shape := ⟨4, ![8, 8, 1, 1]⟩
abbrev S8x8x2048x256 : Shape := ⟨4, ![8, 8, 2048, 256]⟩
abbrev S8x8x32x64x256 : Shape := ⟨5, ![8, 8, 32, 64, 256]⟩
abbrev S32x8x8x64x256 : Shape := ⟨5, ![32, 8, 8, 64, 256]⟩
abbrev S8x8x2048x512 : Shape := ⟨4, ![8, 8, 2048, 512]⟩
abbrev S8x8x32x64x512 : Shape := ⟨5, ![8, 8, 32, 64, 512]⟩
abbrev S32x8x8x64x512 : Shape := ⟨5, ![32, 8, 8, 64, 512]⟩
abbrev S8x8x2048 : Shape := ⟨3, ![8, 8, 2048]⟩
abbrev S8x8x32x64 : Shape := ⟨4, ![8, 8, 32, 64]⟩
abbrev S32x8x8x64 : Shape := ⟨4, ![32, 8, 8, 64]⟩
abbrev S1x8x8x64x256 : Shape := ⟨5, ![1, 8, 8, 64, 256]⟩
abbrev S8x8x64x256 : Shape := ⟨4, ![8, 8, 64, 256]⟩
abbrev S1x8x8x64x512 : Shape := ⟨5, ![1, 8, 8, 64, 512]⟩
abbrev S8x8x64x512 : Shape := ⟨4, ![8, 8, 64, 512]⟩
abbrev S1x8x8x64 : Shape := ⟨4, ![1, 8, 8, 64]⟩
abbrev S8x8x64 : Shape := ⟨3, ![8, 8, 64]⟩
abbrev S64x64 : Shape := ⟨2, ![64, 64]⟩
abbrev S8x8x64x1 : Shape := ⟨4, ![8, 8, 64, 1]⟩
abbrev S8x8x1x64 : Shape := ⟨4, ![8, 8, 1, 64]⟩
abbrev S8x8x64x64 : Shape := ⟨4, ![8, 8, 64, 64]⟩

abbrev nBuf : Space → Nat
  | .hbm => 297
  | .vmem => 0
  | .smem => 0
  | _ => 0

abbrev hbmTy0_0 (i : Nat) : BufTy := match i % 128 with
  | 0 => ⟨S8x2064x2048, .bf16⟩
  | 1 => ⟨S8x2064x2048, .bf16⟩
  | 2 => ⟨S8x2064x4096, .bf16⟩
  | 3 => ⟨S8x2064x16, .f32⟩
  | 4 => ⟨S8x2064x2048, .f32⟩
  | 5 => ⟨S8x2064x8x256, .f32⟩
  | 6 => ⟨S8x8x2064x256, .f32⟩
  | 7 => ⟨S_, .f32⟩
  | 8 => ⟨S8x8x2064x256, .f32⟩
  | 9 => ⟨S8x8x2064x256, .f32⟩
  | 10 => ⟨S8x2064x2048, .f32⟩
  | 11 => ⟨S8x2064x8x256, .f32⟩
  | 12 => ⟨S8x8x2064x256, .f32⟩
  | 13 => ⟨S8x2064x4096, .f32⟩
  | 14 => ⟨S8x2064x8x512, .f32⟩
  | 15 => ⟨S8x8x2064x512, .f32⟩
  | 16 => ⟨S8x2064x8, .f32⟩
  | 17 => ⟨S8x8x2064, .f32⟩
  | 18 => ⟨S8x2064x8, .f32⟩
  | 19 => ⟨S8x2064x8, .f32⟩
  | 20 => ⟨S_, .f32⟩
  | 21 => ⟨S8x2064x8, .f32⟩
  | 22 => ⟨S8x2064x8, .f32⟩
  | 23 => ⟨S8x2064x8, .f32⟩
  | 24 => ⟨S8x2064x8, .f32⟩
  | 25 => ⟨S8x2064x8, .i1⟩
  | 26 => ⟨S8x2064x8, .f32⟩
  | 27 => ⟨S8x2064x8, .f32⟩
  | 28 => ⟨S8x2064x8, .f32⟩
  | 29 => ⟨S8x2064x8, .f32⟩
  | 30 => ⟨S8x2064x8, .f32⟩
  | 31 => ⟨S8x2064x8, .f32⟩
  | 32 => ⟨S8x2064x8, .f32⟩
  | 33 => ⟨S8x2064x8, .f32⟩
  | 34 => ⟨S8x2064x8, .f32⟩
  | 35 => ⟨S8x8x2064, .f32⟩
  | 36 => ⟨S_, .f32⟩
  | 37 => ⟨S8x8x256x512, .f32⟩
  | 38 => ⟨S_, .f32⟩
  | 39 => ⟨S8x8x256, .f32⟩
  | 40 => ⟨S_, .f32⟩
  | 41 => ⟨S8x8, .f32⟩
  | 42 => ⟨S8x8x16x256, .f32⟩
  | 43 => ⟨S8x8x16x256, .f32⟩
  | 44 => ⟨S8x8x16x512, .f32⟩
  | 45 => ⟨S8x8x16, .f32⟩
  | 46 => ⟨S8x8x16, .f32⟩
  | 47 => ⟨S_, .f32⟩
  | 48 => ⟨S_, .f32⟩
  | 49 => ⟨S8x8x16, .f32⟩
  | 50 => ⟨S_, .i1⟩
  | 51 => ⟨S16x16, .i1⟩
  | 52 => ⟨S16x16, .i32⟩
  | 53 => ⟨S_, .i32⟩
  | 54 => ⟨S16x16, .i32⟩
  | 55 => ⟨S16x16, .i32⟩
  | 56 => ⟨S16x16, .i32⟩
  | 57 => ⟨S16x16, .i1⟩
  | 58 => ⟨S_, .i1⟩
  | 59 => ⟨S16x16, .i1⟩
  | 60 => ⟨S16x16, .i1⟩
  | 61 => ⟨S8x8x16x1, .f32⟩
  | 62 => ⟨S8x8x1x16, .f32⟩
  | 63 => ⟨S8x8x16x16, .f32⟩
  | 64 => ⟨S8x8x16x16, .f32⟩
  | 65 => ⟨S8x8x16x16, .f32⟩
  | 66 => ⟨S8x8x1x16, .f32⟩
  | 67 => ⟨S8x8x16x16, .f32⟩
  | 68 => ⟨S8x8x16x16, .f32⟩
  | 69 => ⟨S_, .f32⟩
  | 70 => ⟨S_, .f32⟩
  | 71 => ⟨S8x8x16x16, .i1⟩
  | 72 => ⟨S8x8x16x16, .f32⟩
  | 73 => ⟨S8x8x16x16, .f32⟩
  | 74 => ⟨S8x8x1, .f32⟩
  | 75 => ⟨S8x8x16, .f32⟩
  | 76 => ⟨S8x8x16, .f32⟩
  | 77 => ⟨S_, .f32⟩
  | 78 => ⟨S8x8x16, .f32⟩
  | 79 => ⟨S8x8x16, .f32⟩
  | 80 => ⟨S8x8x16, .f32⟩
  | 81 => ⟨S8x8x16, .f32⟩
  | 82 => ⟨S8x8x16x1, .f32⟩
  | 83 => ⟨S8x8x16x16, .f32⟩
  | 84 => ⟨S8x8x16x16, .f32⟩
  | 85 => ⟨S8x8x16x16, .f32⟩
  | 86 => ⟨S8x8x16x16, .f32⟩
  | 87 => ⟨S8x8x16x16, .f32⟩
  | 88 => ⟨S8x8x16x1, .f32⟩
  | 89 => ⟨S8x8x16x512, .f32⟩
  | 90 => ⟨S8x8x16x512, .f32⟩
  | 91 => ⟨S8x8x16x512, .f32⟩
  | 92 => ⟨S8x8x16x512, .f32⟩
  | 93 => ⟨S8x8x16x512, .f32⟩
  | 94 => ⟨S8x8x16, .f32⟩
  | 95 => ⟨S8x8x16, .f32⟩
  | 96 => ⟨S_, .f32⟩
  | 97 => ⟨S8x8x16, .f32⟩
  | 98 => ⟨S8x8x16, .f32⟩
  | 99 => ⟨S8x8x16, .f32⟩
  | 100 => ⟨S8x8x16, .f32⟩
  | 101 => ⟨S8x8x16, .f32⟩
  | 102 => ⟨S8x8x16, .f32⟩
  | 103 => ⟨S8x8x16x1, .f32⟩
  | 104 => ⟨S8x8x16x512, .f32⟩
  | 105 => ⟨S8x8x16x512, .f32⟩
  | 106 => ⟨S8x8x1, .f32⟩
  | 107 => ⟨S8x8, .f32⟩
  | 108 => ⟨S8x8x1, .f32⟩
  | 109 => ⟨S8x8x16, .f32⟩
  | 110 => ⟨S8x8x16, .f32⟩
  | 111 => ⟨S8x8x16, .f32⟩
  | 112 => ⟨S8x8, .f32⟩
  | 113 => ⟨S_, .f32⟩
  | 114 => ⟨S8x8, .f32⟩
  | 115 => ⟨S8x8, .f32⟩
  | 116 => ⟨S8x8, .f32⟩
  | 117 => ⟨S8x8, .f32⟩
  | 118 => ⟨S8x8, .f32⟩
  | 119 => ⟨S8x8x1, .f32⟩
  | 120 => ⟨S8x8x16, .f32⟩
  | 121 => ⟨S8x8x16, .f32⟩
  | 122 => ⟨S8x8x16, .f32⟩
  | 123 => ⟨S8x8x1x1, .f32⟩
  | 124 => ⟨S8x8x256x512, .f32⟩
  | 125 => ⟨S8x8x256x512, .f32⟩
  | 126 => ⟨S8x8x16x1, .f32⟩
  | 127 => ⟨S8x8x16x256, .f32⟩
  | _ => ⟨S8x2064x2048, .bf16⟩

abbrev hbmTy0_1 (i : Nat) : BufTy := match i % 128 with
  | 0 => ⟨S8x8x16x256, .f32⟩
  | 1 => ⟨S8x8x256x512, .f32⟩
  | 2 => ⟨S8x8x256x512, .f32⟩
  | 3 => ⟨S8x8x1, .f32⟩
  | 4 => ⟨S8x8x256, .f32⟩
  | 5 => ⟨S8x8x256, .f32⟩
  | 6 => ⟨S8x8x256, .f32⟩
  | 7 => ⟨S8x8x256, .f32⟩
  | 8 => ⟨S8x8x2048x256, .f32⟩
  | 9 => ⟨S8x8x32x64x256, .f32⟩
  | 10 => ⟨S32x8x8x64x256, .f32⟩
  | 11 => ⟨S8x8x2048x256, .f32⟩
  | 12 => ⟨S8x8x32x64x256, .f32⟩
  | 13 => ⟨S32x8x8x64x256, .f32⟩
  | 14 => ⟨S8x8x2048x512, .f32⟩
  | 15 => ⟨S8x8x32x64x512, .f32⟩
  | 16 => ⟨S32x8x8x64x512, .f32⟩
  | 17 => ⟨S8x8x2048, .f32⟩
  | 18 => ⟨S8x8x32x64, .f32⟩
  | 19 => ⟨S32x8x8x64, .f32⟩
  | 20 => ⟨S8x8x2048, .f32⟩
  | 21 => ⟨S8x8x32x64, .f32⟩
  | 22 => ⟨S32x8x8x64, .f32⟩
  | 23 => ⟨S_, .f32⟩
  | 24 => ⟨S32x8x8x64x512, .f32⟩
  | 25 => ⟨S_, .i32⟩
  | 26 => ⟨S32x8x8x64x256, .f32⟩
  | 27 => ⟨S32x8x8x64x256, .f32⟩
  | 28 => ⟨S32x8x8x64x512, .f32⟩
  | 29 => ⟨S32x8x8x64, .f32⟩
  | 30 => ⟨S32x8x8x64, .f32⟩
  | 31 => ⟨S_, .i32⟩
  | 32 => ⟨S8x8x256x512, .f32⟩
  | 33 => ⟨S8x8x256, .f32⟩
  | 34 => ⟨S8x8, .f32⟩
  | 35 => ⟨S32x8x8x64x512, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x8x8x64x256, .f32⟩
  | 43 => ⟨S8x8x64x256, .f32⟩
  | 44 => ⟨S_, .i32⟩
  | 45 => ⟨S_, .i32⟩
  | 46 => ⟨S_, .i32⟩
  | 47 => ⟨S_, .i32⟩
  | 48 => ⟨S1x8x8x64x256, .f32⟩
  | 49 => ⟨S8x8x64x256, .f32⟩
  | 50 => ⟨S_, .i32⟩
  | 51 => ⟨S_, .i32⟩
  | 52 => ⟨S_, .i32⟩
  | 53 => ⟨S_, .i32⟩
  | 54 => ⟨S1x8x8x64x512, .f32⟩
  | 55 => ⟨S8x8x64x512, .f32⟩
  | 56 => ⟨S_, .i32⟩
  | 57 => ⟨S_, .i32⟩
  | 58 => ⟨S_, .i32⟩
  | 59 => ⟨S1x8x8x64, .f32⟩
  | 60 => ⟨S8x8x64, .f32⟩
  | 61 => ⟨S_, .i32⟩
  | 62 => ⟨S_, .i32⟩
  | 63 => ⟨S_, .i32⟩
  | 64 => ⟨S1x8x8x64, .f32⟩
  | 65 => ⟨S8x8x64, .f32⟩
  | 66 => ⟨S_, .f32⟩
  | 67 => ⟨S_, .f32⟩
  | 68 => ⟨S8x8x64, .f32⟩
  | 69 => ⟨S_, .i1⟩
  | 70 => ⟨S64x64, .i1⟩
  | 71 => ⟨S64x64, .i32⟩
  | 72 => ⟨S_, .i32⟩
  | 73 => ⟨S64x64, .i32⟩
  | 74 => ⟨S64x64, .i32⟩
  | 75 => ⟨S64x64, .i32⟩
  | 76 => ⟨S64x64, .i1⟩
  | 77 => ⟨S_, .i1⟩
  | 78 => ⟨S64x64, .i1⟩
  | 79 => ⟨S64x64, .i1⟩
  | 80 => ⟨S8x8x64x1, .f32⟩
  | 81 => ⟨S8x8x1x64, .f32⟩
  | 82 => ⟨S8x8x64x64, .f32⟩
  | 83 => ⟨S8x8x64x64, .f32⟩
  | 84 => ⟨S8x8x64x64, .f32⟩
  | 85 => ⟨S8x8x1x64, .f32⟩
  | 86 => ⟨S8x8x64x64, .f32⟩
  | 87 => ⟨S8x8x64x64, .f32⟩
  | 88 => ⟨S_, .f32⟩
  | 89 => ⟨S_, .f32⟩
  | 90 => ⟨S8x8x64x64, .i1⟩
  | 91 => ⟨S8x8x64x64, .f32⟩
  | 92 => ⟨S8x8x64x64, .f32⟩
  | 93 => ⟨S8x8x1, .f32⟩
  | 94 => ⟨S8x8x64, .f32⟩
  | 95 => ⟨S8x8x64, .f32⟩
  | 96 => ⟨S_, .f32⟩
  | 97 => ⟨S8x8x64, .f32⟩
  | 98 => ⟨S8x8x64, .f32⟩
  | 99 => ⟨S8x8x64, .f32⟩
  | 100 => ⟨S8x8x64, .f32⟩
  | 101 => ⟨S8x8x64x1, .f32⟩
  | 102 => ⟨S8x8x64x64, .f32⟩
  | 103 => ⟨S8x8x64x64, .f32⟩
  | 104 => ⟨S8x8x64x64, .f32⟩
  | 105 => ⟨S8x8x64x64, .f32⟩
  | 106 => ⟨S8x8x64x64, .f32⟩
  | 107 => ⟨S8x8x64x1, .f32⟩
  | 108 => ⟨S8x8x64x512, .f32⟩
  | 109 => ⟨S8x8x64x512, .f32⟩
  | 110 => ⟨S8x8x64x512, .f32⟩
  | 111 => ⟨S8x8x64x512, .f32⟩
  | 112 => ⟨S8x8x64x512, .f32⟩
  | 113 => ⟨S8x8x64, .f32⟩
  | 114 => ⟨S8x8x64, .f32⟩
  | 115 => ⟨S_, .f32⟩
  | 116 => ⟨S8x8x64, .f32⟩
  | 117 => ⟨S8x8x64, .f32⟩
  | 118 => ⟨S8x8x64, .f32⟩
  | 119 => ⟨S8x8x64, .f32⟩
  | 120 => ⟨S8x8x64, .f32⟩
  | 121 => ⟨S8x8x64, .f32⟩
  | 122 => ⟨S8x8x64x1, .f32⟩
  | 123 => ⟨S8x8x64x512, .f32⟩
  | 124 => ⟨S8x8x64x512, .f32⟩
  | 125 => ⟨S8x8x1, .f32⟩
  | 126 => ⟨S8x8, .f32⟩
  | 127 => ⟨S8x8x1, .f32⟩
  | _ => ⟨S8x2064x2048, .bf16⟩

abbrev hbmTy0_2 (i : Nat) : BufTy := match i % 128 with
  | 0 => ⟨S8x8x64, .f32⟩
  | 1 => ⟨S8x8x64, .f32⟩
  | 2 => ⟨S8x8x64, .f32⟩
  | 3 => ⟨S8x8, .f32⟩
  | 4 => ⟨S_, .f32⟩
  | 5 => ⟨S8x8, .f32⟩
  | 6 => ⟨S8x8, .f32⟩
  | 7 => ⟨S8x8, .f32⟩
  | 8 => ⟨S8x8, .f32⟩
  | 9 => ⟨S8x8, .f32⟩
  | 10 => ⟨S8x8x1, .f32⟩
  | 11 => ⟨S8x8x64, .f32⟩
  | 12 => ⟨S8x8x64, .f32⟩
  | 13 => ⟨S8x8x64, .f32⟩
  | 14 => ⟨S8x8x1x1, .f32⟩
  | 15 => ⟨S8x8x256x512, .f32⟩
  | 16 => ⟨S8x8x256x512, .f32⟩
  | 17 => ⟨S8x8x64x1, .f32⟩
  | 18 => ⟨S8x8x64x256, .f32⟩
  | 19 => ⟨S8x8x64x256, .f32⟩
  | 20 => ⟨S8x8x256x512, .f32⟩
  | 21 => ⟨S8x8x256x512, .f32⟩
  | 22 => ⟨S8x8x1, .f32⟩
  | 23 => ⟨S8x8x256, .f32⟩
  | 24 => ⟨S8x8x256, .f32⟩
  | 25 => ⟨S8x8x256, .f32⟩
  | 26 => ⟨S8x8x256, .f32⟩
  | 27 => ⟨S1x8x8x64x512, .f32⟩
  | 28 => ⟨S_, .i32⟩
  | 29 => ⟨S_, .i32⟩
  | 30 => ⟨S_, .i32⟩
  | 31 => ⟨S_, .i32⟩
  | 32 => ⟨S32x8x8x64x512, .f32⟩
  | 33 => ⟨S_, .i32⟩
  | 34 => ⟨S_, .i32⟩
  | 35 => ⟨S8x8x32x64x512, .f32⟩
  | 36 => ⟨S8x8x2048x512, .f32⟩
  | 37 => ⟨S8x8x2064x512, .f32⟩
  | 38 => ⟨S8x2064x8x512, .f32⟩
  | 39 => ⟨S8x2064x4096, .f32⟩
  | 40 => ⟨S8x2064x4096, .bf16⟩
  | _ => ⟨S8x2064x2048, .bf16⟩

abbrev hbmTy (i : Nat) : BufTy := match i / 128 with
  | 0 => hbmTy0_0 i
  | 1 => hbmTy0_1 i
  | 2 => hbmTy0_2 i
  | _ => ⟨S8x2064x2048, .bf16⟩

abbrev bufTy : (tb : Table) → Fin (tcTables nBuf tb) → BufTy
  | .hbm, ⟨i, _⟩ => hbmTy i
  | _, _ => ⟨S8x2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_call0_cst : Ref sig .tc := ⟨.hbm, 47, rfl⟩
abbrev main_call1_call0_v0 : Ref sig .tc := ⟨.hbm, 48, rfl⟩
abbrev main_v24 : Ref sig .tc := ⟨.hbm, 49, rfl⟩
abbrev main_c : Ref sig .tc := ⟨.hbm, 50, rfl⟩
abbrev main_v25 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_3 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_4 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_6 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_7 : Ref sig .tc := ⟨.hbm, 151, rfl⟩
abbrev main_v110 : Ref sig .tc := ⟨.hbm, 152, rfl⟩
abbrev main_c_8 : Ref sig .tc := ⟨.hbm, 153, rfl⟩
abbrev main_v111_0 : Ref sig .tc := ⟨.hbm, 154, rfl⟩
abbrev main_v111_1 : Ref sig .tc := ⟨.hbm, 155, rfl⟩
abbrev main_v111_2 : Ref sig .tc := ⟨.hbm, 156, rfl⟩
abbrev main_v111_3 : Ref sig .tc := ⟨.hbm, 157, rfl⟩
abbrev main_v111_4 : Ref sig .tc := ⟨.hbm, 158, rfl⟩
abbrev main_v111_5 : Ref sig .tc := ⟨.hbm, 159, rfl⟩
abbrev main_v111_6 : Ref sig .tc := ⟨.hbm, 160, rfl⟩
abbrev main_v111_7 : Ref sig .tc := ⟨.hbm, 161, rfl⟩
abbrev main_v111_8 : Ref sig .tc := ⟨.hbm, 162, rfl⟩
abbrev main_v111_9 : Ref sig .tc := ⟨.hbm, 163, rfl⟩
abbrev main_while0c_c_18 : Ref sig .tc := ⟨.hbm, 164, rfl⟩
abbrev main_while0c_v118 : Ref sig .tc := ⟨.hbm, 165, rfl⟩
abbrev main_while0b_call4_c : Ref sig .tc := ⟨.hbm, 166, rfl⟩
abbrev main_while0b_call4_c_0 : Ref sig .tc := ⟨.hbm, 167, rfl⟩
abbrev main_while0b_call4_c_1 : Ref sig .tc := ⟨.hbm, 168, rfl⟩
abbrev main_while0b_call4_c_2 : Ref sig .tc := ⟨.hbm, 169, rfl⟩
abbrev main_while0b_call4_v0 : Ref sig .tc := ⟨.hbm, 170, rfl⟩
abbrev main_while0b_v118 : Ref sig .tc := ⟨.hbm, 171, rfl⟩
abbrev main_while0b_call5_c : Ref sig .tc := ⟨.hbm, 172, rfl⟩
abbrev main_while0b_call5_c_0 : Ref sig .tc := ⟨.hbm, 173, rfl⟩
abbrev main_while0b_call5_c_1 : Ref sig .tc := ⟨.hbm, 174, rfl⟩
abbrev main_while0b_call5_c_2 : Ref sig .tc := ⟨.hbm, 175, rfl⟩
abbrev main_while0b_call5_v0 : Ref sig .tc := ⟨.hbm, 176, rfl⟩
abbrev main_while0b_v119 : Ref sig .tc := ⟨.hbm, 177, rfl⟩
abbrev main_while0b_call6_c : Ref sig .tc := ⟨.hbm, 178, rfl⟩
abbrev main_while0b_call6_c_0 : Ref sig .tc := ⟨.hbm, 179, rfl⟩
abbrev main_while0b_call6_c_1 : Ref sig .tc := ⟨.hbm, 180, rfl⟩
abbrev main_while0b_call6_c_2 : Ref sig .tc := ⟨.hbm, 181, rfl⟩
abbrev main_while0b_call6_v0 : Ref sig .tc := ⟨.hbm, 182, rfl⟩
abbrev main_while0b_v120 : Ref sig .tc := ⟨.hbm, 183, rfl⟩
abbrev main_while0b_call7_c : Ref sig .tc := ⟨.hbm, 184, rfl⟩
abbrev main_while0b_call7_c_0 : Ref sig .tc := ⟨.hbm, 185, rfl⟩
abbrev main_while0b_call7_c_1 : Ref sig .tc := ⟨.hbm, 186, rfl⟩
abbrev main_while0b_call7_v0 : Ref sig .tc := ⟨.hbm, 187, rfl⟩
abbrev main_while0b_v121 : Ref sig .tc := ⟨.hbm, 188, rfl⟩
abbrev main_while0b_call8_c : Ref sig .tc := ⟨.hbm, 189, rfl⟩
abbrev main_while0b_call8_c_0 : Ref sig .tc := ⟨.hbm, 190, rfl⟩
abbrev main_while0b_call8_c_1 : Ref sig .tc := ⟨.hbm, 191, rfl⟩
abbrev main_while0b_call8_v0 : Ref sig .tc := ⟨.hbm, 192, rfl⟩
abbrev main_while0b_v122 : Ref sig .tc := ⟨.hbm, 193, rfl⟩
abbrev main_while0b_call9_call0_cst : Ref sig .tc := ⟨.hbm, 194, rfl⟩
abbrev main_while0b_call9_call0_v0 : Ref sig .tc := ⟨.hbm, 195, rfl⟩
abbrev main_while0b_v123 : Ref sig .tc := ⟨.hbm, 196, rfl⟩
abbrev main_while0b_c_18 : Ref sig .tc := ⟨.hbm, 197, rfl⟩
abbrev main_while0b_v124 : Ref sig .tc := ⟨.hbm, 198, rfl⟩
abbrev main_while0b_call10_v0 : Ref sig .tc := ⟨.hbm, 199, rfl⟩
abbrev main_while0b_call10_c : Ref sig .tc := ⟨.hbm, 200, rfl⟩
abbrev main_while0b_call10_v1 : Ref sig .tc := ⟨.hbm, 201, rfl⟩
abbrev main_while0b_call10_v2 : Ref sig .tc := ⟨.hbm, 202, rfl⟩
abbrev main_while0b_call10_v3 : Ref sig .tc := ⟨.hbm, 203, rfl⟩
abbrev main_while0b_call10_v4 : Ref sig .tc := ⟨.hbm, 204, rfl⟩
abbrev main_while0b_call10_c_0 : Ref sig .tc := ⟨.hbm, 205, rfl⟩
abbrev main_while0b_call10_v5 : Ref sig .tc := ⟨.hbm, 206, rfl⟩
abbrev main_while0b_v125 : Ref sig .tc := ⟨.hbm, 207, rfl⟩
abbrev main_while0b_v126 : Ref sig .tc := ⟨.hbm, 208, rfl⟩
abbrev main_while0b_v127 : Ref sig .tc := ⟨.hbm, 209, rfl⟩
abbrev main_while0b_v128 : Ref sig .tc := ⟨.hbm, 210, rfl⟩
abbrev main_while0b_v129 : Ref sig .tc := ⟨.hbm, 211, rfl⟩
abbrev main_while0b_v130 : Ref sig .tc := ⟨.hbm, 212, rfl⟩
abbrev main_while0b_v131 : Ref sig .tc := ⟨.hbm, 213, rfl⟩
abbrev main_while0b_v132 : Ref sig .tc := ⟨.hbm, 214, rfl⟩
abbrev main_while0b_v133 : Ref sig .tc := ⟨.hbm, 215, rfl⟩
abbrev main_while0b_cst_19 : Ref sig .tc := ⟨.hbm, 216, rfl⟩
abbrev main_while0b_call11_v0 : Ref sig .tc := ⟨.hbm, 217, rfl⟩
abbrev main_while0b_call11_v1 : Ref sig .tc := ⟨.hbm, 218, rfl⟩
abbrev main_while0b_call11_v2 : Ref sig .tc := ⟨.hbm, 219, rfl⟩
abbrev main_while0b_v134 : Ref sig .tc := ⟨.hbm, 220, rfl⟩
abbrev main_while0b_v135 : Ref sig .tc := ⟨.hbm, 221, rfl⟩
abbrev main_while0b_v136 : Ref sig .tc := ⟨.hbm, 222, rfl⟩
abbrev main_while0b_v137 : Ref sig .tc := ⟨.hbm, 223, rfl⟩
abbrev main_while0b_cst_20 : Ref sig .tc := ⟨.hbm, 224, rfl⟩
abbrev main_while0b_v138 : Ref sig .tc := ⟨.hbm, 225, rfl⟩
abbrev main_while0b_v139 : Ref sig .tc := ⟨.hbm, 226, rfl⟩
abbrev main_while0b_v140 : Ref sig .tc := ⟨.hbm, 227, rfl⟩
abbrev main_while0b_v141 : Ref sig .tc := ⟨.hbm, 228, rfl⟩
abbrev main_while0b_v142 : Ref sig .tc := ⟨.hbm, 229, rfl⟩
abbrev main_while0b_v143 : Ref sig .tc := ⟨.hbm, 230, rfl⟩
abbrev main_while0b_v144 : Ref sig .tc := ⟨.hbm, 231, rfl⟩
abbrev main_while0b_v145 : Ref sig .tc := ⟨.hbm, 232, rfl⟩
abbrev main_while0b_v146 : Ref sig .tc := ⟨.hbm, 233, rfl⟩
abbrev main_while0b_v147 : Ref sig .tc := ⟨.hbm, 234, rfl⟩
abbrev main_while0b_v148 : Ref sig .tc := ⟨.hbm, 235, rfl⟩
abbrev main_while0b_v149 : Ref sig .tc := ⟨.hbm, 236, rfl⟩
abbrev main_while0b_v150 : Ref sig .tc := ⟨.hbm, 237, rfl⟩
abbrev main_while0b_v151 : Ref sig .tc := ⟨.hbm, 238, rfl⟩
abbrev main_while0b_v152 : Ref sig .tc := ⟨.hbm, 239, rfl⟩
abbrev main_while0b_v153 : Ref sig .tc := ⟨.hbm, 240, rfl⟩
abbrev main_while0b_v154 : Ref sig .tc := ⟨.hbm, 241, rfl⟩
abbrev main_while0b_v155 : Ref sig .tc := ⟨.hbm, 242, rfl⟩
abbrev main_while0b_cst_21 : Ref sig .tc := ⟨.hbm, 243, rfl⟩
abbrev main_while0b_v156 : Ref sig .tc := ⟨.hbm, 244, rfl⟩
abbrev main_while0b_v157 : Ref sig .tc := ⟨.hbm, 245, rfl⟩
abbrev main_while0b_v158 : Ref sig .tc := ⟨.hbm, 246, rfl⟩
abbrev main_while0b_v159 : Ref sig .tc := ⟨.hbm, 247, rfl⟩
abbrev main_while0b_v160 : Ref sig .tc := ⟨.hbm, 248, rfl⟩
abbrev main_while0b_v161 : Ref sig .tc := ⟨.hbm, 249, rfl⟩
abbrev main_while0b_v162 : Ref sig .tc := ⟨.hbm, 250, rfl⟩
abbrev main_while0b_v163 : Ref sig .tc := ⟨.hbm, 251, rfl⟩
abbrev main_while0b_v164 : Ref sig .tc := ⟨.hbm, 252, rfl⟩
abbrev main_while0b_v165 : Ref sig .tc := ⟨.hbm, 253, rfl⟩
abbrev main_while0b_v166 : Ref sig .tc := ⟨.hbm, 254, rfl⟩
abbrev main_while0b_v167 : Ref sig .tc := ⟨.hbm, 255, rfl⟩
abbrev main_while0b_v168 : Ref sig .tc := ⟨.hbm, 256, rfl⟩
abbrev main_while0b_v169 : Ref sig .tc := ⟨.hbm, 257, rfl⟩
abbrev main_while0b_v170 : Ref sig .tc := ⟨.hbm, 258, rfl⟩
abbrev main_while0b_v171 : Ref sig .tc := ⟨.hbm, 259, rfl⟩
abbrev main_while0b_cst_22 : Ref sig .tc := ⟨.hbm, 260, rfl⟩
abbrev main_while0b_v172 : Ref sig .tc := ⟨.hbm, 261, rfl⟩
abbrev main_while0b_v173 : Ref sig .tc := ⟨.hbm, 262, rfl⟩
abbrev main_while0b_v174 : Ref sig .tc := ⟨.hbm, 263, rfl⟩
abbrev main_while0b_v175 : Ref sig .tc := ⟨.hbm, 264, rfl⟩
abbrev main_while0b_v176 : Ref sig .tc := ⟨.hbm, 265, rfl⟩
abbrev main_while0b_v177 : Ref sig .tc := ⟨.hbm, 266, rfl⟩
abbrev main_while0b_v178 : Ref sig .tc := ⟨.hbm, 267, rfl⟩
abbrev main_while0b_v179 : Ref sig .tc := ⟨.hbm, 268, rfl⟩
abbrev main_while0b_v180 : Ref sig .tc := ⟨.hbm, 269, rfl⟩
abbrev main_while0b_v181 : Ref sig .tc := ⟨.hbm, 270, rfl⟩
abbrev main_while0b_v182 : Ref sig .tc := ⟨.hbm, 271, rfl⟩
abbrev main_while0b_v183 : Ref sig .tc := ⟨.hbm, 272, rfl⟩
abbrev main_while0b_v184 : Ref sig .tc := ⟨.hbm, 273, rfl⟩
abbrev main_while0b_v185 : Ref sig .tc := ⟨.hbm, 274, rfl⟩
abbrev main_while0b_v186 : Ref sig .tc := ⟨.hbm, 275, rfl⟩
abbrev main_while0b_v187 : Ref sig .tc := ⟨.hbm, 276, rfl⟩
abbrev main_while0b_v188 : Ref sig .tc := ⟨.hbm, 277, rfl⟩
abbrev main_while0b_v189 : Ref sig .tc := ⟨.hbm, 278, rfl⟩
abbrev main_while0b_v190 : Ref sig .tc := ⟨.hbm, 279, rfl⟩
abbrev main_while0b_v191 : Ref sig .tc := ⟨.hbm, 280, rfl⟩
abbrev main_while0b_v192 : Ref sig .tc := ⟨.hbm, 281, rfl⟩
abbrev main_while0b_v193 : Ref sig .tc := ⟨.hbm, 282, rfl⟩
abbrev main_while0b_call12_v0 : Ref sig .tc := ⟨.hbm, 283, rfl⟩
abbrev main_while0b_call12_c : Ref sig .tc := ⟨.hbm, 284, rfl⟩
abbrev main_while0b_call12_c_0 : Ref sig .tc := ⟨.hbm, 285, rfl⟩
abbrev main_while0b_call12_c_1 : Ref sig .tc := ⟨.hbm, 286, rfl⟩
abbrev main_while0b_call12_c_2 : Ref sig .tc := ⟨.hbm, 287, rfl⟩
abbrev main_while0b_v194 : Ref sig .tc := ⟨.hbm, 288, rfl⟩
abbrev main_while0b_c_23 : Ref sig .tc := ⟨.hbm, 289, rfl⟩
abbrev main_while0b_v195 : Ref sig .tc := ⟨.hbm, 290, rfl⟩
abbrev main_v112 : Ref sig .tc := ⟨.hbm, 291, rfl⟩
abbrev main_v113 : Ref sig .tc := ⟨.hbm, 292, rfl⟩
abbrev main_v114 : Ref sig .tc := ⟨.hbm, 293, rfl⟩
abbrev main_v115 : Ref sig .tc := ⟨.hbm, 294, rfl⟩
abbrev main_v116 : Ref sig .tc := ⟨.hbm, 295, rfl⟩
abbrev main_v117 : Ref sig .tc := ⟨.hbm, 296, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2064x2048 : Shape := ⟨3, ![8, 2064, 2048]⟩
abbrev S2048x2048 : Shape := ⟨2, ![2048, 2048]⟩
abbrev S16512x2048 : Shape := ⟨2, ![16512, 2048]⟩
abbrev S2048 : Shape := ⟨1, ![2048]⟩
abbrev S1x2048 : Shape := ⟨2, ![1, 2048]⟩
abbrev S8x2048x2048 : Shape := ⟨3, ![8, 2048, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x2064x2048, .bf16⟩
  | .hbm, ⟨1, _⟩ => ⟨S2048x2048, .bf16⟩
  | .hbm, ⟨2, _⟩ => ⟨S16512x2048, .f32⟩
  | .hbm, ⟨3, _⟩ => ⟨S2048, .f32⟩
  | .hbm, ⟨4, _⟩ => ⟨S8x2064x2048, .f32⟩
  | .hbm, ⟨5, _⟩ => ⟨S1x2048, .f32⟩
  | .hbm, ⟨6, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x2048, .f32⟩
  | .local _ .vmem, ⟨6, _⟩ => ⟨S1x512x2048, .f32⟩
  | .local _ .vmem, ⟨7, _⟩ => ⟨S1x512x2048, .f32⟩
  | _, _ => ⟨S8x2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x2064x2048 : Shape := ⟨3, ![8, 2064, 2048]⟩
abbrev S2048x2048 : Shape := ⟨2, ![2048, 2048]⟩
abbrev S16512x2048 : Shape := ⟨2, ![16512, 2048]⟩
abbrev S2048 : Shape := ⟨1, ![2048]⟩
abbrev S_ : Shape := ⟨0, ![]⟩
abbrev S8x2064 : Shape := ⟨2, ![8, 2064]⟩
abbrev S8x2064x1 : Shape := ⟨3, ![8, 2064, 1]⟩
abbrev S1x1x2048 : Shape := ⟨3, ![1, 1, 2048]⟩
abbrev S8x2048x2048 : Shape := ⟨3, ![8, 2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2064x2048, .bf16⟩
  | .hbm, ⟨1, _⟩ => ⟨S2048x2048, .bf16⟩
  | .hbm, ⟨2, _⟩ => ⟨S16512x2048, .f32⟩
  | .hbm, ⟨3, _⟩ => ⟨S2048, .f32⟩
  | .hbm, ⟨4, _⟩ => ⟨S8x2064x2048, .f32⟩
  | .hbm, ⟨5, _⟩ => ⟨S8x2064x2048, .f32⟩
  | .hbm, ⟨6, _⟩ => ⟨S2048x2048, .f32⟩
  | .hbm, ⟨7, _⟩ => ⟨S8x2064x2048, .f32⟩
  | .hbm, ⟨8, _⟩ => ⟨S8x2064x2048, .f32⟩
  | .hbm, ⟨9, _⟩ => ⟨S8x2064x2048, .f32⟩
  | .hbm, ⟨10, _⟩ => ⟨S_, .f32⟩
  | .hbm, ⟨11, _⟩ => ⟨S8x2064, .f32⟩
  | .hbm, ⟨12, _⟩ => ⟨S8x2064x1, .f32⟩
  | .hbm, ⟨13, _⟩ => ⟨S_, .f32⟩
  | .hbm, ⟨14, _⟩ => ⟨S8x2064x1, .f32⟩
  | .hbm, ⟨15, _⟩ => ⟨S8x2064x1, .f32⟩
  | .hbm, ⟨16, _⟩ => ⟨S_, .f32⟩
  | .hbm, ⟨17, _⟩ => ⟨S8x2064x1, .f32⟩
  | .hbm, ⟨18, _⟩ => ⟨S8x2064x1, .f32⟩
  | .hbm, ⟨19, _⟩ => ⟨S8x2064x1, .f32⟩
  | .hbm, ⟨20, _⟩ => ⟨S8x2064x2048, .f32⟩
  | .hbm, ⟨21, _⟩ => ⟨S8x2064x2048, .f32⟩
  | .hbm, ⟨22, _⟩ => ⟨S1x1x2048, .f32⟩
  | .hbm, ⟨23, _⟩ => ⟨S8x2064x2048, .f32⟩
  | .hbm, ⟨24, _⟩ => ⟨S8x2064x2048, .f32⟩
  | .hbm, ⟨25, _⟩ => ⟨S8x2048x2048, .f32⟩
  | _, _ => ⟨S8x2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S16512x2048 : Shape := ⟨2, ![16512, 2048]⟩
abbrev S1x2048 : Shape := ⟨2, ![1, 2048]⟩
abbrev S8192x2048 : Shape := ⟨2, ![8192, 2048]⟩
abbrev S128x2048 : Shape := ⟨2, ![128, 2048]⟩
abbrev S2048 : Shape := ⟨1, ![2048]⟩
abbrev S16512x8192 : Shape := ⟨2, ![16512, 8192]⟩
abbrev S16512x128 : Shape := ⟨2, ![16512, 128]⟩
abbrev S1376x2048 : Shape := ⟨2, ![1376, 2048]⟩
abbrev S1024x2048 : Shape := ⟨2, ![1024, 2048]⟩
abbrev S1376x1024 : Shape := ⟨2, ![1376, 1024]⟩
abbrev S1376x128 : Shape := ⟨2, ![1376, 128]⟩
abbrev S1376 : Shape := ⟨1, ![1376]⟩
abbrev S1376x1 : Shape := ⟨2, ![1376, 1]⟩

abbrev nBuf : Space → Nat
  | .hbm => 8
  | .vmem => 11
  | .smem => 0
  | _ => 0

abbrev bufTy : (tb : Table) → Fin (tcTables nBuf tb) → BufTy
  | .hbm, ⟨0, _⟩ => ⟨S16512x2048, .f32⟩
  | .hbm, ⟨1, _⟩ => ⟨S1x2048, .f32⟩
  | .hbm, ⟨2, _⟩ => ⟨S8192x2048, .bf16⟩
  | .hbm, ⟨3, _⟩ => ⟨S128x2048, .bf16⟩
  | .hbm, ⟨4, _⟩ => ⟨S2048, .f32⟩
  | .hbm, ⟨5, _⟩ => ⟨S1x2048, .f32⟩
  | .hbm, ⟨6, _⟩ => ⟨S16512x8192, .bf16⟩
  | .hbm, ⟨7, _⟩ => ⟨S16512x128, .f32⟩
  | .local _ .vmem, ⟨0, _⟩ => ⟨S1376x2048, .f32⟩
  | .local _ .vmem, ⟨1, _⟩ => ⟨S1376x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S1376x1024, .bf16⟩
  | .local _ .vmem, ⟨7, _⟩ => ⟨S1376x1024, .bf16⟩
  | .local _ .vmem, ⟨8, _⟩ => ⟨S1376x128, .f32⟩
  | .local _ .vmem, ⟨9, _⟩ => ⟨S1376x128, .f32⟩
  | .local _ .vmem, ⟨10, _⟩ => ⟨S1376x2048, .bf16⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1376x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1376x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1376x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16512x2048 : Shape := ⟨2, ![16512, 2048]⟩
abbrev S1x2048 : Shape := ⟨2, ![1, 2048]⟩
abbrev S8192x2048 : Shape := ⟨2, ![8192, 2048]⟩
abbrev S128x2048 : Shape := ⟨2, ![128, 2048]⟩
abbrev S2048 : Shape := ⟨1, ![2048]⟩
abbrev S_ : Shape := ⟨0, ![]⟩
abbrev S16512 : Shape := ⟨1, ![16512]⟩
abbrev S16512x1 : Shape := ⟨2, ![16512, 1]⟩
abbrev S2048x8192 : Shape := ⟨2, ![2048, 8192]⟩
abbrev S16512x8192 : Shape := ⟨2, ![16512, 8192]⟩
abbrev S2048x128 : Shape := ⟨2, ![2048, 128]⟩
abbrev S16512x128 : Shape := ⟨2, ![16512, 128]⟩

abbrev nBuf : Space → Nat
  | .hbm => 28
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S1x2048, .f32⟩
  | .hbm, ⟨2, _⟩ => ⟨S8192x2048, .bf16⟩
  | .hbm, ⟨3, _⟩ => ⟨S128x2048, .bf16⟩
  | .hbm, ⟨4, _⟩ => ⟨S2048, .f32⟩
  | .hbm, ⟨5, _⟩ => ⟨S16512x2048, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x2048, .f32⟩
  | .hbm, ⟨17, _⟩ => ⟨S16512x2048, .f32⟩
  | .hbm, ⟨18, _⟩ => ⟨S1x2048, .f32⟩
  | .hbm, ⟨19, _⟩ => ⟨S16512x2048, .f32⟩
  | .hbm, ⟨20, _⟩ => ⟨S16512x2048, .f32⟩
  | .hbm, ⟨21, _⟩ => ⟨S8192x2048, .f32⟩
  | .hbm, ⟨22, _⟩ => ⟨S2048x8192, .f32⟩
  | .hbm, ⟨23, _⟩ => ⟨S16512x8192, .f32⟩
  | .hbm, ⟨24, _⟩ => ⟨S128x2048, .f32⟩
  | .hbm, ⟨25, _⟩ => ⟨S2048x128, .f32⟩
  | .hbm, ⟨26, _⟩ => ⟨S16512x128, .f32⟩
  | .hbm, ⟨27, _⟩ => ⟨S16512x8192, .bf16⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S16512x2048 : Shape := ⟨2, ![16512, 2048]⟩
abbrev S1x2048 : Shape := ⟨2, ![1, 2048]⟩
abbrev S1x2048x12288 : Shape := ⟨3, ![1, 2048, 12288]⟩
abbrev S1x2048x8208 : Shape := ⟨3, ![1, 2048, 8208]⟩
abbrev S1x4096x2048 : Shape := ⟨3, ![1, 4096, 2048]⟩
abbrev S1x2048x2048 : Shape := ⟨3, ![1, 2048, 2048]⟩
abbrev S2048 : Shape := ⟨1, ![2048]⟩
abbrev S2048x12288 : Shape := ⟨2, ![2048, 12288]⟩
abbrev S2048x8208 : Shape := ⟨2, ![2048, 8208]⟩
abbrev S8208x2048 : Shape := ⟨2, ![8208, 2048]⟩
abbrev S4096x2048 : Shape := ⟨2, ![4096, 2048]⟩
abbrev S2048x2048 : Shape := ⟨2, ![2048, 2048]⟩
abbrev S16512x12288 : Shape := ⟨2, ![16512, 12288]⟩
abbrev S8192x2048 : Shape := ⟨2, ![8192, 2048]⟩
abbrev S128x2048 : Shape := ⟨2, ![128, 2048]⟩
abbrev S1376x2048 : Shape := ⟨2, ![1376, 2048]⟩
abbrev S2048x1024 : Shape := ⟨2, ![2048, 1024]⟩
abbrev S64x2048 : Shape := ⟨2, ![64, 2048]⟩
abbrev S16x2048 : Shape := ⟨2, ![16, 2048]⟩
abbrev S32x2048 : Shape := ⟨2, ![32, 2048]⟩
abbrev S1376x1024 : Shape := ⟨2, ![1376, 1024]⟩
abbrev S1376 : Shape := ⟨1, ![1376]⟩
abbrev S1376x1 : Shape := ⟨2, ![1376, 1]⟩
abbrev S48x2048 : Shape := ⟨2, ![48, 2048]⟩
abbrev S112x2048 : Shape := ⟨2, ![112, 2048]⟩

abbrev nBuf : Space → Nat
  | .hbm => 19
  | .vmem => 24
  | .smem => 0
  | _ => 0

abbrev bufTy : (tb : Table) → Fin (tcTables nBuf tb) → BufTy
  | .hbm, ⟨0, _⟩ => ⟨S16512x2048, .f32⟩
  | .hbm, ⟨1, _⟩ => ⟨S1x2048, .f32⟩
  | .hbm, ⟨2, _⟩ => ⟨S1x2048x12288, .f32⟩
  | .hbm, ⟨3, _⟩ => ⟨S1x2048x8208, .f32⟩
  | .hbm, ⟨4, _⟩ => ⟨S1x4096x2048, .f32⟩
  | .hbm, ⟨5, _⟩ => ⟨S1x2048x2048, .f32⟩
  | .hbm, ⟨6, _⟩ => ⟨S2048, .f32⟩
  | .hbm, ⟨7, _⟩ => ⟨S1x2048, .f32⟩
  | .hbm, ⟨8, _⟩ => ⟨S2048x12288, .f32⟩
  | .hbm, ⟨9, _⟩ => ⟨S2048x12288, .bf16⟩
  | .hbm, ⟨10, _⟩ => ⟨S2048x8208, .f32⟩
  | .hbm, ⟨11, _⟩ => ⟨S8208x2048, .f32⟩
  | .hbm, ⟨12, _⟩ => ⟨S4096x2048, .f32⟩
  | .hbm, ⟨13, _⟩ => ⟨S2048x2048, .f32⟩
  | .hbm, ⟨14, _⟩ => ⟨S16512x12288, .bf16⟩
  | .hbm, ⟨15, _⟩ => ⟨S8192x2048, .bf16⟩
  | .hbm, ⟨16, _⟩ => ⟨S128x2048, .bf16⟩
  | .hbm, ⟨17, _⟩ => ⟨S4096x2048, .bf16⟩
  | .hbm, ⟨18, _⟩ => ⟨S2048x2048, .bf16⟩
  | .local _ .vmem, ⟨0, _⟩ => ⟨S1376x2048, .f32⟩
  | .local _ .vmem, ⟨1, _⟩ => ⟨S1376x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S16x2048, .f32⟩
  | .local _ .vmem, ⟨10, _⟩ => ⟨S32x2048, .f32⟩
  | .local _ .vmem, ⟨11, _⟩ => ⟨S32x2048, .f32⟩
  | .local _ .vmem, ⟨12, _⟩ => ⟨S16x2048, .f32⟩
  | .local _ .vmem, ⟨13, _⟩ => ⟨S16x2048, .f32⟩
  | .local _ .vmem, ⟨14, _⟩ => ⟨S1376x1024, .bf16⟩
  | .local _ .vmem, ⟨15, _⟩ => ⟨S1376x1024, .bf16⟩
  | .local _ .vmem, ⟨16, _⟩ => ⟨S64x2048, .bf16⟩
  | .local _ .vmem, ⟨17, _⟩ => ⟨S64x2048, .bf16⟩
  | .local _ .vmem, ⟨18, _⟩ => ⟨S128x2048, .bf16⟩
  | .local _ .vmem, ⟨19, _⟩ => ⟨S32x2048, .bf16⟩
  | .local _ .vmem, ⟨20, _⟩ => ⟨S32x2048, .bf16⟩
  | .local _ .vmem, ⟨21, _⟩ => ⟨S16x2048, .bf16⟩
  | .local _ .vmem, ⟨22, _⟩ => ⟨S16x2048, .bf16⟩
  | .local _ .vmem, ⟨23, _⟩ => ⟨S1376x2048, .bf16⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![12, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c1_i32 : BitVec 32 := 1#32
  let v3 : BitVec 32 := Scalar.addi v2 c1_i32
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c384_i32 : BitVec 32 := 384#32
  let c0_i32 : BitVec 32 := 0#32
  let c0_i32_0 : BitVec 32 := 0#32
  ![c384_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1376x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1376x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S16512x2048 : Shape := ⟨2, ![16512, 2048]⟩
abbrev S1x2048 : Shape := ⟨2, ![1, 2048]⟩
abbrev S1x2048x12288 : Shape := ⟨3, ![1, 2048, 12288]⟩
abbrev S1x2048x8208 : Shape := ⟨3, ![1, 2048, 8208]⟩
abbrev S1x4096x2048 : Shape := ⟨3, ![1, 4096, 2048]⟩
abbrev S1x2048x2048 : Shape := ⟨3, ![1, 2048, 2048]⟩
abbrev S2048 : Shape := ⟨1, ![2048]⟩
abbrev S_ : Shape := ⟨0, ![]⟩
abbrev S16512 : Shape := ⟨1, ![16512]⟩
abbrev S16512x1 : Shape := ⟨2, ![16512, 1]⟩
abbrev S2048x12288 : Shape := ⟨2, ![2048, 12288]⟩
abbrev S16512x12288 : Shape := ⟨2, ![16512, 12288]⟩
abbrev S2048x8208 : Shape := ⟨2, ![2048, 8208]⟩
abbrev S2048x6144 : Shape := ⟨2, ![2048, 6144]⟩
abbrev S2048x16 : Shape := ⟨2, ![2048, 16]⟩
abbrev S2048x2048 : Shape := ⟨2, ![2048, 2048]⟩
abbrev S2048x8192 : Shape := ⟨2, ![2048, 8192]⟩
abbrev S8192x2048 : Shape := ⟨2, ![8192, 2048]⟩
abbrev S16x2048 : Shape := ⟨2, ![16, 2048]⟩
abbrev S112x2048 : Shape := ⟨2, ![112, 2048]⟩
abbrev S128x2048 : Shape := ⟨2, ![128, 2048]⟩
abbrev S4096x2048 : Shape := ⟨2, ![4096, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S1x2048, .f32⟩
  | .hbm, ⟨2, _⟩ => ⟨S1x2048x12288, .f32⟩
  | .hbm, ⟨3, _⟩ => ⟨S1x2048x8208, .f32⟩
  | .hbm, ⟨4, _⟩ => ⟨S1x4096x2048, .f32⟩
  | .hbm, ⟨5, _⟩ => ⟨S1x2048x2048, .f32⟩
  | .hbm, ⟨6, _⟩ => ⟨S2048, .f32⟩
  | .hbm, ⟨7, _⟩ => ⟨S16512x2048, .f32⟩
  | .hbm, ⟨8, _⟩ => ⟨S_, .f32⟩
  | .hbm, ⟨9, _⟩ => ⟨S16512, .f32⟩
  | .hbm, ⟨10, _⟩ => ⟨S16512x1, .f32⟩
  | .hbm, ⟨11, _⟩ => ⟨S_, .f32⟩
  | .hbm, ⟨12, _⟩ => ⟨S16512x1, .f32⟩
  | .hbm, ⟨13, _⟩ => ⟨S16512x1, .f32⟩
  | .hbm, ⟨14, _⟩ => ⟨S_, .f32⟩
  | .hbm, ⟨15, _⟩ => ⟨S16512x1, .f32⟩
  | .hbm, ⟨16, _⟩ => ⟨S16512x1, .f32⟩
  | .hbm, ⟨17, _⟩ => ⟨S16512x1, .f32⟩
  | .hbm, ⟨18, _⟩ => ⟨S16512x2048, .f32⟩
  | .hbm, ⟨19, _⟩ => ⟨S16512x2048, .f32⟩
  | .hbm, ⟨20, _⟩ => ⟨S1x2048, .f32⟩
  | .hbm, ⟨21, _⟩ => ⟨S16512x2048, .f32⟩
  | .hbm, ⟨22, _⟩ => ⟨S16512x2048, .f32⟩
  | .hbm, ⟨23, _⟩ => ⟨S2048x12288, .f32⟩
  | .hbm, ⟨24, _⟩ => ⟨S16512x12288, .f32⟩
  | .hbm, ⟨25, _⟩ => ⟨S2048x8208, .f32⟩
  | .hbm, ⟨26, _⟩ => ⟨S2048x6144, .f32⟩
  | .hbm, ⟨27, _⟩ => ⟨S2048x16, .f32⟩
  | .hbm, ⟨28, _⟩ => ⟨S2048x2048, .f32⟩
  | .hbm, ⟨29, _⟩ => ⟨S2048x8192, .f32⟩
  | .hbm, ⟨30, _⟩ => ⟨S8192x2048, .f32⟩
  | .hbm, ⟨31, _⟩ => ⟨S16x2048, .f32⟩
  | .hbm, ⟨32, _⟩ => ⟨S_, .f32⟩
  | .hbm, ⟨33, _⟩ => ⟨S112x2048, .f32⟩
  | .hbm, ⟨34, _⟩ => ⟨S128x2048, .f32⟩
  | .hbm, ⟨35, _⟩ => ⟨S4096x2048, .f32⟩
  | .hbm, ⟨36, _⟩ => ⟨S2048x2048, .f32⟩
  | .hbm, ⟨37, _⟩ => ⟨S16512x12288, .bf16⟩
  | .hbm, ⟨38, _⟩ => ⟨S8192x2048, .bf16⟩
  | .hbm, ⟨39, _⟩ => ⟨S128x2048, .bf16⟩
  | .hbm, ⟨40, _⟩ => ⟨S4096x2048, .bf16⟩
  | .hbm, ⟨41, _⟩ => ⟨S2048x2048, .bf16⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel5.lean ====
abbrev S16512x4096 : Shape := ⟨2, ![16512, 4096]⟩
abbrev S16512x12288 : Shape := ⟨2, ![16512, 12288]⟩
abbrev S1x4096 : Shape := ⟨2, ![1, 4096]⟩
abbrev S4096x2048 : Shape := ⟨2, ![4096, 2048]⟩
abbrev S16512x2048 : Shape := ⟨2, ![16512, 2048]⟩
abbrev S4096 : Shape := ⟨1, ![4096]⟩
abbrev S192x4096 : Shape := ⟨2, ![192, 4096]⟩
abbrev S192x2048 : Shape := ⟨2, ![192, 2048]⟩
abbrev S192x512 : Shape := ⟨2, ![192, 512]⟩
abbrev S192 : Shape := ⟨1, ![192]⟩
abbrev S192x1 : Shape := ⟨2, ![192, 1]⟩
abbrev S1x512 : Shape := ⟨2, ![1, 512]⟩
abbrev S512x2048 : Shape := ⟨2, ![512, 2048]⟩

abbrev nBuf : Space → Nat
  | .hbm => 12
  | .vmem => 23
  | .smem => 0
  | _ => 0

abbrev bufTy : (tb : Table) → Fin (tcTables nBuf tb) → BufTy
  | .hbm, ⟨0, _⟩ => ⟨S16512x4096, .bf16⟩
  | .hbm, ⟨1, _⟩ => ⟨S16512x12288, .bf16⟩
  | .hbm, ⟨2, _⟩ => ⟨S16512x4096, .bf16⟩
  | .hbm, ⟨3, _⟩ => ⟨S1x4096, .f32⟩
  | .hbm, ⟨4, _⟩ => ⟨S1x4096, .f32⟩
  | .hbm, ⟨5, _⟩ => ⟨S4096x2048, .bf16⟩
  | .hbm, ⟨6, _⟩ => ⟨S16512x2048, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S16512x2048, .f32⟩
  | .local _ .vmem, ⟨0, _⟩ => ⟨S192x4096, .bf16⟩
  | .local _ .vmem, ⟨1, _⟩ => ⟨S192x4096, .bf16⟩
  | .local _ .vmem, ⟨2, _⟩ => ⟨S192x4096, .bf16⟩
  | .local _ .vmem, ⟨3, _⟩ => ⟨S192x4096, .bf16⟩
  | .local _ .vmem, ⟨4, _⟩ => ⟨S192x4096, .bf16⟩
  | .local _ .vmem, ⟨5, _⟩ => ⟨S192x4096, .bf16⟩
  | .local _ .vmem, ⟨6, _⟩ => ⟨S192x4096, .bf16⟩
  | .local _ .vmem, ⟨7, _⟩ => ⟨S192x4096, .bf16⟩
  | .local _ .vmem, ⟨8, _⟩ => ⟨S1x4096, .f32⟩
  | .local _ .vmem, ⟨9, _⟩ => ⟨S1x4096, .f32⟩
  | .local _ .vmem, ⟨10, _⟩ => ⟨S4096x2048, .bf16⟩
  | .local _ .vmem, ⟨11, _⟩ => ⟨S192x2048, .f32⟩
  | .local _ .vmem, ⟨12, _⟩ => ⟨S192x2048, .f32⟩
  | .local _ .vmem, ⟨13, _⟩ => ⟨S192x2048, .f32⟩
  | .local _ .vmem, ⟨14, _⟩ => ⟨S192x2048, .f32⟩
  | .local _ .vmem, ⟨15, _⟩ => ⟨S192x512, .bf16⟩
  | .local _ .vmem, ⟨16, _⟩ => ⟨S192x512, .bf16⟩
  | .local _ .vmem, ⟨17, _⟩ => ⟨S192x512, .bf16⟩
  | .local _ .vmem, ⟨18, _⟩ => ⟨S192x512, .bf16⟩
  | .local _ .vmem, ⟨19, _⟩ => ⟨S192x512, .bf16⟩
  | .local _ .vmem, ⟨20, _⟩ => ⟨S192x512, .bf16⟩
  | .local _ .vmem, ⟨21, _⟩ => ⟨S192x512, .bf16⟩
  | .local _ .vmem, ⟨22, _⟩ => ⟨S192x512, .bf16⟩
  | _, _ => ⟨S16512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![86, 1], ![false, false]⟩

def k0_cond1 (i : grid0.Coords) : BitVec 1 :=
  let arg1 : BitVec 32 := BitVec.ofNat 32 (i 1).val
  let c0_i32 : BitVec 32 := 0#32
  let v399 : BitVec 1 := Scalar.cmpi .eq arg1 c0_i32
  let v400 : BitVec 32 := Scalar.extui v399
  let c0_i32_207 : BitVec 32 := 0#32
  let v401 : BitVec 1 := Scalar.cmpi .ne v400 c0_i32_207
  v401

def k0_cond2 (i : grid0.Coords) : BitVec 1 :=
  let arg1 : BitVec 32 := BitVec.ofNat 32 (i 1).val
  let c0_i32_208 : BitVec 32 := 0#32
  let v402 : BitVec 1 := Scalar.cmpi .ne arg1 c0_i32_208
  let v403 : BitVec 32 := Scalar.extui v402
  let c0_i32_209 : BitVec 32 := 0#32
  let v404 : BitVec 1 := Scalar.cmpi .ne v403 c0_i32_209
  v404

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S192x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S192x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S192x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S192x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S192x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S192x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel5Ideal.lean ====
variable {F : FTy → Type} [FloatOps F] [Named F]
def κ : String → Option EReal := fun
  | "neg_log2e" => some ((-((Real.log 2)⁻¹) : ℝ) : EReal)
  | _ => none
-- ==== Reference5Ideal.lean ====
abbrev S16512x4096 : Shape := ⟨2, ![16512, 4096]⟩
abbrev S16512x12288 : Shape := ⟨2, ![16512, 12288]⟩
abbrev S1x4096 : Shape := ⟨2, ![1, 4096]⟩
abbrev S4096x2048 : Shape := ⟨2, ![4096, 2048]⟩
abbrev S16512x2048 : Shape := ⟨2, ![16512, 2048]⟩
abbrev S16512x8x512 : Shape := ⟨3, ![16512, 8, 512]⟩
abbrev S_ : Shape := ⟨0, ![]⟩
abbrev S16512x8 : Shape := ⟨2, ![16512, 8]⟩
abbrev S16512x8x1 : Shape := ⟨3, ![16512, 8, 1]⟩
abbrev S4096 : Shape := ⟨1, ![4096]⟩

abbrev nBuf : Space → Nat
  | .hbm => 60
  | .vmem => 0
  | .smem => 0
  | _ => 0

abbrev bufTy : (tb : Table) → Fin (tcTables nBuf tb) → BufTy
  | .hbm, ⟨0, _⟩ => ⟨S16512x4096, .bf16⟩
  | .hbm, ⟨1, _⟩ => ⟨S16512x12288, .bf16⟩
  | .hbm, ⟨2, _⟩ => ⟨S16512x4096, .bf16⟩
  | .hbm, ⟨3, _⟩ => ⟨S1x4096, .f32⟩
  | .hbm, ⟨4, _⟩ => ⟨S1x4096, .f32⟩
  | .hbm, ⟨5, _⟩ => ⟨S4096x2048, .bf16⟩
  | .hbm, ⟨6, _⟩ => ⟨S16512x2048, .f32⟩
  | .hbm, ⟨7, _⟩ => ⟨S16512x12288, .f32⟩
  | .hbm, ⟨8, _⟩ => ⟨S16512x4096, .f32⟩
  | .hbm, ⟨9, _⟩ => ⟨S16512x4096, .f32⟩
  | .hbm, ⟨10, _⟩ => ⟨S16512x4096, .f32⟩
  | .hbm, ⟨11, _⟩ => ⟨S16512x4096, .f32⟩
  | .hbm, ⟨12, _⟩ => ⟨S16512x8x512, .f32⟩
  | .hbm, ⟨13, _⟩ => ⟨S16512x4096, .f32⟩
  | .hbm, ⟨14, _⟩ => ⟨S16512x4096, .f32⟩
  | .hbm, ⟨15, _⟩ => ⟨S_, .f32⟩
  | .hbm, ⟨16, _⟩ => ⟨S16512x4096, .f32⟩
  | .hbm, ⟨17, _⟩ => ⟨S16512x4096, .f32⟩
  | .hbm, ⟨18, _⟩ => ⟨S_, .f32⟩
  | .hbm, ⟨19, _⟩ => ⟨S16512x4096, .f32⟩
  | .hbm, ⟨20, _⟩ => ⟨S16512x4096, .f32⟩
  | .hbm, ⟨21, _⟩ => ⟨S16512x8x512, .f32⟩
  | .hbm, ⟨22, _⟩ => ⟨S16512x8x512, .f32⟩
  | .hbm, ⟨23, _⟩ => ⟨S16512x8x512, .f32⟩
  | .hbm, ⟨24, _⟩ => ⟨S_, .f32⟩
  | .hbm, ⟨25, _⟩ => ⟨S16512x8, .f32⟩
  | .hbm, ⟨26, _⟩ => ⟨S16512x8x1, .f32⟩
  | .hbm, ⟨27, _⟩ => ⟨S_, .f32⟩
  | .hbm, ⟨28, _⟩ => ⟨S16512x8x1, .f32⟩
  | .hbm, ⟨29, _⟩ => ⟨S16512x8x1, .f32⟩
  | .hbm, ⟨30, _⟩ => ⟨S_, .f32⟩
  | .hbm, ⟨31, _⟩ => ⟨S16512x8x1, .f32⟩
  | .hbm, ⟨32, _⟩ => ⟨S16512x8x1, .f32⟩
  | .hbm, ⟨33, _⟩ => ⟨S16512x8x1, .f32⟩
  | .hbm, ⟨34, _⟩ => ⟨S16512x8x512, .f32⟩
  | .hbm, ⟨35, _⟩ => ⟨S16512x8x512, .f32⟩
  | .hbm, ⟨36, _⟩ => ⟨S16512x4096, .f32⟩
  | .hbm, ⟨37, _⟩ => ⟨S4096, .f32⟩
  | .hbm, ⟨38, _⟩ => ⟨S1x4096, .f32⟩
  | .hbm, ⟨39, _⟩ => ⟨S16512x4096, .f32⟩
  | .hbm, ⟨40, _⟩ => ⟨S16512x4096, .f32⟩
  | .hbm, ⟨41, _⟩ => ⟨S4096, .f32⟩
  | .hbm, ⟨42, _⟩ => ⟨S16512x4096, .f32⟩
  | .hbm, ⟨43, _⟩ => ⟨S1x4096, .f32⟩
  | .hbm, ⟨44, _⟩ => ⟨S16512x4096, .f32⟩
  | .hbm, ⟨45, _⟩ => ⟨S16512x4096, .f32⟩
  | .hbm, ⟨46, _⟩ => ⟨S16512x4096, .f32⟩
  | .hbm, ⟨47, _⟩ => ⟨S16512x4096, .f32⟩
  | .hbm, ⟨48, _⟩ => ⟨S16512x4096, .f32⟩
  | .hbm, ⟨49, _⟩ => ⟨S_, .f32⟩
  | .hbm, ⟨50, _⟩ => ⟨S16512x4096, .f32⟩
  | .hbm, ⟨51, _⟩ => ⟨S16512x4096, .f32⟩
  | .hbm, ⟨52, _⟩ => ⟨S_, .f32⟩
  | .hbm, ⟨53, _⟩ => ⟨S16512x4096, .f32⟩
  | .hbm, ⟨54, _⟩ => ⟨S16512x4096, .f32⟩
  | .hbm, ⟨55, _⟩ => ⟨S16512x4096, .f32⟩
  | .hbm, ⟨56, _⟩ => ⟨S16512x4096, .f32⟩
  | .hbm, ⟨57, _⟩ => ⟨S4096x2048, .f32⟩
  | .hbm, ⟨58, _⟩ => ⟨S16512x2048, .f32⟩
  | .hbm, ⟨59, _⟩ => ⟨S16512x2048, .f32⟩
  | _, _ => ⟨S16512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Proof.Recurrence.lean ====
/-
  The mLSTM recurrence over the reals, one token at a time, and what a chunk of tokens computes from the state before
  it. `stM`, `stC`, `stN` are the running maximum, the stabilised matrix memory and its normaliser after `t` tokens;
  `out t` is the hidden vector of token `t`. The theorems say that the chunk formulas (a cumulative sum of log forget
  gates within the chunk, a causal matrix of weights, one product with the carried state) give exactly these values,
  whatever the chunk's length: so two programs that cut the tokens into chunks differently compute the same.
-/
module

public import Mathlib.Analysis.SpecialFunctions.Exp
public import Mathlib.Algebra.BigOperators.Fin
public import Mathlib.Data.EReal.Inv

@[expose] public section

noncomputable section

namespace Cert.Mlstm

/-- One head's tokens: log forget gate, log input gate, (scaled) query, key and value of each. -/
structure Tokens (D E : Type) where
  lf : ℕ → ℝ
  ig : ℕ → ℝ
  q : ℕ → D → ℝ
  k : ℕ → D → ℝ
  v : ℕ → E → ℝ

variable {D E : Type} [Fintype D] [Fintype E] (X : Tokens D E)

/-- The running maximum (the stabiliser) after `t` tokens. -/
def stM : ℕ → ℝ
  | 0 => 0
  | t + 1 => max (X.lf t + stM t) (X.ig t)

/-- What the tokens before `t` have left of a quantity `g` of theirs, each with its stabilised weight. -/
def st (g : ℕ → ℝ) : ℕ → ℝ
  | 0 => 0
  | t + 1 => Real.exp (X.lf t + stM X t - stM X (t + 1)) * st g t + Real.exp (X.ig t - stM X (t + 1)) * g t

/-- The stabilised matrix memory after `t` tokens. -/
def stC (t : ℕ) (d : D) (e : E) : ℝ := st X (fun s => X.k s d * X.v s e) t

/-- Its normaliser after `t` tokens. -/
def stN (t : ℕ) (d : D) : ℝ := st X (fun s => X.k s d) t

/-- The hidden vector of token `t`. -/
def out (t : ℕ) (e : E) : ℝ :=
  (∑ d, X.q t d * stC X (t + 1) d e) / max |∑ d, X.q t d * stN X (t + 1) d| (Real.exp (-stM X (t + 1)))

/-- The log forget gates of the chunk that starts at token `T`, summed through its token `t`. -/
def cum (T t : ℕ) : ℝ := ∑ s ∈ Finset.range (t + 1), X.lf (T + s)

theorem cum_zero (T : ℕ) : cum X T 0 = X.lf T := by simp [cum]

theorem cum_succ (T t : ℕ) : cum X T (t + 1) = cum X T t + X.lf (T + (t + 1)) := by
  simp only [cum]; rw [Finset.sum_range_succ]

/-- The log weight with which token `s` of the chunk enters the state after its token `t`. -/
def lw (T t s : ℕ) : ℝ := cum X T t - cum X T s + X.ig (T + s)

theorem lw_succ (T t s : ℕ) : lw X T (t + 1) s = X.lf (T + (t + 1)) + lw X T t s := by
  simp only [lw, cum_succ]; ring

theorem lw_self (T t : ℕ) : lw X T t t = X.ig (T + t) := by simp [lw]

/-- The running maximum inside a chunk: it bounds the carried state's log weight and every token's, and is one of them. -/
theorem stM_chunk (T t : ℕ) :
    (cum X T t + stM X T ≤ stM X (T + t + 1) ∧ ∀ s ≤ t, lw X T t s ≤ stM X (T + t + 1))
    ∧ (stM X (T + t + 1) = cum X T t + stM X T ∨ ∃ s ≤ t, stM X (T + t + 1) = lw X T t s) := by
  induction t with
  | zero =>
    have h : stM X (T + 0 + 1) = max (X.lf T + stM X T) (X.ig T) := rfl
    rw [h, cum_zero]
    refine ⟨⟨le_max_left _ _, fun s hs => ?_⟩, ?_⟩
    · obtain rfl : s = 0 := by omega
      rw [lw_self]; exact le_max_right _ _
    · rcases max_choice (X.lf T + stM X T) (X.ig T) with h | h
      · exact .inl h
      · exact .inr ⟨0, le_rfl, by rw [h, lw_self]; rfl⟩
  | succ t ih =>
    obtain ⟨⟨h1, h2⟩, h3⟩ := ih
    have h : stM X (T + (t + 1) + 1) = max (X.lf (T + (t + 1)) + stM X (T + t + 1)) (X.ig (T + (t + 1))) := rfl
    rw [h]
    refine ⟨⟨?_, fun s hs => ?_⟩, ?_⟩
    · rw [cum_succ]; exact le_max_of_le_left (by linarith)
    · rcases Nat.lt_or_ge t s with hst | hst
      · obtain rfl : s = t + 1 := by omega
        rw [lw_self]; exact le_max_right _ _
      · rw [lw_succ]; exact le_max_of_le_left (by linarith [h2 s hst])
    · rcases max_choice (X.lf (T + (t + 1)) + stM X (T + t + 1)) (X.ig (T + (t + 1))) with h | h
      · rw [h]
        rcases h3 with h3 | ⟨s, hs, h3⟩
        · left; rw [h3, cum_succ]; ring
        · right; exact ⟨s, by omega, by rw [h3, lw_succ]⟩
      · right; exact ⟨t + 1, le_rfl, by rw [h, lw_self]⟩

/-- What is left inside a chunk: of the carried part, and of the chunk's tokens, each with its weight. -/
theorem st_chunk (g : ℕ → ℝ) (T t : ℕ) :
    st X g (T + t + 1) = Real.exp (cum X T t + stM X T - stM X (T + t + 1)) * st X g T
      + ∑ s ∈ Finset.range (t + 1), Real.exp (lw X T t s - stM X (T + t + 1)) * g (T + s) := by
  induction t with
  | zero =>
    rw [Finset.sum_range_one, lw_self, cum_zero]; rfl
  | succ t ih =>
    have h : st X g (T + (t + 1) + 1)
        = Real.exp (X.lf (T + (t + 1)) + stM X (T + t + 1) - stM X (T + (t + 1) + 1)) * st X g (T + t + 1)
          + Real.exp (X.ig (T + (t + 1)) - stM X (T + (t + 1) + 1)) * g (T + (t + 1)) := rfl
    have e1 : Real.exp (X.lf (T + (t + 1)) + stM X (T + t + 1) - stM X (T + (t + 1) + 1))
          * Real.exp (cum X T t + stM X T - stM X (T + t + 1))
        = Real.exp (cum X T (t + 1) + stM X T - stM X (T + (t + 1) + 1)) := by
      rw [← Real.exp_add, cum_succ]; congr 1; ring
    have e2 : ∀ s, Real.exp (X.lf (T + (t + 1)) + stM X (T + t + 1) - stM X (T + (t + 1) + 1))
          * (Real.exp (lw X T t s - stM X (T + t + 1)) * g (T + s))
        = Real.exp (lw X T (t + 1) s - stM X (T + (t + 1) + 1)) * g (T + s) := fun s => by
      rw [← mul_assoc, ← Real.exp_add, lw_succ]; congr 2; ring
    rw [h, ih, mul_add, ← mul_assoc, e1, Finset.mul_sum, Finset.sum_congr rfl fun s _ => e2 s,
      Finset.sum_range_succ _ (t + 1), lw_self, add_assoc]

/-- The product of a query with the memory inside a chunk, as the chunk computes it: once with the carried memory, once
    through the causal weights. -/
theorem num_chunk (T t : ℕ) (e : E) :
    ∑ d, X.q (T + t) d * stC X (T + t + 1) d e
      = Real.exp (cum X T t + stM X T - stM X (T + t + 1)) * ∑ d, X.q (T + t) d * stC X T d e
        + ∑ s ∈ Finset.range (t + 1),
            Real.exp (lw X T t s - stM X (T + t + 1)) * (∑ d, X.q (T + t) d * X.k (T + s) d) * X.v (T + s) e := by
  simp only [stC, st_chunk, mul_add, Finset.sum_add_distrib, Finset.mul_sum, Finset.sum_mul]
  rw [Finset.sum_comm (s := Finset.univ) (t := Finset.range (t + 1))]
  exact congrArg₂ _ (Finset.sum_congr rfl fun d _ => by ring)
    (Finset.sum_congr rfl fun s _ => Finset.sum_congr rfl fun d _ => by ring)

/-- The product of a query with the normaliser inside a chunk. -/
theorem den_chunk (T t : ℕ) :
    ∑ d, X.q (T + t) d * stN X (T + t + 1) d
      = Real.exp (cum X T t + stM X T - stM X (T + t + 1)) * ∑ d, X.q (T + t) d * stN X T d
        + ∑ s ∈ Finset.range (t + 1),
            Real.exp (lw X T t s - stM X (T + t + 1)) * ∑ d, X.q (T + t) d * X.k (T + s) d := by
  simp only [stN, st_chunk, mul_add, Finset.sum_add_distrib, Finset.mul_sum]
  rw [Finset.sum_comm (s := Finset.univ) (t := Finset.range (t + 1))]
  exact congrArg₂ _ (Finset.sum_congr rfl fun d _ => by ring)
    (Finset.sum_congr rfl fun s _ => Finset.sum_congr rfl fun d _ => by ring)

end Cert.Mlstm

end
-- ==== Proof.ChunkReal.lean ====
/-
  The chunk step of the recurrence over the extended reals: the formulas in which a whole chunk of `L`
tokens is evaluated at once, and the proof that on real inputs they give the token-by-token recurrence.
-/
module

public import proofs.«01_k».proof.Proof.Recurrence
public import Idealize.ShloMosaic.PureOps.Ideal.Laws

@[expose] public section

noncomputable section

namespace Cert.Mlstm

open Idealize.ShloMosaic Finset

/-- What one chunk of `L` tokens reads: the two gates, the three projections and the carried state. -/
structure Chunk (L : ℕ) where
  /-- the logarithm of the forget gate -/
  lf : Fin L → EReal
  /-- the input gate's pre-activation -/
  ig : Fin L → EReal
  /-- the scaled query -/
  q : Fin L → Fin 256 → EReal
  /-- the key -/
  k : Fin L → Fin 256 → EReal
  /-- the value -/
  v : Fin L → Fin 512 → EReal
  /-- the matrix memory before the chunk -/
  C : Fin 256 → Fin 512 → EReal
  /-- the normalizer before the chunk -/
  n : Fin 256 → EReal
  /-- the stabilizer before the chunk -/
  m : EReal

namespace Chunk

variable {L : ℕ} (c : Chunk L)

/-- The running sum of the log forget gates. -/
def b (t : Fin L) : EReal := ∑ s : Fin L, if s.val ≤ t.val then c.lf s else 0

/-- The log weight of token `s` in the output of token `t`. -/
def dm (t s : Fin L) : EReal := if s.val ≤ t.val then c.b t - c.b s + c.ig s else ⊥

/-- The stabilizer at token `t`. -/
def mt (t : Fin L) : EReal := max (c.b t + c.m) (univ.fold max ⊥ (c.dm t))

/-- The weight of the carried state at token `t`. -/
def ss (t : Fin L) : EReal := Ideal.exp (c.b t + c.m - c.mt t)

/-- The weight of token `s` at token `t`, times the score. -/
def w (t s : Fin L) : EReal := Ideal.exp (c.dm t s - c.mt t) * ∑ d, c.q t d * c.k s d

/-- The numerator at token `t`. -/
def num (t : Fin L) (e : Fin 512) : EReal := c.ss t * (∑ d, c.q t d * c.C d e) + ∑ s, c.w t s * c.v s e

/-- The denominator at token `t`, before its absolute value. -/
def den (t : Fin L) : EReal := c.ss t * (∑ d, c.q t d * c.n d) + ∑ s, c.w t s

/-- The output of token `t`. -/
def h (t : Fin L) (e : Fin 512) : EReal :=
  Ideal.div (c.num t e) (max (max (c.den t) (-c.den t)) (Ideal.exp (-c.mt t)))

/-- The log weight of token `s` in the state after the chunk whose last token is `l`. -/
def dec (l s : Fin L) : EReal := c.b l - c.b s + c.ig s

/-- The stabilizer after the chunk. -/
def mn (l : Fin L) : EReal := max (c.b l + c.m) (univ.fold max ⊥ (c.dec l))

/-- The weight of the carried state after the chunk. -/
def so (l : Fin L) : EReal := Ideal.exp (c.b l + c.m - c.mn l)

/-- The weighted key of token `s`. -/
def kw (l s : Fin L) (d : Fin 256) : EReal := c.k s d * Ideal.exp (c.dec l s - c.mn l)

/-- The matrix memory after the chunk. -/
def Cn (l : Fin L) (d : Fin 256) (e : Fin 512) : EReal := c.so l * c.C d e + ∑ s, c.kw l s d * c.v s e

/-- The normalizer after the chunk. -/
def nn (l : Fin L) (d : Fin 256) : EReal := c.so l * c.n d + ∑ s, c.kw l s d

end Chunk

/-- The chunk of the tokens `T, …, T + L - 1`, with the state of the recurrence at `T`. -/
def chunkOf (L : ℕ) (X : Tokens (Fin 256) (Fin 512)) (T : ℕ) : Chunk L where
  lf s := (X.lf (T + s) : ℝ)
  ig s := (X.ig (T + s) : ℝ)
  q s d := (X.q (T + s) d : ℝ)
  k s d := (X.k (T + s) d : ℝ)
  v s e := (X.v (T + s) e : ℝ)
  C d e := (stC X T d e : ℝ)
  n d := (stN X T d : ℝ)
  m := (stM X T : ℝ)

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over all positions of a chunk that keeps those up to `t` is a sum over an initial range. -/
theorem sum_upto {M : Type*} [AddCommMonoid M] {L : ℕ} (t : Fin L) (g : ℕ → M) :
    (∑ s : Fin L, if s.val ≤ t.val then g s.val else 0) = ∑ s ∈ range (t.val + 1), g s := by
  rw [Fin.sum_univ_eq_sum_range (fun s => if s ≤ t.val then g s else 0) L, ← sum_filter]
  refine sum_congr ?_ fun _ _ => rfl
  ext s
  have := t.isLt
  simp only [mem_filter, mem_range]
  omega

/-- A maximum over a finite type, from below all. -/
theorem fold_max_le {ι : Type*} [Fintype ι] (f : ι → EReal) (z : EReal) :
    univ.fold max ⊥ f ≤ z ↔ ∀ i, f i ≤ z := by
  rw [Finset.fold_max_le]; simp

section
variable {L : ℕ} (X : Tokens (Fin 256) (Fin 512)) (T : ℕ)

theorem b_coe (t : Fin L) : (chunkOf L X T).b t = (cum X T t : ℝ) := by
  show (∑ s : Fin L, if s.val ≤ t.val then ((X.lf (T + s.val) : ℝ) : EReal) else 0) = _
  rw [sum_upto t (fun s => ((X.lf (T + s) : ℝ) : EReal)), ← coe_sum]; rfl

theorem dm_coe (t s : Fin L) : (chunkOf L X T).dm t s = if s.val ≤ t.val then (lw X T t s : EReal) else ⊥ := by
  unfold Chunk.dm
  split
  · rw [b_coe, b_coe]; rfl
  · rfl

theorem mt_coe (t : Fin L) : (chunkOf L X T).mt t = (stM X (T + t + 1) : ℝ) := by
  obtain ⟨⟨h1, h2⟩, h3⟩ := stM_chunk X T t
  have hm : (chunkOf L X T).b t + (chunkOf L X T).m = ((cum X T t + stM X T : ℝ) : EReal) := by
    rw [b_coe]; rfl
  unfold Chunk.mt
  rw [hm]
  apply le_antisymm
  · refine max_le (EReal.coe_le_coe_iff.2 h1) ((fold_max_le _ _).2 fun s => ?_)
    rw [dm_coe]
    split
    · next h => exact EReal.coe_le_coe_iff.2 (h2 _ h)
    · exact bot_le
  · rcases h3 with h3 | ⟨s, hs, h3⟩
    · rw [h3]; exact le_max_left _ _
    · have hs' : s < L := lt_of_le_of_lt hs t.isLt
      refine le_trans ?_ (le_max_right _ _)
      have := (fold_max_le ((chunkOf L X T).dm t) _).1 le_rfl ⟨s, hs'⟩
      rw [dm_coe, if_pos hs] at this
      rw [h3]; exact this

theorem mn_eq_mt (l : Fin L) (hl : l.val + 1 = L) : (chunkOf L X T).mn l = (chunkOf L X T).mt l := by
  have : (chunkOf L X T).dec l = (chunkOf L X T).dm l := by
    funext s
    have := s.isLt
    rw [Chunk.dec, Chunk.dm, if_pos (by omega)]
  rw [Chunk.mn, Chunk.mt, this]

theorem mn_coe (l : Fin L) (hl : l.val + 1 = L) : (chunkOf L X T).mn l = (stM X (T + L) : ℝ) := by
  rw [mn_eq_mt X T l hl, mt_coe, add_assoc, hl]

theorem ss_coe (t : Fin L) :
    (chunkOf L X T).ss t = (Real.exp (cum X T t + stM X T - stM X (T + t + 1)) : ℝ) := by
  unfold Chunk.ss
  rw [b_coe, mt_coe]; rfl

theorem so_coe (l : Fin L) (hl : l.val + 1 = L) :
    (chunkOf L X T).so l = (Real.exp (cum X T l + stM X T - stM X (T + L)) : ℝ) := by
  unfold Chunk.so
  rw [b_coe, mn_coe X T l hl]; rfl

theorem w_coe (t s : Fin L) : (chunkOf L X T).w t s = if s.val ≤ t.val then
    ((Real.exp (lw X T t s - stM X (T + t + 1)) * ∑ d, X.q (T + t) d * X.k (T + s) d : ℝ) : EReal) else 0 := by
  unfold Chunk.w
  rw [dm_coe, mt_coe]
  split
  · rw [EReal.coe_mul, coe_sum]; rfl
  · rw [EReal.bot_sub, Ideal.exp_bot, zero_mul]

theorem num_coe (t : Fin L) (e : Fin 512) : (chunkOf L X T).num t e =
    ((∑ d, X.q (T + t) d * stC X (T + t + 1) d e : ℝ) : EReal) := by
  rw [num_chunk, EReal.coe_add, EReal.coe_mul]
  unfold Chunk.num
  rw [ss_coe, coe_sum, coe_sum, ← sum_upto t (fun s => _)]
  refine congrArg₂ (· + ·) rfl (sum_congr rfl fun s _ => ?_)
  rw [w_coe]
  split
  · rw [EReal.coe_mul]; rfl
  · rw [zero_mul]

theorem den_coe (t : Fin L) : (chunkOf L X T).den t =
    ((∑ d, X.q (T + t) d * stN X (T + t + 1) d : ℝ) : EReal) := by
  rw [den_chunk, EReal.coe_add, EReal.coe_mul]
  unfold Chunk.den
  rw [ss_coe, coe_sum, coe_sum, ← sum_upto t (fun s => _)]
  exact congrArg₂ (· + ·) rfl (sum_congr rfl fun s _ => w_coe X T t s)

/-- The chunk formula's output of a token is the recurrence's. -/
theorem h_coe (t : Fin L) (e : Fin 512) : (chunkOf L X T).h t e = (out X (T + t) e : ℝ) := by
  unfold Chunk.h
  rw [num_coe, den_coe, mt_coe]
  unfold out
  generalize (∑ d, X.q (T + t) d * stN X (T + t + 1) d) = y
  have e1 : max (max (y : EReal) (-(y : EReal))) (Ideal.exp (-(stM X (T + t + 1) : EReal)))
      = ((max |y| (Real.exp (-stM X (T + t + 1))) : ℝ) : EReal) := by
    rw [← EReal.coe_neg, ← EReal.coe_neg, Ideal.exp_coe, abs_eq_max_neg]
    push_cast
    rfl
  have pos : max |y| (Real.exp (-stM X (T + t + 1))) ≠ 0 :=
    (lt_of_lt_of_le (Real.exp_pos _) (le_max_right _ _)).ne'
  rw [e1, Ideal.div_coe pos, ← EReal.coe_mul, mul_one_div]

/-- The weighted keys after the chunk. -/
theorem kw_coe (l : Fin L) (hl : l.val + 1 = L) (s : Fin L) (d : Fin 256) : (chunkOf L X T).kw l s d =
    ((X.k (T + s) d * Real.exp (lw X T l s - stM X (T + L)) : ℝ) : EReal) := by
  unfold Chunk.kw Chunk.dec
  rw [b_coe, b_coe, mn_coe X T l hl, EReal.coe_mul]; rfl

/-- A quantity of the tokens in the state after the chunk: the carried one, weighted, plus every token's own. -/
theorem st_end (g : ℕ → ℝ) (l : Fin L) (hl : l.val + 1 = L) :
    st X g (T + L) = Real.exp (cum X T l + stM X T - stM X (T + L)) * st X g T
      + ∑ s : Fin L, Real.exp (lw X T l s - stM X (T + L)) * g (T + s) := by
  have h := st_chunk X g T l
  rw [add_assoc, hl] at h
  rw [h, Fin.sum_univ_eq_sum_range (fun s => Real.exp (lw X T l s - stM X (T + L)) * g (T + s))]

/-- The chunk formula's matrix memory is the recurrence's. -/
theorem Cn_coe (l : Fin L) (hl : l.val + 1 = L) (d : Fin 256) (e : Fin 512) :
    (chunkOf L X T).Cn l d e = (stC X (T + L) d e : ℝ) := by
  unfold Chunk.Cn stC
  rw [st_end X T _ l hl, so_coe X T l hl, EReal.coe_add, EReal.coe_mul, coe_sum]
  refine congrArg₂ (· + ·) rfl (sum_congr rfl fun s _ => ?_)
  rw [kw_coe X T l hl]
  show ((_ : ℝ) : EReal) * ((X.v (T + s) e : ℝ) : EReal) = _
  rw [← EReal.coe_mul]
  exact congrArg _ (by ring)

/-- The chunk formula's normalizer is the recurrence's. -/
theorem nn_coe (l : Fin L) (hl : l.val + 1 = L) (d : Fin 256) :
    (chunkOf L X T).nn l d = (stN X (T + L) d : ℝ) := by
  unfold Chunk.nn stN
  rw [st_end X T _ l hl, so_coe X T l hl, EReal.coe_add, EReal.coe_mul, coe_sum]
  refine congrArg₂ (· + ·) rfl (sum_congr rfl fun s _ => ?_)
  rw [kw_coe X T l hl]
  exact congrArg _ (mul_comm _ _)

end

end Cert.Mlstm
-- ==== Proof.Chunk.lean ====
/-
  One chunk of the recurrence as the tensor operations a program on matrices evaluates, for a chunk of any length `L`,
  and what each of them holds at an index over the extended reals: the formulas of `Chunk`.
-/
module

public import proofs.«01_k».proof.Proof.ChunkReal
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.WordCmp

@[expose] public section

noncomputable section

namespace Cert.Mlstm

open Idealize.ShloMosaic Idealize.ShloMosaic.ValueIdx Finset

/-- The shape of an `a × b` matrix. -/
abbrev Mat (a b : ℕ) : Shape := ⟨2, ![a, b]⟩
/-- The shape of a vector of length `a`. -/
abbrev Row (a : ℕ) : Shape := ⟨1, ![a]⟩

/-- What the operations of a chunk of length `L` ask of their shapes. -/
class ChunkShapes (L : ℕ) : Prop where
  small : L ≤ 1024
  iota0 : (Mat L L).Iotas .tc 32 [0]
  iota1 : (Mat L L).Iotas .tc 32 [1]
  castRow : (Mat 1 L).ShapeCasts (Mat 1 L)
  castCol : (Mat L 1).ShapeCasts (Mat L 1)
  toCol : (Row L).ShapeCasts (Mat L 1)
  toRow : (Row L).ShapeCasts (Mat 1 L)
  rowSq : (Mat 1 L).Broadcasts (Mat L L)
  colSq : (Mat L 1).Broadcasts (Mat L L)
  oneCol : (Mat 1 1).Broadcasts (Mat L 1)
  oneRow : (Mat 1 1).Broadcasts (Mat 1 L)
  colV : (Mat L 1).Broadcasts (Mat L 512)
  colK : (Mat L 1).Broadcasts (Mat L 256)
  rowK : (Mat 1 256).Broadcasts (Mat L 256)
  red1 : (Mat L L).Reduces [1] (Row L)
  red0 : (Mat L L).Reduces [0] (Row L)
  redRow : (Mat 1 L).Reduces [1] (Row 1)
  redK1 : (Mat L 256).Reduces [1] (Row L)
  redK0 : (Mat L 256).Reduces [0] (Row 256)
  last : (Mat 1 L).Slices ![0, L - 1] (Mat 1 1)
  one : (Row 1).ShapeCasts (Mat 1 1)
  rowOf : (Row 256).ShapeCasts (Mat 1 256)
  oneC : (Mat 1 1).Broadcasts (Mat 256 512)
  oneN : (Mat 1 1).Broadcasts (Mat 1 256)

/-- The product of the transpose of an `K × M` matrix with an `K × N` one. -/
def dotTN (M K N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem dotTN_rank (M K N : ℕ) : (dotTN M K N).contr.rank = 1 := rfl

/-- That product at an index: the sum over the shared rows. -/
theorem dotTN_apply {M K N : ℕ} {φ₁ φ₂ : FTy} (prec : Option ContractPrecision) (x : FVec Ideal (Mat K M) φ₁)
    (y : FVec Ideal (Mat K N) φ₂) (acc : FVec Ideal (Mat M N) .f32) (i : Fin M) (j : Fin N) :
    FloatOps.matmul (dotTN M K N) prec x y acc (ix2 i j) = acc (ix2 i j) + ∑ s : Fin K, x (ix2 s i) * y (ix2 s j) := by
  have hs : (dotTN M K N).contr.size ⟨0, Nat.one_pos⟩ = K := rfl
  rw [Ideal.matmul_apply, ← Equiv.sum_comp (contrEquiv1 _ K (dotTN_rank M K N) hs).symm]
  refine congrArg (acc (ix2 i j) + ·) (sum_congr rfl fun s _ => ?_)
  have h := contrEquiv1_symm_val _ K (dotTN_rank M K N) hs s
  refine congrArg₂ (· * ·) (congrArg x ?_) (congrArg y ?_) <;>
  · funext a; apply Fin.ext
    match a with
    | ⟨0, _⟩ => exact h
    | ⟨1, _⟩ => rfl

/-- A reduction takes the 32-bit format. -/
theorem f32Reduces : FKind.Formats .f32 := .inl rfl
/-- A sum starts at zero. -/
theorem zeroNeutral : (0x00000000#32 : BitVec (FTy.bits .f32)) = FKind.add.neutral .f32 f32Reduces := rfl
/-- A maximum starts at negative infinity. -/
theorem negInfNeutral : (0xFF800000#32 : BitVec (FTy.bits .f32)) = FKind.maximumf.neutral .f32 f32Reduces := rfl

/-- What a chunk of length `L` reads, as matrices. -/
structure ChunkIn (L : ℕ) (F : FTy → Type) where
  ig : FVec F (Mat 1 L) .f32
  f : FVec F (Mat 1 L) .f32
  q : FVec F (Mat L 256) .bf16
  k : FVec F (Mat L 256) .bf16
  v : FVec F (Mat L 512) .bf16
  C : FVec F (Mat 256 512) .f32
  n : FVec F (Mat 1 256) .f32
  m : FVec F (Mat 1 1) .f32

namespace ChunkIn

section Ops
variable {F : FTy → Type} [FloatOps F] {L : ℕ} [hL : ChunkShapes L] (x : ChunkIn L F)

/-- Row numbers. -/
def row (L : ℕ) [hL : ChunkShapes L] : IVec (Mat L L) 32 := iota .tc (Mat L L) 32 [0] hL.iota0
/-- Column numbers. -/
def col (L : ℕ) [hL : ChunkShapes L] : IVec (Mat L L) 32 := iota .tc (Mat L L) 32 [1] hL.iota1

/-- The log-sigmoid of the forget gate. -/
def lf : FVec F (Mat 1 L) .f32 :=
  subf (minimumf x.f (broadcast _ (Scalar.ofBits .f32 0x00000000#32)))
    (log (addf (broadcast _ (Scalar.ofBits .f32 0x3F800000#32))
      (exp (subf (broadcast _ (Scalar.ofBits .f32 0x00000000#32)) (absf x.f)))))

/-- Its running sum, as a column. -/
def bCol : FVec F (Mat L 1) .f32 :=
  shapeCast _ (multiReduction .add [1] (Row L)
    (select (cmpi .sle (col L) (row L)) (broadcastTo (Mat L L) (shapeCast (Mat 1 L) x.lf hL.castRow) hL.rowSq)
      (broadcast _ (Scalar.ofBits .f32 0x00000000#32))) 0x00000000#32 hL.red1 f32Reduces zeroNeutral) hL.toCol

/-- Its running sum, as a row. -/
def bRow : FVec F (Mat 1 L) .f32 :=
  shapeCast _ (multiReduction .add [0] (Row L)
    (select (cmpi .eq (row L) (col L)) (broadcastTo (Mat L L) (shapeCast (Mat L 1) x.bCol hL.castCol) hL.colSq)
      (broadcast _ (Scalar.ofBits .f32 0x00000000#32))) 0x00000000#32 hL.red0 f32Reduces zeroNeutral) hL.toRow

/-- The causal matrix of log weights. -/
def dm : FVec F (Mat L L) .f32 :=
  select (cmpi .sle (col L) (row L))
    (addf (subf (broadcastTo _ x.bCol hL.colSq) (broadcastTo _ x.bRow hL.rowSq)) (broadcastTo _ x.ig hL.rowSq))
    (broadcast _ (Scalar.ofBits .f32 0xFF800000#32))

/-- The log weight of the carried state. -/
def ms : FVec F (Mat L 1) .f32 := addf x.bCol (broadcastTo _ x.m hL.oneCol)

/-- The stabilizer of each token. -/
def mt : FVec F (Mat L 1) .f32 :=
  maximumf x.ms (shapeCast _ (multiReduction .maximumf [1] (Row L) x.dm 0xFF800000#32 hL.red1 f32Reduces negInfNeutral) hL.toCol)

/-- The weight of the carried state. -/
def ss : FVec F (Mat L 1) .f32 := exp (subf x.ms x.mt)

/-- The scaled queries. -/
def qs : FVec F (Mat L 256) .bf16 :=
  truncf .bf16 (mulf (extf .f32 x.q (by decide)) (broadcast _ (Scalar.ofBits .f32 0x3D800000#32))) (by decide)

/-- The weighted scores. -/
def w : FVec F (Mat L L) .f32 :=
  mulf (exp (subf x.dm (broadcastTo _ x.mt hL.colSq)))
    (matmul (DotDims.transposedRhs L 256 L) none x.qs x.k (constant _ .f32 0x00000000#32))

/-- The numerators. -/
def num : FVec F (Mat L 512) .f32 :=
  addf (mulf (broadcastTo _ x.ss hL.colV)
      (matmul (DotDims.plain L 256 512) none x.qs (truncf .bf16 x.C (by decide)) (constant _ .f32 0x00000000#32)))
    (matmul (DotDims.plain L L 512) none (truncf .bf16 x.w (by decide)) x.v (constant _ .f32 0x00000000#32))

/-- The denominators. -/
def den : FVec F (Mat L 1) .f32 :=
  addf (mulf x.ss (shapeCast _ (multiReduction .add [1] (Row L)
      (mulf (extf .f32 x.qs (by decide)) (broadcastTo _ x.n hL.rowK)) 0x00000000#32 hL.redK1 f32Reduces zeroNeutral) hL.toCol))
    (shapeCast _ (multiReduction .add [1] (Row L) x.w 0x00000000#32 hL.red1 f32Reduces zeroNeutral) hL.toCol)

/-- The outputs of the chunk's tokens. -/
def h : FVec F (Mat L 512) .bf16 :=
  truncf .bf16 (divf x.num (broadcastTo _ (maximumf (absf x.den)
    (exp (subf (broadcast _ (Scalar.ofBits .f32 0x00000000#32)) x.mt))) hL.colV)) (by decide)

/-- The whole chunk's log forget gate. -/
def g : FVec F (Mat 1 1) .f32 := extractStridedSlice (Mat 1 1) ![0, L - 1] x.bRow hL.last

/-- The log weights into the state after the chunk. -/
def dec : FVec F (Mat 1 L) .f32 := addf (subf (broadcastTo _ x.g hL.oneRow) x.bRow) x.ig

/-- The stabilizer after the chunk. -/
def mn : FVec F (Mat 1 1) .f32 :=
  maximumf (addf x.g x.m)
    (shapeCast _ (multiReduction .maximumf [1] (Row 1) x.dec 0xFF800000#32 hL.redRow f32Reduces negInfNeutral) hL.one)

/-- The weight of the carried state after the chunk. -/
def so : FVec F (Mat 1 1) .f32 := exp (subf (addf x.g x.m) x.mn)

/-- The weighted keys. -/
def kw : FVec F (Mat L 256) .f32 :=
  mulf (extf .f32 x.k (by decide)) (broadcastTo _ (shapeCast (Mat L 1) (multiReduction .add [1] (Row L)
    (select (cmpi .eq (row L) (col L))
      (broadcastTo (Mat L L) (shapeCast (Mat 1 L) (exp (subf x.dec (broadcastTo _ x.mn hL.oneRow))) hL.castRow) hL.rowSq)
      (broadcast _ (Scalar.ofBits .f32 0x00000000#32))) 0x00000000#32 hL.red1 f32Reduces zeroNeutral) hL.toCol) hL.colK)

/-- The matrix memory after the chunk. -/
def Cn : FVec F (Mat 256 512) .f32 :=
  addf (mulf (broadcastTo _ x.so hL.oneC) x.C)
    (matmul (dotTN 256 L 512) none (truncf .bf16 x.kw (by decide)) x.v (constant _ .f32 0x00000000#32))

/-- The normalizer after the chunk. -/
def nn : FVec F (Mat 1 256) .f32 :=
  addf (mulf (broadcastTo _ x.so hL.oneN) x.n)
    (shapeCast _ (multiReduction .add [0] (Row 256) x.kw 0x00000000#32 hL.redK0 f32Reduces zeroNeutral) hL.rowOf)

end Ops

/-! ## At an index, over the extended reals -/

section Ideal
variable {L : ℕ} [hL : ChunkShapes L] (x : ChunkIn L Ideal)

/-- The chunk that these matrices hold. -/
def chunk : Chunk L where
  lf s := x.lf (ix2 0 s)
  ig s := x.ig (ix2 0 s)
  q s d := x.q (ix2 s d) * Ideal.ofBits .f32 0x3D800000#32
  k s d := x.k (ix2 s d)
  v s e := x.v (ix2 s e)
  C d e := x.C (ix2 d e)
  n d := x.n (ix2 0 d)
  m := x.m (ix2 0 0)

theorem toCol_apply {α : Type} (y : (Row L).Idx → α) (t : Fin L) (u : Fin 1) :
    shapeCast (Mat L 1) y hL.toCol (ix2 t u) = y (ix1 t) := shapeCast_a_a1_apply y hL.toCol t u

theorem toRow_apply {α : Type} (y : (Row L).Idx → α) (u : Fin 1) (t : Fin L) :
    shapeCast (Mat 1 L) y hL.toRow (ix2 u t) = y (ix1 t) := shapeCast_a_1a_apply y hL.toRow u t

/-- A column spread over a matrix's columns. -/
theorem spreadCol {α : Type} {a b : ℕ} (y : (Mat a 1).Idx → α) (h : (Mat a 1).Broadcasts (Mat a b)) (i : Fin a) (j : Fin b) :
    broadcastTo (Mat a b) y h (ix2 i j) = y (ix2 i 0) := by
  refine broadcastTo_apply y h _ _ fun c => ?_
  match c with
  | ⟨0, _⟩ =>
    show i.val = if a = 1 then 0 else i.val
    split
    · have := i.isLt; omega
    · rfl
  | ⟨1, _⟩ => rfl

/-- A row spread over a matrix's rows. -/
theorem spreadRow {α : Type} {a b : ℕ} (y : (Mat 1 b).Idx → α) (h : (Mat 1 b).Broadcasts (Mat a b)) (i : Fin a) (j : Fin b) :
    broadcastTo (Mat a b) y h (ix2 i j) = y (ix2 0 j) := by
  refine broadcastTo_apply y h _ _ fun c => ?_
  match c with
  | ⟨0, _⟩ => rfl
  | ⟨1, _⟩ =>
    show j.val = if b = 1 then 0 else j.val
    split
    · have := j.isLt; omega
    · rfl

/-- One number spread over a matrix. -/
theorem spreadOne {α : Type} {a b : ℕ} (y : (Mat 1 1).Idx → α) (h : (Mat 1 1).Broadcasts (Mat a b)) (i : Fin a) (j : Fin b) :
    broadcastTo (Mat a b) y h (ix2 i j) = y (ix2 0 0) := by
  refine broadcastTo_apply y h _ _ fun c => ?_
  match c with
  | ⟨0, _⟩ => rfl
  | ⟨1, _⟩ => rfl

/-- A sum along a matrix's rows. -/
theorem sumRow {a b : ℕ} (y : FVec Ideal (Mat a b) .f32) (h : (Mat a b).Reduces [1] (Row a)) (hφ hacc) (i : Fin a) :
    multiReduction .add [1] (Row a) y 0x00000000#32 h hφ hacc (ix1 i) = ∑ j : Fin b, y (ix2 i j) := by
  rw [Ideal.multiReduction_add_single]
  refine sum_congr rfl fun j _ => congrArg y (funext fun c => Fin.ext ?_)
  match c with
  | ⟨0, _⟩ => rfl
  | ⟨1, _⟩ => rfl

/-- A sum along a matrix's columns. -/
theorem sumCol {a b : ℕ} (y : FVec Ideal (Mat a b) .f32) (h : (Mat a b).Reduces [0] (Row b)) (hφ hacc) (j : Fin b) :
    multiReduction .add [0] (Row b) y 0x00000000#32 h hφ hacc (ix1 j) = ∑ i : Fin a, y (ix2 i j) := by
  rw [Ideal.multiReduction_add_single]
  refine sum_congr rfl fun i _ => congrArg y (funext fun c => Fin.ext ?_)
  match c with
  | ⟨0, _⟩ => rfl
  | ⟨1, _⟩ => rfl

/-- The word of negative infinity. -/
theorem negInf : Ideal.ofBits .f32 0xFF800000#32 = ⊥ := by
  simp [Ideal.ofBits, Ideal.ieee]

/-- A maximum along a matrix's rows. -/
theorem maxRow {a b : ℕ} (y : FVec Ideal (Mat a b) .f32) (h : (Mat a b).Reduces [1] (Row a)) (hφ hacc) (i : Fin a) :
    multiReduction .maximumf [1] (Row a) y 0xFF800000#32 h hφ hacc (ix1 i)
      = (univ : Finset (Fin b)).fold max ⊥ fun j => y (ix2 i j) := by
  rw [Ideal.multiReduction_maximumf_single]
  refine congrArg₂ (fun z f => (univ : Finset (Fin b)).fold max z f) negInf (funext fun j => congrArg y (funext fun c => Fin.ext ?_))
  match c with
  | ⟨0, _⟩ => rfl
  | ⟨1, _⟩ => rfl

/-- The mask of the positions up to the row's. -/
theorem causal_select {α : Type} (y z : (Mat L L).Idx → α) (t s : Fin L) :
    select (cmpi .sle (col L) (row L)) y z (ix2 t s) = if s.val ≤ t.val then y (ix2 t s) else z (ix2 t s) := by
  have hl := hL.small
  have h : cmpi .sle (col L) (row L) (ix2 t s) = BitVec.ofBool (decide (s.val ≤ t.val)) := by
    have := s.isLt; have := t.isLt
    show IntOp.cmpi .sle (BitVec.ofNat 32 (0 * L + s.val)) (BitVec.ofNat 32 (0 * L + t.val)) = _
    rw [WordCmp.cmpi_sle_ofNat (by omega) (by omega)]
    simp
  rw [select_apply, h]
  by_cases c : s.val ≤ t.val <;> simp [c, select_one, select_zero]

/-- The mask of the diagonal. -/
theorem diag_select {α : Type} (y z : (Mat L L).Idx → α) (t s : Fin L) :
    select (cmpi .eq (row L) (col L)) y z (ix2 t s) = if t = s then y (ix2 t s) else z (ix2 t s) := by
  have hl := hL.small
  have h : cmpi .eq (row L) (col L) (ix2 t s) = BitVec.ofBool (decide (t = s)) := by
    have := s.isLt; have := t.isLt
    show IntOp.cmpi .eq (BitVec.ofNat 32 (0 * L + t.val)) (BitVec.ofNat 32 (0 * L + s.val)) = _
    rw [WordCmp.cmpi_eq_ofNat (by omega) (by omega)]
    simp [Fin.ext_iff]
  rw [select_apply, h]
  by_cases c : t = s <;> simp [c, select_one, select_zero]

theorem bCol_apply (t : Fin L) (u : Fin 1) : x.bCol (ix2 t u) = x.chunk.b t := by
  unfold bCol Chunk.b
  rw [toCol_apply, sumRow]
  refine sum_congr rfl fun s _ => ?_
  rw [causal_select, spreadRow, shapeCast_self]
  exact congrArg (fun z => if s.val ≤ t.val then _ else z) Ideal.ofBits_zero_f32

theorem bRow_apply (u : Fin 1) (t : Fin L) : x.bRow (ix2 u t) = x.chunk.b t := by
  unfold bRow
  rw [toRow_apply, sumCol]
  rw [sum_eq_single t]
  · rw [diag_select, if_pos rfl, spreadCol, shapeCast_self, bCol_apply]
  · intro s _ hs
    rw [diag_select, if_neg hs]
    exact Ideal.ofBits_zero_f32
  · intro h; exact absurd (mem_univ t) h

theorem dm_apply (t s : Fin L) : x.dm (ix2 t s) = x.chunk.dm t s := by
  unfold dm Chunk.dm
  rw [causal_select, addf_apply, subf_apply, spreadCol, spreadRow, spreadRow, bCol_apply, bRow_apply]
  exact congrArg (fun z => if s.val ≤ t.val then _ else z) negInf

theorem ms_apply (t : Fin L) (u : Fin 1) : x.ms (ix2 t u) = x.chunk.b t + x.chunk.m := by
  unfold ms
  rw [addf_apply, bCol_apply, spreadOne]; rfl

theorem mt_apply (t : Fin L) (u : Fin 1) : x.mt (ix2 t u) = x.chunk.mt t := by
  unfold mt Chunk.mt
  rw [maximumf_apply, ms_apply, toCol_apply, maxRow]
  simp only [dm_apply]

theorem ss_apply (t : Fin L) (u : Fin 1) : x.ss (ix2 t u) = x.chunk.ss t := by
  show Ideal.exp (x.ms (ix2 t u) - x.mt (ix2 t u)) = _
  rw [ms_apply, mt_apply]; rfl

theorem w_apply (t s : Fin L) : x.w (ix2 t s) = x.chunk.w t s := by
  unfold w Chunk.w
  rw [mulf_apply]
  refine congrArg₂ (· * ·) ?_ ?_
  · show Ideal.exp (x.dm (ix2 t s) - broadcastTo (Mat L L) x.mt hL.colSq (ix2 t s)) = _
    rw [dm_apply, spreadCol, mt_apply]
  · simp only [matmul]
    rw [Ideal.matmul_transposedRhs_apply, constant_apply, Ideal.ofBits_zero_f32, zero_add]; rfl

theorem num_apply (t : Fin L) (e : Fin 512) : x.num (ix2 t e) = x.chunk.num t e := by
  unfold num Chunk.num
  rw [addf_apply, mulf_apply, spreadCol, ss_apply]
  simp only [matmul]
  rw [Ideal.matmul_plain_apply, Ideal.matmul_plain_apply, constant_apply, Ideal.ofBits_zero_f32, zero_add, zero_add]
  refine congrArg₂ (· + ·) rfl (sum_congr rfl fun s _ => ?_)
  rw [truncf_apply, w_apply]; rfl

theorem den_apply (t : Fin L) (u : Fin 1) : x.den (ix2 t u) = x.chunk.den t := by
  unfold den Chunk.den
  rw [addf_apply, mulf_apply, ss_apply, toCol_apply, toCol_apply, sumRow, sumRow]
  simp only [w_apply, mulf_apply, extf_apply, spreadRow]; rfl

/-- The outputs at an index. -/
theorem h_apply (t : Fin L) (e : Fin 512) : x.h (ix2 t e) = x.chunk.h t e := by
  unfold h Chunk.h
  rw [truncf_apply, divf_apply, num_apply, spreadCol, maximumf_apply]
  refine congrArg (Ideal.div _) (congrArg₂ max ?_ ?_)
  · show max (x.den (ix2 t 0)) (-x.den (ix2 t 0)) = _
    rw [den_apply]
  · show Ideal.exp (Ideal.ofBits .f32 0x00000000#32 - x.mt (ix2 t 0)) = _
    rw [mt_apply, Ideal.ofBits_zero_f32, zero_sub]

variable (l : Fin L) (hl : l.val + 1 = L)
include hl

theorem g_apply (u u' : Fin 1) : x.g (ix2 u u') = x.chunk.b l := by
  unfold g
  rw [extractStridedSlice_apply _ _ _ _ (ix2 0 l), bRow_apply]
  intro a
  obtain rfl : u = 0 := Subsingleton.elim _ _
  obtain rfl : u' = 0 := Subsingleton.elim _ _
  match a with
  | ⟨0, _⟩ => rfl
  | ⟨1, _⟩ => show l.val = L - 1 + 0; omega

theorem dec_apply (u : Fin 1) (s : Fin L) : x.dec (ix2 u s) = x.chunk.dec l s := by
  obtain rfl : u = 0 := Subsingleton.elim _ _
  unfold dec Chunk.dec
  rw [addf_apply, subf_apply, spreadOne, g_apply x l hl, bRow_apply]; rfl

/-- The stabilizer after the chunk, at its index. -/
theorem mn_apply (u u' : Fin 1) : x.mn (ix2 u u') = x.chunk.mn l := by
  obtain rfl : u = 0 := Subsingleton.elim _ _
  obtain rfl : u' = 0 := Subsingleton.elim _ _
  unfold mn Chunk.mn
  rw [maximumf_apply, addf_apply, g_apply x l hl, shapeCast_a_a1_apply, maxRow]
  simp only [dec_apply x l hl]; rfl

theorem so_apply (u u' : Fin 1) : x.so (ix2 u u') = x.chunk.so l := by
  obtain rfl : u = 0 := Subsingleton.elim _ _
  obtain rfl : u' = 0 := Subsingleton.elim _ _
  show Ideal.exp (x.g (ix2 0 0) + x.m (ix2 0 0) - x.mn (ix2 0 0)) = _
  rw [g_apply x l hl, mn_apply x l hl]; rfl

theorem kw_apply (s : Fin L) (d : Fin 256) : x.kw (ix2 s d) = x.chunk.kw l s d := by
  unfold kw Chunk.kw
  rw [mulf_apply, extf_apply, spreadCol, toCol_apply, sumRow, sum_eq_single s]
  · rw [diag_select, if_pos rfl, spreadRow, shapeCast_self]
    show x.k (ix2 s d) * Ideal.exp (x.dec (ix2 0 s) - broadcastTo (Mat 1 L) x.mn hL.oneRow (ix2 0 s)) = _
    rw [dec_apply x l hl, spreadOne, mn_apply x l hl]; rfl
  · intro t _ ht
    rw [diag_select, if_neg (Ne.symm ht)]
    exact Ideal.ofBits_zero_f32
  · intro h; exact absurd (mem_univ s) h

/-- The matrix memory after the chunk, at an index. -/
theorem Cn_apply (d : Fin 256) (e : Fin 512) : x.Cn (ix2 d e) = x.chunk.Cn l d e := by
  unfold Cn Chunk.Cn
  rw [addf_apply, mulf_apply, spreadOne, so_apply x l hl]
  simp only [matmul]
  rw [dotTN_apply, constant_apply, Ideal.ofBits_zero_f32, zero_add]
  refine congrArg₂ (· + ·) rfl (sum_congr rfl fun s _ => ?_)
  rw [truncf_apply, kw_apply x l hl]; rfl

/-- The normalizer after the chunk, at an index. -/
theorem nn_apply (u : Fin 1) (d : Fin 256) : x.nn (ix2 u d) = x.chunk.nn l d := by
  obtain rfl : u = 0 := Subsingleton.elim _ _
  unfold nn Chunk.nn
  rw [addf_apply, mulf_apply, spreadOne, so_apply x l hl, shapeCast_a_1a_apply, sumCol]
  simp only [kw_apply x l hl]; rfl

end Ideal

end ChunkIn

end Cert.Mlstm
-- ==== Proof.KernelRun.lean ====
/-
  The kernel's run at one grid point (one batch element, two heads), in the chunk operations: what it reads for each
  chunk, what it leaves in its three state buffers after each chunk, and the pieces of its output.
-/
module

public import proofs.«01_k».proof.Proof.Chunk
public import proofs.«01_k».proof.Proof.Gen.KernelIdeal.Value

@[expose] public section

set_option maxRecDepth 16384

noncomputable section

namespace Cert.Mlstm

open Idealize.ShloMosaic Cert.KernelIdeal Cert.KernelIdeal.Gen

instance shapes16 : ChunkShapes 16 := by constructor <;> decide
instance shapes512 : ChunkShapes 512 := by constructor <;> decide

/-- What the loads and stores of a chunk of length `L` ask of their shapes. -/
class LoadShapes (L : ℕ) : Prop where
  gate : (⟨4, ![1, 1, 1, L]⟩ : Shape).ShapeCasts (Mat 1 L)
  key : (⟨3, ![1, L, 256]⟩ : Shape).ShapeCasts (Mat L 256)
  val : (⟨3, ![1, L, 512]⟩ : Shape).ShapeCasts (Mat L 512)
  back : (Mat L 512).ShapeCasts ⟨3, ![1, L, 512]⟩

instance loads16 : LoadShapes 16 := by constructor <;> decide
instance loads512 : LoadShapes 512 := by constructor <;> decide

theorem castC : S1x256x512.ShapeCasts (Mat 256 512) := by decide
theorem castC' : (Mat 256 512).ShapeCasts S1x256x512 := by decide
theorem castN : S1x1x256.ShapeCasts (Mat 1 256) := by decide
theorem castN' : (Mat 1 256).ShapeCasts S1x1x256 := by decide
theorem castM : S1x1x1.ShapeCasts (Mat 1 1) := by decide
theorem castM' : (Mat 1 1).ShapeCasts S1x1x1 := by decide

theorem inC (h : Fin 2) : ∀ a, (![h.val, 0, 0] : Fin 3 → ℕ) a + S1x256x512.size a ≤ S2x256x512.size a := by
  revert h; decide
theorem inN (h : Fin 2) : ∀ a, (![h.val, 0, 0] : Fin 3 → ℕ) a + S1x1x256.size a ≤ S2x1x256.size a := by
  revert h; decide
theorem inM (h : Fin 2) : ∀ a, (![h.val, 0, 0] : Fin 3 → ℕ) a + S1x1x1.size a ≤ S2x1x1.size a := by
  revert h; decide

/-- Head `h` of the buffer of matrix memories. -/
abbrev rectC (h : Fin 2) : Rect S2x256x512 := Rect.unit ![h.val, 0, 0] S1x256x512.size (inC h)
/-- Head `h` of the buffer of normalizers. -/
abbrev rectN (h : Fin 2) : Rect S2x1x256 := Rect.unit ![h.val, 0, 0] S1x1x256.size (inN h)
/-- Head `h` of the buffer of stabilizers. -/
abbrev rectM (h : Fin 2) : Rect S2x1x1 := Rect.unit ![h.val, 0, 0] S1x1x1.size (inM h)

section
variable {F : FTy → Type} [FloatOps F] {L K : ℕ}

/-- The chunk of head `h` whose `L` tokens are rows `row, row + 1, …` of the blocks, its gates the row `ck` of the gate
    blocks: what the kernel loads of it. -/
def kin [LoadShapes L] (h : Fin 2) (row ck cq cv : ℕ)
    (hq : ∀ a, (![0, row, cq] : Fin 3 → ℕ) a + (![1, L, 256] : Fin 3 → ℕ) a ≤ S1x2064x512.size a)
    (hv : ∀ a, (![0, row, cv] : Fin 3 → ℕ) a + (![1, L, 512] : Fin 3 → ℕ) a ≤ S1x2064x1024.size a)
    (hg : ∀ a, (![0, h.val, ck, 0] : Fin 4 → ℕ) a + (![1, 1, 1, L] : Fin 4 → ℕ) a ≤ (![1, 2, K, L] : Fin 4 → ℕ) a)
    (aq ak : Memref sig .tc .vmem S1x2064x512 .bf16) (haq : aq.IsWhole) (hak : ak.IsWhole)
    (av : Memref sig .tc .vmem S1x2064x1024 .bf16) (hav : av.IsWhole)
    (ai af : Memref sig .tc .vmem ⟨4, ![1, 2, K, L]⟩ .f32) (hai : ai.IsWhole) (haf : af.IsWhole)
    (aC : Memref sig .tc .vmem S2x256x512 .f32) (aN : Memref sig .tc .vmem S2x1x256 .f32)
    (aM : Memref sig .tc .vmem S2x1x1 .f32)
    (xq xk : Vec F S1x2064x512 .bf16) (xv : Vec F S1x2064x1024 .bf16) (xi xf : Vec F ⟨4, ![1, 2, K, L]⟩ .f32)
    (PC : List (View.Piece (Elt F) S2x256x512 .f32)) (PN : List (View.Piece (Elt F) S2x1x256 .f32))
    (PM : List (View.Piece (Elt F) S2x1x1 .f32)) : ChunkIn L F where
  ig := shapeCast (Mat 1 L) (View.readAt (Elt F) ai.view
    (Rect.unit (s := ⟨4, ![1, 2, K, L]⟩) ![0, h.val, ck, 0] ![1, 1, 1, L] hg).toLoadRect (hai.unread xi)) LoadShapes.gate
  f := shapeCast (Mat 1 L) (View.readAt (Elt F) af.view
    (Rect.unit (s := ⟨4, ![1, 2, K, L]⟩) ![0, h.val, ck, 0] ![1, 1, 1, L] hg).toLoadRect (haf.unread xf)) LoadShapes.gate
  q := shapeCast (Mat L 256) (View.readAt (Elt F) aq.view
    (Rect.unit (s := S1x2064x512) ![0, row, cq] ![1, L, 256] hq).toLoadRect (haq.unread xq)) LoadShapes.key
  k := shapeCast (Mat L 256) (View.readAt (Elt F) ak.view
    (Rect.unit (s := S1x2064x512) ![0, row, cq] ![1, L, 256] hq).toLoadRect (hak.unread xk)) LoadShapes.key
  v := shapeCast (Mat L 512) (View.readAt (Elt F) av.view
    (Rect.unit (s := S1x2064x1024) ![0, row, cv] ![1, L, 512] hv).toLoadRect (hav.unread xv)) LoadShapes.val
  C := shapeCast (Mat 256 512) (aC.view.readCov PC (rectC h).toLoadRect) castC
  n := shapeCast (Mat 1 256) (aN.view.readCov PN (rectN h).toLoadRect) castN
  m := shapeCast (Mat 1 1) (aM.view.readCov PM (rectM h).toLoadRect) castM

variable [ChunkShapes L]

/-- The matrix memories after a chunk of both heads. -/
def putC (x : Fin 2 → ChunkIn L F) (P : List (View.Piece (Elt F) S2x256x512 .f32)) : List (View.Piece (Elt F) S2x256x512 .f32) :=
  ⟨rectC 1, shapeCast S1x256x512 (x 1).Cn castC'⟩ :: ⟨rectC 0, shapeCast S1x256x512 (x 0).Cn castC'⟩ :: P
/-- The normalizers after a chunk of both heads. -/
def putN (x : Fin 2 → ChunkIn L F) (P : List (View.Piece (Elt F) S2x1x256 .f32)) : List (View.Piece (Elt F) S2x1x256 .f32) :=
  ⟨rectN 1, shapeCast S1x1x256 (x 1).nn castN'⟩ :: ⟨rectN 0, shapeCast S1x1x256 (x 0).nn castN'⟩ :: P
/-- The stabilizers after a chunk of both heads. -/
def putM (x : Fin 2 → ChunkIn L F) (P : List (View.Piece (Elt F) S2x1x1 .f32)) : List (View.Piece (Elt F) S2x1x1 .f32) :=
  ⟨rectM 1, shapeCast S1x1x1 (x 1).mn castM'⟩ :: ⟨rectM 0, shapeCast S1x1x1 (x 0).mn castM'⟩ :: P

end

/-- The run's three state buffers, as the lists of their writes. -/
structure States (F : FTy → Type) where
  C : List (View.Piece (Elt F) S2x256x512 .f32)
  N : List (View.Piece (Elt F) S2x1x256 .f32)
  M : List (View.Piece (Elt F) S2x1x1 .f32)

/-- The buffers after a chunk of both heads. -/
def States.after {F : FTy → Type} [FloatOps F] {L : ℕ} [ChunkShapes L] (s : States F) (x : Fin 2 → ChunkIn L F) : States F :=
  ⟨putC x s.C, putN x s.N, putM x s.M⟩

/-- What one grid point runs on: its memrefs and its input blocks. -/
structure Point (F : FTy → Type) where
  c : Dev nD
  i : grid0.Coords
  arg2 : Memref sig .tc .vmem S1x2064x512 .bf16
  harg2 : arg2.IsWhole
  arg3 : Memref sig .tc .vmem S1x2064x512 .bf16
  harg3 : arg3.IsWhole
  arg4 : Memref sig .tc .vmem S1x2064x1024 .bf16
  harg4 : arg4.IsWhole
  arg5 : Memref sig .tc .vmem S1x2x4x512 .f32
  harg5 : arg5.IsWhole
  arg6 : Memref sig .tc .vmem S1x2x4x512 .f32
  harg6 : arg6.IsWhole
  arg7 : Memref sig .tc .vmem S1x2x1x16 .f32
  harg7 : arg7.IsWhole
  arg8 : Memref sig .tc .vmem S1x2x1x16 .f32
  harg8 : arg8.IsWhole
  arg9 : Memref sig .tc .vmem S1x2064x1024 .bf16
  harg9 : arg9.IsWhole
  arg10 : Memref sig .tc .vmem S2x256x512 .f32
  harg10 : arg10.IsWhole
  arg11 : Memref sig .tc .vmem S2x1x256 .f32
  harg11 : arg11.IsWhole
  arg12 : Memref sig .tc .vmem S2x1x1 .f32
  harg12 : arg12.IsWhole
  x0 : Vec F S1x2064x512 .bf16
  x1 : Vec F S1x2064x512 .bf16
  x2 : Vec F S1x2064x1024 .bf16
  x3 : Vec F S1x2x4x512 .f32
  x4 : Vec F S1x2x4x512 .f32
  x5 : Vec F S1x2x1x16 .f32
  x6 : Vec F S1x2x1x16 .f32

namespace Point
variable {F : FTy → Type} [FloatOps F] (a : Point F)

/-- What the kernel loads for the leading chunk of 16 tokens, head `h`, over state buffers `s`. -/
def first (s : States F) (h : Fin 2) : ChunkIn 16 F :=
  kin h 2048 0 (256 * h.val) (512 * h.val) (by revert h; decide) (by revert h; decide) (by revert h; decide)
    a.arg2 a.arg3 a.harg2 a.harg3 a.arg4 a.harg4 a.arg7 a.arg8 a.harg7 a.harg8 a.arg10 a.arg11 a.arg12
    a.x0 a.x1 a.x2 a.x5 a.x6 s.C s.N s.M

/-- What the kernel loads for the chunk `j` of 512 tokens, head `h`, over state buffers `s`. -/
def later (j : Fin 4) (s : States F) (h : Fin 2) : ChunkIn 512 F :=
  kin h (512 * j.val) j.val (256 * h.val) (512 * h.val) (by revert h j; decide) (by revert h j; decide) (by revert h j; decide)
    a.arg2 a.arg3 a.harg2 a.harg3 a.arg4 a.harg4 a.arg5 a.arg6 a.harg5 a.harg6 a.arg10 a.arg11 a.arg12
    a.x0 a.x1 a.x2 a.x3 a.x4 s.C s.N s.M

/-- The state buffers before the first chunk: zeros. -/
def S0 : States F := ⟨kernelRun0_A.sl.HS0_1, kernelRun0_A.sl.HS1_1, kernelRun0_A.sl.HS2_1⟩
/-- … after the leading chunk. -/
def S1 : States F := ⟨kernelRun0_A.sl.HS0_3 a.c a.arg3 a.harg3 a.arg4 a.harg4 a.arg7 a.harg7 a.arg8 a.harg8 a.arg10 a.arg12 a.x1 a.x2 a.x5 a.x6,
  kernelRun0_A.sl.HS1_3 a.c a.arg3 a.harg3 a.arg7 a.harg7 a.arg8 a.harg8 a.arg11 a.arg12 a.x1 a.x5 a.x6,
  kernelRun0_A.sl.HS2_3 a.c a.arg7 a.harg7 a.arg8 a.harg8 a.arg12 a.x5 a.x6⟩
/-- … after the chunk 0 of 512 tokens. -/
def S2 : States F := ⟨kernelRun0_A.sl.HS0_5 a.c a.arg3 a.harg3 a.arg4 a.harg4 a.arg5 a.harg5 a.arg6 a.harg6 a.arg7 a.harg7 a.arg8 a.harg8 a.arg10 a.arg12 a.x1 a.x2 a.x3 a.x4 a.x5 a.x6,
  kernelRun0_A.sl.HS1_5 a.c a.arg3 a.harg3 a.arg5 a.harg5 a.arg6 a.harg6 a.arg7 a.harg7 a.arg8 a.harg8 a.arg11 a.arg12 a.x1 a.x3 a.x4 a.x5 a.x6,
  kernelRun0_A.sl.HS2_5 a.c a.arg5 a.harg5 a.arg6 a.harg6 a.arg7 a.harg7 a.arg8 a.harg8 a.arg12 a.x3 a.x4 a.x5 a.x6⟩
/-- … after the chunk 1 of 512 tokens. -/
def S3 : States F := ⟨kernelRun0_A.sl.HS0_7 a.c a.arg3 a.harg3 a.arg4 a.harg4 a.arg5 a.harg5 a.arg6 a.harg6 a.arg7 a.harg7 a.arg8 a.harg8 a.arg10 a.arg12 a.x1 a.x2 a.x3 a.x4 a.x5 a.x6,
  kernelRun0_A.sl.HS1_7 a.c a.arg3 a.harg3 a.arg5 a.harg5 a.arg6 a.harg6 a.arg7 a.harg7 a.arg8 a.harg8 a.arg11 a.arg12 a.x1 a.x3 a.x4 a.x5 a.x6,
  kernelRun0_A.sl.HS2_7 a.c a.arg5 a.harg5 a.arg6 a.harg6 a.arg7 a.harg7 a.arg8 a.harg8 a.arg12 a.x3 a.x4 a.x5 a.x6⟩
/-- … after the chunk 2 of 512 tokens. -/
def S4 : States F := ⟨kernelRun0_A.sl.HS0_9 a.c a.arg3 a.harg3 a.arg4 a.harg4 a.arg5 a.harg5 a.arg6 a.harg6 a.arg7 a.harg7 a.arg8 a.harg8 a.arg10 a.arg12 a.x1 a.x2 a.x3 a.x4 a.x5 a.x6,
  kernelRun0_A.sl.HS1_9 a.c a.arg3 a.harg3 a.arg5 a.harg5 a.arg6 a.harg6 a.arg7 a.harg7 a.arg8 a.harg8 a.arg11 a.arg12 a.x1 a.x3 a.x4 a.x5 a.x6,
  kernelRun0_A.sl.HS2_9 a.c a.arg5 a.harg5 a.arg6 a.harg6 a.arg7 a.harg7 a.arg8 a.harg8 a.arg12 a.x3 a.x4 a.x5 a.x6⟩

theorem S1_eq : a.S1 = S0.after (a.first S0) := by
  unfold S1 States.after; congr 1
theorem S2_eq : a.S2 = a.S1.after (a.later 0 a.S1) := by
  unfold S2 States.after; congr 1
theorem S3_eq : a.S3 = a.S2.after (a.later 1 a.S2) := by
  unfold S3 States.after; congr 1
theorem S4_eq : a.S4 = a.S3.after (a.later 2 a.S3) := by
  unfold S4 States.after; congr 1

/-- The leading chunk's rows of head `h` in the output block. -/
abbrev outFirst (h : Fin 2) : Rect S1x2064x1024 :=
  Rect.unit ![0, 2048, 512 * h.val] ![1, 16, 512] (by revert h; decide)
/-- The rows of chunk `j` of head `h` in the output block. -/
abbrev outLater (j : Fin 4) (h : Fin 2) : Rect S1x2064x1024 :=
  Rect.unit ![0, 512 * j.val, 512 * h.val] ![1, 512, 512] (by revert h j; decide)

/-- What is stored for the leading chunk. -/
def pieceFirst (s : States F) (h : Fin 2) : View.Piece (Elt F) S1x2064x1024 .bf16 :=
  ⟨outFirst h, shapeCast ⟨3, ![1, 16, 512]⟩ (a.first s h).h LoadShapes.back⟩
/-- What is stored for the chunk `j`. -/
def pieceLater (j : Fin 4) (s : States F) (h : Fin 2) : View.Piece (Elt F) S1x2064x1024 .bf16 :=
  ⟨outLater j h, shapeCast ⟨3, ![1, 512, 512]⟩ (a.later j s h).h LoadShapes.back⟩

set_option maxHeartbeats 3200000 in
/-- The run's writes to its output block, the last first. -/
theorem pieces : (kernelRun0_A a.c a.i a.arg2 a.harg2 a.arg3 a.harg3 a.arg4 a.harg4 a.arg5 a.harg5 a.arg6 a.harg6
      a.arg7 a.harg7 a.arg8 a.harg8 a.arg9 a.harg9 a.arg10 a.harg10 a.arg11 a.harg11 a.arg12 a.harg12
      a.x0 a.x1 a.x2 a.x3 a.x4 a.x5 a.x6).1
    = [a.pieceLater 3 a.S4 1, a.pieceLater 3 a.S4 0, a.pieceLater 2 a.S3 1, a.pieceLater 2 a.S3 0,
       a.pieceLater 1 a.S2 1, a.pieceLater 1 a.S2 0, a.pieceLater 0 a.S1 1, a.pieceLater 0 a.S1 0,
       a.pieceFirst S0 1, a.pieceFirst S0 0] :=
  rfl

end Point

end Cert.Mlstm
-- ==== Proof.Inputs.lean ====
/-
  From the four argument arrays to the recurrence: the tokens of each batch element and head, and the array of the
  recurrence's outputs. The arrays store a sequence's 2048 tokens first and the 16 tokens that come first in time last.
-/
module

public import proofs.«01_k».proof.Proof.Chunk

@[expose] public section

noncomputable section

namespace Cert.Mlstm

open Idealize.ShloMosaic Idealize.ShloMosaic.ValueIdx

/-- The shape of a stack of matrices. -/
abbrev Cube (a b c : ℕ) : Shape := ⟨3, ![a, b, c]⟩

/-- The log-sigmoid. -/
def lsigR (x : ℝ) : ℝ := min x 0 - Real.log (1 + Real.exp (-|x|))

/-- The time of the token in row `r`. -/
def time (r : ℕ) : ℕ := if r < 2048 then 16 + r else r - 2048

/-- The row of the token at time `t`. -/
def rowAt (t : ℕ) : Fin 2064 := if h : t < 16 then ⟨2048 + t, by omega⟩ else ⟨(t - 16) % 2048, by omega⟩

theorem rowAt_time (r : Fin 2064) : rowAt (time r) = r := by
  obtain ⟨r, hr⟩ := r
  unfold time
  by_cases h : r < 2048
  · have h2 : ¬ 16 + r < 16 := by omega
    rw [if_pos h, rowAt, dif_neg h2]
    exact Fin.ext (show (16 + r - 16) % 2048 = r by omega)
  · have h2 : r - 2048 < 16 := by omega
    rw [if_neg h, rowAt, dif_pos h2]
    exact Fin.ext (show 2048 + (r - 2048) = r by omega)

/-- A number of the extended reals that is a real. -/
def IsReal (x : EReal) : Prop := ∃ r : ℝ, x = r

theorem IsReal.coe {x : EReal} (h : IsReal x) : ((x.toReal : ℝ) : EReal) = x := by
  obtain ⟨r, rfl⟩ := h; rfl

/-- The four argument arrays. -/
structure Args where
  q : (Cube 8 2064 2048).Idx → EReal
  k : (Cube 8 2064 2048).Idx → EReal
  v : (Cube 8 2064 4096).Idx → EReal
  g : (Cube 8 2064 16).Idx → EReal

/-- Every entry of the arrays is a real number. -/
structure Args.Real (a : Args) : Prop where
  q : ∀ y, IsReal (a.q y)
  k : ∀ y, IsReal (a.k y)
  v : ∀ y, IsReal (a.v y)
  g : ∀ y, IsReal (a.g y)

/-- Column `d` of head `H` among columns of `n` per head. -/
def col256 (H : Fin 8) (d : Fin 256) : Fin 2048 := ⟨256 * H.val + d.val, by omega⟩
def col512 (H : Fin 8) (e : Fin 512) : Fin 4096 := ⟨512 * H.val + e.val, by omega⟩
/-- The column of head `H`'s input gate. -/
def colI (H : Fin 8) : Fin 16 := ⟨H.val, by omega⟩
/-- The column of head `H`'s forget gate. -/
def colF (H : Fin 8) : Fin 16 := ⟨8 + H.val, by omega⟩

/-- The tokens of batch element `b`, head `H`. -/
def Args.tokens (a : Args) (b H : Fin 8) : Tokens (Fin 256) (Fin 512) where
  lf t := lsigR (a.g (ix3 b (rowAt t) (colF H))).toReal
  ig t := (a.g (ix3 b (rowAt t) (colI H))).toReal
  q t d := (a.q (ix3 b (rowAt t) (col256 H d))).toReal * (1 / 16)
  k t d := (a.k (ix3 b (rowAt t) (col256 H d))).toReal
  v t e := (a.v (ix3 b (rowAt t) (col512 H e))).toReal

/-- The recurrence's outputs, laid out as the arguments are. -/
def Args.outs (a : Args) (y : (Cube 8 2064 4096).Idx) : EReal :=
  (out (a.tokens (y 0) ⟨(y 2).val / 512, by have : (y 2).val < 4096 := (y 2).isLt; omega⟩) (time (y 1).val)
    ⟨(y 2).val % 512, Nat.mod_lt _ (by decide)⟩ : ℝ)

theorem Args.outs_eq (a : Args) (y : (Cube 8 2064 4096).Idx) (b H : Fin 8) (r : ℕ) (e : Fin 512) (hb : (y 0).val = b.val)
    (hr : (y 1).val = r) (he : (y 2).val = 512 * H.val + e.val) : a.outs y = (out (a.tokens b H) (time r) e : ℝ) := by
  have hh : (y 2).val / 512 = H.val := by rw [he]; omega
  have hm : (y 2).val % 512 = e.val := by rw [he]; omega
  have h0 : (y 0 : Fin 8) = b := Fin.ext hb
  unfold Args.outs
  simp only [hh, hm, hr]
  rw [h0]

/-- One sixteenth, as a word. -/
theorem sixteenth : Ideal.ofBits .f32 0x3D800000#32 = ((1 / 16 : ℝ) : EReal) := by
  simp [Ideal.ofBits, Ideal.ieee, -EReal.coe_mul]; norm_num

section
variable {a : Args} (ha : a.Real) (b H : Fin 8) (r : Fin 2064)
include ha

theorem Args.Real.q_eq (d : Fin 256) : a.q (ix3 b r (col256 H d)) * Ideal.ofBits .f32 0x3D800000#32
    = ((a.tokens b H).q (time r) d : ℝ) := by
  show _ = (((a.q (ix3 b (rowAt (time r)) (col256 H d))).toReal * (1 / 16) : ℝ) : EReal)
  rw [rowAt_time, EReal.coe_mul, (ha.q _).coe, sixteenth]

theorem Args.Real.k_eq (d : Fin 256) : a.k (ix3 b r (col256 H d)) = ((a.tokens b H).k (time r) d : ℝ) := by
  show _ = (((a.k (ix3 b (rowAt (time r)) (col256 H d))).toReal : ℝ) : EReal)
  rw [rowAt_time, (ha.k _).coe]

theorem Args.Real.v_eq (e : Fin 512) : a.v (ix3 b r (col512 H e)) = ((a.tokens b H).v (time r) e : ℝ) := by
  show _ = (((a.v (ix3 b (rowAt (time r)) (col512 H e))).toReal : ℝ) : EReal)
  rw [rowAt_time, (ha.v _).coe]

theorem Args.Real.ig_eq : a.g (ix3 b r (colI H)) = ((a.tokens b H).ig (time r) : ℝ) := by
  show _ = (((a.g (ix3 b (rowAt (time r)) (colI H))).toReal : ℝ) : EReal)
  rw [rowAt_time, (ha.g _).coe]

theorem Args.Real.lf_eq : ((lsigR (a.g (ix3 b r (colF H))).toReal : ℝ) : EReal) = ((a.tokens b H).lf (time r) : ℝ) := by
  show _ = ((lsigR (a.g (ix3 b (rowAt (time r)) (colF H))).toReal : ℝ) : EReal)
  rw [rowAt_time]

end

end Cert.Mlstm
-- ==== Proof.KernelPoint.lean ====
/-
  One grid point of the kernel over the extended reals: if its blocks hold the tokens of two heads, then each of its
  three state buffers holds the recurrence's state after every chunk, and its output block the recurrence's outputs.
-/
module

public import proofs.«01_k».proof.Proof.KernelRun
public import proofs.«01_k».proof.Proof.Inputs
public import Idealize.ShloMosaic.Lib.Pipeline.ValueKit.Geometry

@[expose] public section

set_option maxRecDepth 16384

noncomputable section

namespace Cert.Mlstm

open Idealize.ShloMosaic Idealize.ShloMosaic.ValueIdx Cert.KernelIdeal Cert.KernelIdeal.Gen

/-- The log-sigmoid as the kernel evaluates it. -/
def lsig (x : EReal) : EReal := min x 0 - Ideal.log (1 + Ideal.exp (0 - max x (-x)))

/-- On a real number it is the log-sigmoid. -/
theorem lsig_coe (x : ℝ) : lsig (x : EReal) = (lsigR x : ℝ) := by
  have e1 : max (x : EReal) (-(x : EReal)) = ((|x| : ℝ) : EReal) := by
    rw [← EReal.coe_neg, abs_eq_max_neg]; push_cast; rfl
  have e2 : (1 : EReal) + ((Real.exp (-|x|) : ℝ) : EReal) = ((1 + Real.exp (-|x|) : ℝ) : EReal) := by push_cast; rfl
  have pos : ¬ (1 + Real.exp (-|x|) ≤ 0) := not_le.2 (by positivity)
  unfold lsig lsigR
  rw [e1, zero_sub, ← EReal.coe_neg, Ideal.exp_coe, e2, Ideal.log_coe, if_neg pos]
  push_cast
  rfl

theorem zeroWord : Ideal.ofBits .f32 0x00000000#32 = 0 := Ideal.ofBits_zero_f32
theorem oneWord : Ideal.ofBits .f32 0x3F800000#32 = 1 := Ideal.ofBits_one_f32

namespace ChunkIn
variable {L : ℕ} [ChunkShapes L]

theorem lf_apply (x : ChunkIn L Ideal) (j : (Mat 1 L).Idx) : x.lf j = lsig (x.f j) := by
  show min (x.f j) (Ideal.ofBits .f32 0x00000000#32) - Ideal.log (Ideal.ofBits .f32 0x3F800000#32
    + Ideal.exp (Ideal.ofBits .f32 0x00000000#32 - max (x.f j) (-x.f j))) = _
  rw [zeroWord, oneWord]; rfl

end ChunkIn

section
variable {L K : ℕ} [LoadShapes L] (h : Fin 2) (row ck cq cv : ℕ)

/-- A load of key columns at an index. -/
theorem loadKey (hq) (a : Memref sig .tc .vmem S1x2064x512 .bf16) (ha : a.IsWhole) (x : Vec Ideal S1x2064x512 .bf16)
    (t : Fin L) (d : Fin 256) (r : Fin 2064) (e : Fin 512) (hr : r.val = row + t.val) (he : e.val = cq + d.val) :
    shapeCast (Mat L 256) (View.readAt (Elt Ideal) a.view
      (Rect.unit (s := S1x2064x512) ![0, row, cq] ![1, L, 256] hq).toLoadRect (ha.unread x)) LoadShapes.key (ix2 t d)
      = x (ix3 0 r e) := by
  rw [shapeCast_1ab_ab_apply, View.readAt_eq_ld, ha.read_unread]
  refine congrArg x (funext fun c => Fin.ext ?_)
  match c with
  | ⟨0, _⟩ => exact ValueKit.rect_emb_unit_val _ _ _ _ _
  | ⟨1, _⟩ => exact (ValueKit.rect_emb_unit_val _ _ _ _ _).trans hr.symm
  | ⟨2, _⟩ => exact (ValueKit.rect_emb_unit_val _ _ _ _ _).trans he.symm

/-- A load of value columns at an index. -/
theorem loadVal (hv) (a : Memref sig .tc .vmem S1x2064x1024 .bf16) (ha : a.IsWhole) (x : Vec Ideal S1x2064x1024 .bf16)
    (t : Fin L) (d : Fin 512) (r : Fin 2064) (e : Fin 1024) (hr : r.val = row + t.val) (he : e.val = cv + d.val) :
    shapeCast (Mat L 512) (View.readAt (Elt Ideal) a.view
      (Rect.unit (s := S1x2064x1024) ![0, row, cv] ![1, L, 512] hv).toLoadRect (ha.unread x)) LoadShapes.val (ix2 t d)
      = x (ix3 0 r e) := by
  rw [shapeCast_1ab_ab_apply, View.readAt_eq_ld, ha.read_unread]
  refine congrArg x (funext fun c => Fin.ext ?_)
  match c with
  | ⟨0, _⟩ => exact ValueKit.rect_emb_unit_val _ _ _ _ _
  | ⟨1, _⟩ => exact (ValueKit.rect_emb_unit_val _ _ _ _ _).trans hr.symm
  | ⟨2, _⟩ => exact (ValueKit.rect_emb_unit_val _ _ _ _ _).trans he.symm

/-- A load of a gate row at an index. -/
theorem loadGate (hg) (a : Memref sig .tc .vmem ⟨4, ![1, 2, K, L]⟩ .f32) (ha : a.IsWhole)
    (x : Vec Ideal ⟨4, ![1, 2, K, L]⟩ .f32) (u : Fin 1) (t : Fin L) (k : Fin K) (hk : k.val = ck) :
    shapeCast (Mat 1 L) (View.readAt (Elt Ideal) a.view
      (Rect.unit (s := ⟨4, ![1, 2, K, L]⟩) ![0, h.val, ck, 0] ![1, 1, 1, L] hg).toLoadRect (ha.unread x)) LoadShapes.gate (ix2 u t)
      = x (ix4 0 h k t) := by
  obtain rfl : u = 0 := Subsingleton.elim _ _
  rw [shapeCast_apply _ _ _ (ix4 0 0 0 t) (by simp [Shape.rowMajor_val_two, Shape.rowMajor_val_four]; rfl), View.readAt_eq_ld, ha.read_unread]
  refine congrArg x (funext fun c => Fin.ext ?_)
  match c with
  | ⟨0, _⟩ => exact ValueKit.rect_emb_unit_val _ _ _ _ _
  | ⟨1, _⟩ => exact ValueKit.rect_emb_unit_val _ _ _ _ _
  | ⟨2, _⟩ => exact (ValueKit.rect_emb_unit_val _ _ _ _ _).trans hk.symm
  | ⟨3, _⟩ => exact (ValueKit.rect_emb_unit_val _ _ _ _ _).trans (Nat.zero_add _)

end

section

theorem castBack {α : Type} {S T : Shape} (y : S.Idx → α) (h : S.ShapeCasts T) (h' : T.ShapeCasts S) :
    shapeCast S (shapeCast T y h) h' = y := by
  rw [shapeCast_shapeCast]

/-- After two writes at disjoint places the first is still read. -/
theorem readCov_second {s : Shape} {e : EltTy} (v : View sig .tc .vmem s e) (r₁ r₀ : Rect s)
    (hd : Disjoint r₁.set r₀.toLoadRect.set) (w₁ : r₁.shape.Idx → Elt Ideal e) (w₀ : r₀.shape.Idx → Elt Ideal e) (P) :
    v.readCov (⟨r₁, w₁⟩ :: ⟨r₀, w₀⟩ :: P) r₀.toLoadRect = w₀ := by
  rw [View.readCov_cons_of_disjoint _ _ _ _ hd, View.readCov_cons_toLoadRect]

end

variable {L : ℕ} [ChunkShapes L]

/-- The matrix memories a chunk leaves, read back. -/
theorem readC (v : View sig .tc .vmem S2x256x512 .f32) (x : Fin 2 → ChunkIn L Ideal) (P) (h : Fin 2) :
    shapeCast (Mat 256 512) (v.readCov (putC x P) (rectC h).toLoadRect) castC = (x h).Cn := by
  match h with
  | 0 =>
    rw [putC, readCov_second v (rectC 1) (rectC 0) (Rect.unit_disjoint 0 (.inr (by decide)))]; exact castBack _ _ _
  | 1 => rw [putC, View.readCov_cons_toLoadRect v (rectC 1)]; exact castBack _ _ _

/-- The normalizers a chunk leaves, read back. -/
theorem readN (v : View sig .tc .vmem S2x1x256 .f32) (x : Fin 2 → ChunkIn L Ideal) (P) (h : Fin 2) :
    shapeCast (Mat 1 256) (v.readCov (putN x P) (rectN h).toLoadRect) castN = (x h).nn := by
  match h with
  | 0 =>
    rw [putN, readCov_second v (rectN 1) (rectN 0) (Rect.unit_disjoint 0 (.inr (by decide)))]; exact castBack _ _ _
  | 1 => rw [putN, View.readCov_cons_toLoadRect v (rectN 1)]; exact castBack _ _ _

/-- The stabilizers a chunk leaves, read back. -/
theorem readM (v : View sig .tc .vmem S2x1x1 .f32) (x : Fin 2 → ChunkIn L Ideal) (P) (h : Fin 2) :
    shapeCast (Mat 1 1) (v.readCov (putM x P) (rectM h).toLoadRect) castM = (x h).mn := by
  match h with
  | 0 =>
    rw [putM, readCov_second v (rectM 1) (rectM 0) (Rect.unit_disjoint 0 (.inr (by decide)))]; exact castBack _ _ _
  | 1 => rw [putM, View.readCov_cons_toLoadRect v (rectM 1)]; exact castBack _ _ _

namespace Point
variable (a : Point Ideal)

/-- The state buffers `s` hold for head `h` the recurrence's state after `T` tokens. -/
structure Held (s : States Ideal) (h : Fin 2) (X : Tokens (Fin 256) (Fin 512)) (T : ℕ) : Prop where
  C : ∀ d e, shapeCast (Mat 256 512) (a.arg10.view.readCov s.C (rectC h).toLoadRect) castC (ix2 d e) = (stC X T d e : ℝ)
  n : ∀ d, shapeCast (Mat 1 256) (a.arg11.view.readCov s.N (rectN h).toLoadRect) castN (ix2 0 d) = (stN X T d : ℝ)
  m : shapeCast (Mat 1 1) (a.arg12.view.readCov s.M (rectM h).toLoadRect) castM (ix2 0 0) = (stM X T : ℝ)

/-- The input blocks hold the tokens of head `h`. -/
structure Holds (h : Fin 2) (X : Tokens (Fin 256) (Fin 512)) : Prop where
  q : ∀ (r : Fin 2064) (d : Fin 256) (e : Fin 512), e.val = 256 * h.val + d.val →
    a.x0 (ix3 0 r e) * Ideal.ofBits .f32 0x3D800000#32 = (X.q (time r) d : ℝ)
  k : ∀ (r : Fin 2064) (d : Fin 256) (e : Fin 512), e.val = 256 * h.val + d.val → a.x1 (ix3 0 r e) = (X.k (time r) d : ℝ)
  v : ∀ (r : Fin 2064) (d : Fin 512) (e : Fin 1024), e.val = 512 * h.val + d.val → a.x2 (ix3 0 r e) = (X.v (time r) d : ℝ)
  ig : ∀ (j : Fin 4) (u : Fin 512), a.x3 (ix4 0 h j u) = (X.ig (16 + 512 * j + u) : ℝ)
  lf : ∀ (j : Fin 4) (u : Fin 512), lsig (a.x4 (ix4 0 h j u)) = (X.lf (16 + 512 * j + u) : ℝ)
  igm : ∀ u : Fin 16, a.x5 (ix4 0 h 0 u) = (X.ig u : ℝ)
  lfm : ∀ u : Fin 16, lsig (a.x6 (ix4 0 h 0 u)) = (X.lf u : ℝ)

variable {a} {h : Fin 2} {X : Tokens (Fin 256) (Fin 512)}

/-- A buffer after one whole store of one number, read at any place. -/
theorem readWhole {s : Shape} (v : View sig .tc .vmem s .f32) (off : Fin s.rank → ℕ) (h0 : ∀ i, off i = 0) (inb)
    (w : s.Idx → EReal) (z : EReal) (hw : ∀ y, w y = z) (r : Rect s) (j : r.shape.Idx) :
    v.readCov (Val := Elt Ideal) [⟨Rect.unit off s.size inb, w⟩] r.toLoadRect j = z := by
  have : ∀ y, View.canon (Val := Elt Ideal) (e := .f32) [⟨Rect.unit off s.size inb, w⟩] y = w y := fun y =>
    congrFun (View.canon_cons_unit_zero (Val := Elt Ideal) (e := .f32) (funext h0) inb w []) y
  rw [View.readCov_eq_canon']
  exact (this _).trans (hw _)

theorem held_zero : a.Held S0 h X 0 where
  C _ _ := readWhole a.arg10.view _ (by decide) _ _ _ (fun _ => zeroWord) (rectC h) _
  n _ := readWhole a.arg11.view _ (by decide) _ _ _ (fun _ => zeroWord) (rectN h) _
  m := readWhole a.arg12.view _ (by decide) _ _ _ (fun _ => zeroWord) (rectM h) _

/-- A chunk that reads the state after `T` tokens and the next `L` tokens leaves the state after `T + L`. -/
theorem held_after (s : States Ideal) (x : Fin 2 → ChunkIn L Ideal) (T : ℕ) (l : Fin L) (hl : l.val + 1 = L)
    (hx : (x h).chunk = chunkOf L X T) : a.Held (s.after x) h X (T + L) where
  C d e := by
    show shapeCast (Mat 256 512) (a.arg10.view.readCov (putC x s.C) (rectC h).toLoadRect) castC (ix2 d e) = _
    rw [readC, ChunkIn.Cn_apply _ l hl, hx, Cn_coe X T l hl]
  n d := by
    show shapeCast (Mat 1 256) (a.arg11.view.readCov (putN x s.N) (rectN h).toLoadRect) castN (ix2 0 d) = _
    rw [readN, ChunkIn.nn_apply _ l hl, hx, nn_coe X T l hl]
  m := by
    show shapeCast (Mat 1 1) (a.arg12.view.readCov (putM x s.M) (rectM h).toLoadRect) castM (ix2 0 0) = _
    rw [readM, ChunkIn.mn_apply _ l hl, hx, mn_coe X T l hl]

/-- The leading chunk reads the first sixteen tokens. -/
theorem first_chunk (hX : a.Holds h X) (s : States Ideal) (hs : a.Held s h X 0) :
    (a.first s h).chunk = chunkOf 16 X 0 := by
  have e1 : ∀ t : Fin 16, time (2048 + t.val) = 0 + t.val := fun t => by unfold time; split <;> omega
  have e2 : ∀ t : Fin 16, t.val = 0 + t.val := fun t => by omega
  unfold ChunkIn.chunk chunkOf
  congr 1
  · funext t
    rw [ChunkIn.lf_apply, ← e2]
    exact (congrArg lsig (loadGate h 0 _ _ _ _ 0 t 0 rfl)).trans (hX.lfm t)
  · funext t
    rw [← e2]
    exact (loadGate h 0 _ _ _ _ 0 t 0 rfl).trans (hX.igm t)
  · funext t d
    have ht := t.isLt; have hd := d.isLt; have hh := h.isLt
    have := hX.q ⟨2048 + t.val, by omega⟩ d ⟨256 * h.val + d.val, by omega⟩ rfl
    rw [e1] at this
    exact (congrArg (· * _) (loadKey _ _ _ _ _ _ t d _ _ rfl rfl)).trans this
  · funext t d
    have ht := t.isLt; have hd := d.isLt; have hh := h.isLt
    have := hX.k ⟨2048 + t.val, by omega⟩ d ⟨256 * h.val + d.val, by omega⟩ rfl
    rw [e1] at this
    exact (loadKey _ _ _ _ _ _ t d _ _ rfl rfl).trans this
  · funext t d
    have ht := t.isLt; have hd := d.isLt; have hh := h.isLt
    have := hX.v ⟨2048 + t.val, by omega⟩ d ⟨512 * h.val + d.val, by omega⟩ rfl
    rw [e1] at this
    exact (loadVal _ _ _ _ _ _ t d _ _ rfl rfl).trans this
  · funext d e; exact hs.C d e
  · funext d; exact hs.n d
  · exact hs.m

/-- The chunk `j` of the others reads the next 512 tokens. -/
theorem later_chunk (hX : a.Holds h X) (j : Fin 4) (s : States Ideal) (hs : a.Held s h X (16 + 512 * j)) :
    (a.later j s h).chunk = chunkOf 512 X (16 + 512 * j) := by
  have e1 : ∀ t : Fin 512, time (512 * j.val + t.val) = 16 + 512 * j.val + t.val := fun t => by unfold time; split <;> omega
  unfold ChunkIn.chunk chunkOf
  congr 1
  · funext t
    rw [ChunkIn.lf_apply]
    exact (congrArg lsig (loadGate h j _ _ _ _ 0 t j rfl)).trans (hX.lf j t)
  · funext t
    exact (loadGate h j _ _ _ _ 0 t j rfl).trans (hX.ig j t)
  · funext t d
    have ht := t.isLt; have hd := d.isLt; have hh := h.isLt; have hj := j.isLt
    have := hX.q ⟨512 * j.val + t.val, by omega⟩ d ⟨256 * h.val + d.val, by omega⟩ rfl
    rw [e1] at this
    exact (congrArg (· * _) (loadKey _ _ _ _ _ _ t d _ _ rfl rfl)).trans this
  · funext t d
    have ht := t.isLt; have hd := d.isLt; have hh := h.isLt; have hj := j.isLt
    have := hX.k ⟨512 * j.val + t.val, by omega⟩ d ⟨256 * h.val + d.val, by omega⟩ rfl
    rw [e1] at this
    exact (loadKey _ _ _ _ _ _ t d _ _ rfl rfl).trans this
  · funext t d
    have ht := t.isLt; have hd := d.isLt; have hh := h.isLt; have hj := j.isLt
    have := hX.v ⟨512 * j.val + t.val, by omega⟩ d ⟨512 * h.val + d.val, by omega⟩ rfl
    rw [e1] at this
    exact (loadVal _ _ _ _ _ _ t d _ _ rfl rfl).trans this
  · funext d e; exact hs.C d e
  · funext d; exact hs.n d
  · exact hs.m

theorem held_one (hX : a.Holds h X) : a.Held a.S1 h X (16 + 512 * 0) := by
  rw [S1_eq]; exact held_after _ _ 0 15 rfl (first_chunk hX S0 held_zero)
theorem held_next (hX : a.Holds h X) (j : Fin 4) (s : States Ideal) (hs : a.Held s h X (16 + 512 * j)) :
    a.Held (s.after (a.later j s)) h X (16 + 512 * (j + 1)) :=
  held_after _ _ (16 + 512 * j) 511 rfl (later_chunk hX j s hs)
theorem held_two (hX : a.Holds h X) : a.Held a.S2 h X (16 + 512 * 1) := by
  rw [S2_eq]; exact held_next hX 0 _ (held_one hX)
theorem held_three (hX : a.Holds h X) : a.Held a.S3 h X (16 + 512 * 2) := by
  rw [S3_eq]; exact held_next hX 1 _ (held_two hX)
theorem held_four (hX : a.Holds h X) : a.Held a.S4 h X (16 + 512 * 3) := by
  rw [S4_eq]; exact held_next hX 2 _ (held_three hX)

/-- The output block of two heads' tokens. -/
def block (X : Fin 2 → Tokens (Fin 256) (Fin 512)) (y : S1x2064x1024.Idx) : EReal :=
  (out (X ⟨(y 2).val / 512, by have : (y 2).val < 1024 := (y 2).isLt; omega⟩) (time (y 1).val)
    ⟨(y 2).val % 512, Nat.mod_lt _ (by decide)⟩ : ℝ)

/-- A piece that agrees with a function at each of its indices. -/
def Agrees (g : S1x2064x1024.Idx → EReal) (p : View.Piece (Elt Ideal) S1x2064x1024 .bf16) : Prop :=
  ∀ x, p.2 x = g (p.1.emb x)

theorem block_eq (X : Fin 2 → Tokens (Fin 256) (Fin 512)) (y : S1x2064x1024.Idx) (h : Fin 2) (e : Fin 512)
    (he : (y 2).val = 512 * h.val + e.val) : block X y = (out (X h) (time (y 1).val) e : ℝ) := by
  have := e.isLt
  have hh : (y 2).val / 512 = h.val := (congrArg (· / 512) he).trans (by show (512 * h.val + e.val) / 512 = h.val; omega)
  have hm : (y 2).val % 512 = e.val := (congrArg (· % 512) he).trans (by show (512 * h.val + e.val) % 512 = e.val; omega)
  unfold block
  simp only [hh, hm]

theorem agrees_first {X : Fin 2 → Tokens (Fin 256) (Fin 512)} (hX : ∀ h, a.Holds h (X h)) (h : Fin 2) :
    Agrees (block X) (a.pieceFirst S0 h) := by
  intro (y : (⟨3, ![1, 16, 512]⟩ : Shape).Idx)
  obtain ⟨u, t, e, rfl⟩ : ∃ (u : Fin 1) (t : Fin 16) (e : Fin 512), y = ix3 u t e := ⟨y 0, y 1, y 2, eq_ix3 y⟩
  obtain rfl : u = 0 := Subsingleton.elim _ _
  have e2 : ((outFirst h).emb (ix3 0 t e) 2).val = 512 * h.val + e.val := ValueKit.rect_emb_unit_val _ _ _ _ _
  show shapeCast ⟨3, ![1, 16, 512]⟩ (a.first S0 h).h LoadShapes.back (ix3 0 t e) = block X ((outFirst h).emb (ix3 0 t e))
  rw [block_eq X _ h e e2]
  rw [shapeCast_ab_1ab_apply, ChunkIn.h_apply, first_chunk (hX h) S0 held_zero, h_coe]
  have : time (((outFirst h).emb (ix3 0 t e) 1).val) = 0 + t.val := by
    rw [show ((outFirst h).emb (ix3 0 t e) 1).val = 2048 + t.val from ValueKit.rect_emb_unit_val _ _ _ _ _]
    unfold time; split <;> omega
  exact congrArg (fun z => ((out (X h) z e : ℝ) : EReal)) this.symm

theorem agrees_later {X : Fin 2 → Tokens (Fin 256) (Fin 512)} (hX : ∀ h, a.Holds h (X h)) (j : Fin 4) (s : States Ideal)
    (h : Fin 2) (hs : a.Held s h (X h) (16 + 512 * j)) : Agrees (block X) (a.pieceLater j s h) := by
  intro (y : (⟨3, ![1, 512, 512]⟩ : Shape).Idx)
  obtain ⟨u, t, e, rfl⟩ : ∃ (u : Fin 1) (t : Fin 512) (e : Fin 512), y = ix3 u t e := ⟨y 0, y 1, y 2, eq_ix3 y⟩
  obtain rfl : u = 0 := Subsingleton.elim _ _
  have e2 : ((outLater j h).emb (ix3 0 t e) 2).val = 512 * h.val + e.val := ValueKit.rect_emb_unit_val _ _ _ _ _
  show shapeCast ⟨3, ![1, 512, 512]⟩ (a.later j s h).h LoadShapes.back (ix3 0 t e) = block X ((outLater j h).emb (ix3 0 t e))
  rw [block_eq X _ h e e2]
  rw [shapeCast_ab_1ab_apply, ChunkIn.h_apply, later_chunk (hX h) j s hs, h_coe]
  have : time (((outLater j h).emb (ix3 0 t e) 1).val) = 16 + 512 * j.val + t.val := by
    rw [show ((outLater j h).emb (ix3 0 t e) 1).val = 512 * j.val + t.val from ValueKit.rect_emb_unit_val _ _ _ _ _]
    unfold time; split <;> omega
  exact congrArg (fun z => ((out (X h) z e : ℝ) : EReal)) this.symm

/-- Where every piece agrees with a function and some piece covers, the contents are that function's. -/
theorem canon_agrees (g : S1x2064x1024.Idx → EReal) (y : S1x2064x1024.Idx) :
    ∀ P : List (View.Piece (Elt Ideal) S1x2064x1024 .bf16), (∀ p ∈ P, Agrees g p) → (∃ p ∈ P, y ∈ p.1.set) →
      View.canon P y = g y
  | [], _, h => by simp at h
  | p :: P, hg, hy => by
    by_cases hp : y ∈ p.1.set
    · obtain ⟨r, w⟩ := p
      obtain ⟨x, rfl⟩ : ∃ x, r.emb x = y := r.exists_idx_of_mem hp
      rw [View.canon_cons_emb]
      exact hg _ (List.mem_cons_self ..) x
    · rw [View.canon_cons_of_not_mem p P hp]
      refine canon_agrees g y P (fun q hq => hg q (List.mem_cons_of_mem _ hq)) ?_
      obtain ⟨q, hq, hyq⟩ := hy
      rcases List.mem_cons.1 hq with rfl | hq
      · exact absurd hyq hp
      · exact ⟨q, hq, hyq⟩

/-- The run's output block is the recurrence's outputs of its two heads. -/
theorem out_block {X : Fin 2 → Tokens (Fin 256) (Fin 512)} (hX : ∀ h, a.Holds h (X h)) :
    out0_A_7 a.c a.i a.arg2 a.harg2 a.arg3 a.harg3 a.arg4 a.harg4 a.arg5 a.harg5 a.arg6 a.harg6
      a.arg7 a.harg7 a.arg8 a.harg8 a.arg9 a.harg9 a.arg10 a.harg10 a.arg11 a.harg11 a.arg12 a.harg12
      a.x0 a.x1 a.x2 a.x3 a.x4 a.x5 a.x6 = block X := by
  funext y
  unfold out0_A_7
  rw [View.read_writes_junk_apply_eq_canon]
  refine canon_agrees _ y _ ?_ (cover0_A_7 ..)
  rw [pieces]
  have f := fun h => agrees_first hX h
  have l0 := fun h => agrees_later hX 0 a.S1 h (held_one (hX h))
  have l1 := fun h => agrees_later hX 1 a.S2 h (held_two (hX h))
  have l2 := fun h => agrees_later hX 2 a.S3 h (held_three (hX h))
  have l3 := fun h => agrees_later hX 3 a.S4 h (held_four (hX h))
  simp only [List.forall_mem_cons, List.not_mem_nil, false_imp_iff, implies_true, and_true]
  exact ⟨l3 1, l3 0, l2 1, l2 0, l1 1, l1 0, l0 1, l0 0, f 1, f 0⟩

end Point

end Cert.Mlstm
-- ==== Proof.KernelArray.lean ====
/-
  The kernel's result array over the extended reals: on real arguments, the recurrence's outputs.
-/
module

public import proofs.«01_k».proof.Proof.KernelPoint
public import Idealize.ShloMosaic.Lib.Pipeline.ValueKit.Geometry

@[expose] public section

set_option maxRecDepth 16384

noncomputable section

namespace Cert.Mlstm

open Idealize.ShloMosaic Idealize.ShloMosaic.ValueIdx Idealize.ShloMosaic.TcCoe Cert.KernelIdeal Cert.KernelIdeal.Gen

variable (m : (ℓ : Loc nD τ sig) → Buf (Elt Ideal) ℓ) (c : Dev nD)

/-- The kernel's argument arrays. -/
noncomputable def kernelArgs : Args where
  q := m ((c : Thread nD τ).loc main_arg0)
  k := m ((c : Thread nD τ).loc main_arg1)
  v := m ((c : Thread nD τ).loc main_arg2)
  g := m ((c : Thread nD τ).loc main_arg3)

/-- The batch element of a grid point. -/
noncomputable def batchOf (t : Fin cfg0.N) : Fin 8 := ⟨t.val / 4, by have : t.val < 32 := t.isLt; omega⟩
/-- The head `h` of a grid point. -/
noncomputable def headOf (t : Fin cfg0.N) (h : Fin 2) : Fin 8 := ⟨2 * (t.val % 4) + h.val, by omega⟩

theorem index0 : ∀ t : Fin cfg0.N, win0_0.index t = ![t.val / 4, 0, t.val % 4] := (by decide +kernel : ∀ t : Fin grid0.N, _)
theorem index1 : ∀ t : Fin cfg0.N, win0_1.index t = ![t.val / 4, 0, t.val % 4] := (by decide +kernel : ∀ t : Fin grid0.N, _)
theorem index2 : ∀ t : Fin cfg0.N, win0_2.index t = ![t.val / 4, 0, t.val % 4] := (by decide +kernel : ∀ t : Fin grid0.N, _)
theorem index3 : ∀ t : Fin cfg0.N, win0_3.index t = ![t.val / 4, t.val % 4, 0, 0] := (by decide +kernel : ∀ t : Fin grid0.N, _)
theorem index4 : ∀ t : Fin cfg0.N, win0_4.index t = ![t.val / 4, t.val % 4, 0, 0] := (by decide +kernel : ∀ t : Fin grid0.N, _)
theorem index5 : ∀ t : Fin cfg0.N, win0_5.index t = ![t.val / 4, t.val % 4, 0, 0] := (by decide +kernel : ∀ t : Fin grid0.N, _)
theorem index6 : ∀ t : Fin cfg0.N, win0_6.index t = ![t.val / 4, t.val % 4, 0, 0] := (by decide +kernel : ∀ t : Fin grid0.N, _)
theorem index7 : ∀ t : Fin cfg0.N, win0_7.index t = ![t.val / 4, 0, t.val % 4] := (by decide +kernel : ∀ t : Fin grid0.N, _)

/-- The heads' gate rows, as the host lays them out: columns `o, …, o + 7` of the gates, one row per head, the first
    2048 in rows of 512. -/
noncomputable def gateRows (g : (Cube 8 2064 16).Idx → EReal) (o : ℕ) (h : (Cube 8 2064 16).Slices ![0, 0, o] (Cube 8 2064 8)) :
    (Cube 8 8 2064).Idx → EReal :=
  transpose (Cube 8 8 2064) [0, 2, 1] (extractStridedSlice (Cube 8 2064 8) ![0, 0, o] g h) (by decide)

theorem gateRows_apply (g : (Cube 8 2064 16).Idx → EReal) (o : ℕ) (h) (b H : Fin 8) (r : Fin 2064) (k : Fin 16)
    (hk : k.val = o + H.val) : gateRows g o h (ix3 b H r) = g (ix3 b r k) := by
  unfold gateRows
  rw [transpose_apply _ _ _ _ (ix3 b r H) (by intro a; match a with | ⟨0, _⟩ => rfl | ⟨1, _⟩ => rfl | ⟨2, _⟩ => rfl)]
  refine extractStridedSlice_apply _ _ _ _ _ fun a => ?_
  match a with
  | ⟨0, _⟩ => exact (Nat.zero_add _).symm
  | ⟨1, _⟩ => exact (Nat.zero_add _).symm
  | ⟨2, _⟩ => exact hk

/-- The gates of the sequence, in rows of 512. -/
noncomputable def gateSeq (x : (Cube 8 8 2064).Idx → EReal) : (⟨4, ![8, 8, 4, 512]⟩ : Shape).Idx → EReal :=
  shapeCast ⟨4, ![8, 8, 4, 512]⟩ (extractStridedSlice (Cube 8 8 2048) ![0, 0, 0] x (by decide)) (by decide)
/-- The gates of the leading tokens. -/
noncomputable def gateLead (x : (Cube 8 8 2064).Idx → EReal) : (⟨4, ![8, 8, 1, 16]⟩ : Shape).Idx → EReal :=
  shapeCast ⟨4, ![8, 8, 1, 16]⟩ (extractStridedSlice (Cube 8 8 16) ![0, 0, 2048] x (by decide)) (by decide)

theorem gateSeq_apply (x : (Cube 8 8 2064).Idx → EReal) (b H : Fin 8) (j : Fin 4) (u : Fin 512) (r : Fin 2064)
    (hr : r.val = 512 * j.val + u.val) : gateSeq x (ix4 b H j u) = x (ix3 b H r) := by
  unfold gateSeq
  rw [shapeCast_apply _ _ _ (ix3 b H ⟨512 * j.val + u.val, by omega⟩)
    (by simp only [Shape.rowMajor_val_three, Shape.rowMajor_val_four]
        show (b.val * 8 + H.val) * 2048 + (512 * j.val + u.val) = ((b.val * 8 + H.val) * 4 + j.val) * 512 + u.val
        omega)]
  refine extractStridedSlice_apply _ _ _ _ _ fun a => ?_
  match a with
  | ⟨0, _⟩ => exact (Nat.zero_add _).symm
  | ⟨1, _⟩ => exact (Nat.zero_add _).symm
  | ⟨2, _⟩ => exact hr.trans (Nat.zero_add _).symm

theorem gateLead_apply (x : (Cube 8 8 2064).Idx → EReal) (b H : Fin 8) (u : Fin 16) (r : Fin 2064)
    (hr : r.val = 2048 + u.val) : gateLead x (ix4 b H 0 u) = x (ix3 b H r) := by
  unfold gateLead
  rw [shapeCast_apply _ _ _ (ix3 b H u)
    (by simp only [Shape.rowMajor_val_three, Shape.rowMajor_val_four]
        show (b.val * 8 + H.val) * 16 + u.val = ((b.val * 8 + H.val) * 1 + 0) * 16 + u.val
        omega)]
  refine extractStridedSlice_apply _ _ _ _ _ fun a => ?_
  match a with
  | ⟨0, _⟩ => exact (Nat.zero_add _).symm
  | ⟨1, _⟩ => exact (Nat.zero_add _).symm
  | ⟨2, _⟩ => exact hr

theorem V3 : V m c main_v3 = gateSeq (gateRows (kernelArgs m c).g 0 (by decide)) := rfl
theorem V5 : V m c main_v5 = gateLead (gateRows (kernelArgs m c).g 0 (by decide)) := rfl
theorem V9 : V m c main_v9 = gateSeq (gateRows (kernelArgs m c).g 8 (by decide)) := rfl
theorem V11 : V m c main_v11 = gateLead (gateRows (kernelArgs m c).g 8 (by decide)) := rfl

/-- What the grid point `t` runs on. -/
noncomputable def point (t : Fin cfg0.N) : Point Ideal where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := scM0_0
  harg10 := Memref.isWhole_whole _
  arg11 := scM0_1
  harg11 := Memref.isWhole_whole _
  arg12 := scM0_2
  harg12 := Memref.isWhole_whole _
  x0 := iblk m c 0 t
  x1 := iblk m c 1 t
  x2 := iblk m c 2 t
  x3 := iblk m c 3 t
  x4 := iblk m c 4 t
  x5 := iblk m c 5 t
  x6 := iblk m c 6 t

section
variable (t : Fin cfg0.N) (h : Fin 2)

theorem block0 (r : Fin 2064) (d : Fin 256) (e : Fin 512) (he : e.val = 256 * h.val + d.val) :
    (point m c t).x0 (ix3 0 r e) = (kernelArgs m c).q (ix3 (batchOf t) r (col256 (headOf t h) d)) := by
  show iblk m c 0 t (ix3 0 r e) = _
  blk_simp [iblk]
  rw [V_main_arg0]
  refine congrArg (m ((c : Thread nD τ).loc main_arg0)) (funext fun a => Fin.ext ?_)
  match a with
  | ⟨0, _⟩ => blk_simp [index0]; rfl
  | ⟨1, _⟩ => blk_simp [index0]
  | ⟨2, _⟩ => blk_simp [index0]; show t.val % 4 * 512 + e.val = 256 * (2 * (t.val % 4) + h.val) + d.val; omega

theorem block1 (r : Fin 2064) (d : Fin 256) (e : Fin 512) (he : e.val = 256 * h.val + d.val) :
    (point m c t).x1 (ix3 0 r e) = (kernelArgs m c).k (ix3 (batchOf t) r (col256 (headOf t h) d)) := by
  show iblk m c 1 t (ix3 0 r e) = _
  blk_simp [iblk]
  rw [V_main_arg1]
  refine congrArg (m ((c : Thread nD τ).loc main_arg1)) (funext fun a => Fin.ext ?_)
  match a with
  | ⟨0, _⟩ => blk_simp [index1]; rfl
  | ⟨1, _⟩ => blk_simp [index1]
  | ⟨2, _⟩ => blk_simp [index1]; show t.val % 4 * 512 + e.val = 256 * (2 * (t.val % 4) + h.val) + d.val; omega

theorem block2 (r : Fin 2064) (d : Fin 512) (e : Fin 1024) (he : e.val = 512 * h.val + d.val) :
    (point m c t).x2 (ix3 0 r e) = (kernelArgs m c).v (ix3 (batchOf t) r (col512 (headOf t h) d)) := by
  show iblk m c 2 t (ix3 0 r e) = _
  blk_simp [iblk]
  rw [V_main_arg2]
  refine congrArg (m ((c : Thread nD τ).loc main_arg2)) (funext fun a => Fin.ext ?_)
  match a with
  | ⟨0, _⟩ => blk_simp [index2]; rfl
  | ⟨1, _⟩ => blk_simp [index2]
  | ⟨2, _⟩ => blk_simp [index2]; show t.val % 4 * 1024 + e.val = 512 * (2 * (t.val % 4) + h.val) + d.val; omega

/-- The heads of a grid point among all. -/
theorem headOf_val : t.val % 4 * 2 + h.val = (headOf t h).val := by
  show _ = 2 * (t.val % 4) + h.val; omega

theorem block3 (j : Fin 4) (u : Fin 512) (r : Fin 2064) (hr : r.val = 512 * j.val + u.val) :
    (point m c t).x3 (ix4 0 h j u) = (kernelArgs m c).g (ix3 (batchOf t) r (colI (headOf t h))) := by
  show iblk m c 3 t (ix4 0 h j u) = _
  blk_simp [iblk]
  rw [V3]
  refine (congrArg (gateSeq _) (?_ : _ = ix4 (batchOf t) (headOf t h) j u)).trans
    ((gateSeq_apply _ _ _ _ _ r hr).trans (gateRows_apply _ 0 _ _ _ _ _ (Nat.zero_add _).symm))
  funext a; apply Fin.ext
  match a with
  | ⟨0, _⟩ => blk_simp [index3]; rfl
  | ⟨1, _⟩ => blk_simp [index3]; exact headOf_val t h
  | ⟨2, _⟩ => blk_simp [index3]
  | ⟨3, _⟩ => blk_simp [index3]

theorem block4 (j : Fin 4) (u : Fin 512) (r : Fin 2064) (hr : r.val = 512 * j.val + u.val) :
    (point m c t).x4 (ix4 0 h j u) = (kernelArgs m c).g (ix3 (batchOf t) r (colF (headOf t h))) := by
  show iblk m c 4 t (ix4 0 h j u) = _
  blk_simp [iblk]
  rw [V9]
  refine (congrArg (gateSeq _) (?_ : _ = ix4 (batchOf t) (headOf t h) j u)).trans
    ((gateSeq_apply _ _ _ _ _ r hr).trans (gateRows_apply _ 8 _ _ _ _ _ rfl))
  funext a; apply Fin.ext
  match a with
  | ⟨0, _⟩ => blk_simp [index4]; rfl
  | ⟨1, _⟩ => blk_simp [index4]; exact headOf_val t h
  | ⟨2, _⟩ => blk_simp [index4]
  | ⟨3, _⟩ => blk_simp [index4]

theorem block5 (u : Fin 16) (r : Fin 2064) (hr : r.val = 2048 + u.val) :
    (point m c t).x5 (ix4 0 h 0 u) = (kernelArgs m c).g (ix3 (batchOf t) r (colI (headOf t h))) := by
  show iblk m c 5 t (ix4 0 h 0 u) = _
  blk_simp [iblk]
  rw [V5]
  refine (congrArg (gateLead _) (?_ : _ = ix4 (batchOf t) (headOf t h) 0 u)).trans
    ((gateLead_apply _ _ _ _ r hr).trans (gateRows_apply _ 0 _ _ _ _ _ (Nat.zero_add _).symm))
  funext a; apply Fin.ext
  match a with
  | ⟨0, _⟩ => blk_simp [index5]; rfl
  | ⟨1, _⟩ => blk_simp [index5]; exact headOf_val t h
  | ⟨2, _⟩ => blk_simp [index5]
  | ⟨3, _⟩ => blk_simp [index5]

theorem block6 (u : Fin 16) (r : Fin 2064) (hr : r.val = 2048 + u.val) :
    (point m c t).x6 (ix4 0 h 0 u) = (kernelArgs m c).g (ix3 (batchOf t) r (colF (headOf t h))) := by
  show iblk m c 6 t (ix4 0 h 0 u) = _
  blk_simp [iblk]
  rw [V11]
  refine (congrArg (gateLead _) (?_ : _ = ix4 (batchOf t) (headOf t h) 0 u)).trans
    ((gateLead_apply _ _ _ _ r hr).trans (gateRows_apply _ 8 _ _ _ _ _ rfl))
  funext a; apply Fin.ext
  match a with
  | ⟨0, _⟩ => blk_simp [index6]; rfl
  | ⟨1, _⟩ => blk_simp [index6]; exact headOf_val t h
  | ⟨2, _⟩ => blk_simp [index6]
  | ⟨3, _⟩ => blk_simp [index6]

/-- On real arguments the point's blocks hold its heads' tokens. -/
theorem point_holds (ha : (kernelArgs m c).Real) :
    (point m c t).Holds h ((kernelArgs m c).tokens (batchOf t) (headOf t h)) where
  q r d e he := by rw [block0 m c t h r d e he]; exact ha.q_eq _ _ _ _
  k r d e he := by rw [block1 m c t h r d e he]; exact ha.k_eq _ _ _ _
  v r d e he := by rw [block2 m c t h r d e he]; exact ha.v_eq _ _ _ _
  ig j u := by
    have e1 : time (512 * j.val + u.val) = 16 + 512 * j.val + u.val := by unfold time; split <;> omega
    rw [block3 m c t h j u ⟨512 * j.val + u.val, by omega⟩ rfl, ha.ig_eq, ← e1]
  lf j u := by
    have e1 : time (512 * j.val + u.val) = 16 + 512 * j.val + u.val := by unfold time; split <;> omega
    rw [block4 m c t h j u ⟨512 * j.val + u.val, by omega⟩ rfl, ← (ha.g _).coe, lsig_coe, ha.lf_eq, ← e1]
  igm u := by
    have e1 : time (2048 + u.val) = u.val := by unfold time; split <;> omega
    rw [block5 m c t h u ⟨2048 + u.val, by omega⟩ rfl, ha.ig_eq]
    exact congrArg (fun z => (((kernelArgs m c).tokens (batchOf t) (headOf t h)).ig z : EReal)) e1
  lfm u := by
    have e1 : time (2048 + u.val) = u.val := by unfold time; split <;> omega
    rw [block6 m c t h u ⟨2048 + u.val, by omega⟩ rfl, ← (ha.g _).coe, lsig_coe, ha.lf_eq]
    exact congrArg (fun z => (((kernelArgs m c).tokens (batchOf t) (headOf t h)).lf z : EReal)) e1

theorem outs_point (ha : (kernelArgs m c).Real) : outsAt0 m c t
    = Point.block fun h => (kernelArgs m c).tokens (batchOf t) (headOf t h) :=
  Point.out_block (a := point m c t) fun h => point_holds m c t h ha

end

/-- On real arguments the kernel's result array holds the recurrence's outputs. -/
theorem kernel_array (ha : (kernelArgs m c).Real) : (dats m 0 c).arrAt 7 cfg0.N = (kernelArgs m c).outs := by
  refine (dats m 0 c).arrAt_eq_of_covers 7 _ (by decide +kernel) fun t hf y => ?_
  blk_simp
  rw [after0_7, outs_point m c t ha]
  have y0 : (y 0).val < 1 := (y 0).isLt
  have y2 : (y 2).val < 1024 := (y 2).isLt
  have hh : (y 2).val / 512 < 2 := by omega
  rw [Point.block_eq _ y ⟨(y 2).val / 512, hh⟩ ⟨(y 2).val % 512, by omega⟩ (by show (y 2).val = 512 * ((y 2).val / 512) + (y 2).val % 512; omega)]
  refine (Args.outs_eq _ _ (batchOf t) (headOf t ⟨(y 2).val / 512, hh⟩) (y 1).val ⟨(y 2).val % 512, by omega⟩ ?_ ?_ ?_).symm
  · blk_simp [index7]; rfl
  · blk_simp [index7]
  · blk_simp [index7]
    show t.val % 4 * 1024 + (y 2).val = 512 * (2 * (t.val % 4) + (y 2).val / 512) + (y 2).val % 512
    omega

end Cert.Mlstm
-- ==== Proof.StackOps.lean ====
/-
  Tensor operations on stacks, one member for each batch element and head, read at an index over the extended reals:
  spreads of a stack of vectors, running sums, maxima and sums along the last axis, and products member by member.
-/
module

public import proofs.«01_k».proof.Proof.Chunk
public import Idealize.ShloMosaic.Lib.StackMember
public import Idealize.ShloMosaic.Lib.IdealHost
public import Idealize.ShloMosaic.Lib.DynamicIndex

@[expose] public section

noncomputable section

namespace Cert.Mlstm

open Idealize.ShloMosaic Idealize.ShloMosaic.ValueIdx Finset

/-- The shape of a scalar. -/
abbrev Sc : Shape := ⟨0, ![]⟩
/-- The shapes of a number, a vector and a matrix for each batch element and head. -/
abbrev D2 : Shape := ⟨2, ![8, 8]⟩
abbrev D3 (a : ℕ) : Shape := ⟨3, ![8, 8, a]⟩
abbrev D4 (a b : ℕ) : Shape := ⟨4, ![8, 8, a, b]⟩

/-- A spread's coordinate along an axis it keeps. -/
theorem kept {n : ℕ} (b : Fin n) : b.val = if n = 1 then 0 else b.val := by split <;> omega

section
variable {α : Type} {L n : ℕ}

/-- A vector spread along the columns of a matrix. -/
theorem spreadCols (x : (D3 L).Idx → α) (h1 : (D3 L).BroadcastsInDim (D4 L 1) ![0, 1, 2])
    (h2 : (D4 L 1).BroadcastsInDim (D4 L n) ![0, 1, 2, 3]) (b H : Fin 8) (t : Fin L) (s : Fin n) :
    broadcastInDim (D4 L n) ![0, 1, 2, 3] h2 (broadcastInDim (D4 L 1) ![0, 1, 2] h1 x) (ix4 b H t s) = x (ix3 b H t) := by
  refine (broadcastInDim_apply _ h2 _ _ (ix4 b H t 0) fun a => ?_).trans (broadcastInDim_apply _ h1 _ _ (ix3 b H t) fun a => ?_)
  · match a with
    | ⟨0, _⟩ => rfl
    | ⟨1, _⟩ => rfl
    | ⟨2, _⟩ => exact kept t
    | ⟨3, _⟩ => rfl
  · match a with
    | ⟨0, _⟩ => rfl
    | ⟨1, _⟩ => rfl
    | ⟨2, _⟩ => exact kept t

/-- A vector spread along the rows of a matrix. -/
theorem spreadRows (x : (D3 L).Idx → α) (h1 : (D3 L).BroadcastsInDim (D4 1 L) ![0, 1, 3])
    (h2 : (D4 1 L).BroadcastsInDim (D4 n L) ![0, 1, 2, 3]) (b H : Fin 8) (t : Fin n) (s : Fin L) :
    broadcastInDim (D4 n L) ![0, 1, 2, 3] h2 (broadcastInDim (D4 1 L) ![0, 1, 3] h1 x) (ix4 b H t s) = x (ix3 b H s) := by
  refine (broadcastInDim_apply _ h2 _ _ (ix4 b H 0 s) fun a => ?_).trans (broadcastInDim_apply _ h1 _ _ (ix3 b H s) fun a => ?_)
  · match a with
    | ⟨0, _⟩ => rfl
    | ⟨1, _⟩ => rfl
    | ⟨2, _⟩ => rfl
    | ⟨3, _⟩ => exact kept s
  · match a with
    | ⟨0, _⟩ => rfl
    | ⟨1, _⟩ => rfl
    | ⟨2, _⟩ => exact kept s

/-- A matrix repeated for every batch element and head. -/
theorem spreadMat (x : (Mat L n).Idx → α) (h : (Mat L n).BroadcastsInDim (D4 L n) ![2, 3]) (b H : Fin 8) (t : Fin L) (s : Fin n) :
    broadcastInDim (D4 L n) ![2, 3] h x (ix4 b H t s) = x (ix2 t s) := by
  refine broadcastInDim_apply _ h _ _ (ix2 t s) fun a => ?_
  match a with
  | ⟨0, _⟩ => exact kept t
  | ⟨1, _⟩ => exact kept s

/-- A number spread along a vector. -/
theorem spreadVec (x : D2.Idx → α) (h1 : D2.BroadcastsInDim (D3 1) ![0, 1]) (h2 : (D3 1).BroadcastsInDim (D3 n) ![0, 1, 2])
    (b H : Fin 8) (t : Fin n) :
    broadcastInDim (D3 n) ![0, 1, 2] h2 (broadcastInDim (D3 1) ![0, 1] h1 x) (ix3 b H t) = x (ix2 b H) := by
  refine (broadcastInDim_apply _ h2 _ _ (ix3 b H 0) fun a => ?_).trans (broadcastInDim_apply _ h1 _ _ (ix2 b H) fun a => ?_)
  · match a with
    | ⟨0, _⟩ => rfl
    | ⟨1, _⟩ => rfl
    | ⟨2, _⟩ => rfl
  · match a with
    | ⟨0, _⟩ => rfl
    | ⟨1, _⟩ => rfl

/-- A number spread over a matrix. -/
theorem spreadNum (x : D2.Idx → α) (h1 : D2.BroadcastsInDim (D4 1 1) ![0, 1]) (h2 : (D4 1 1).BroadcastsInDim (D4 L n) ![0, 1, 2, 3])
    (b H : Fin 8) (t : Fin L) (s : Fin n) :
    broadcastInDim (D4 L n) ![0, 1, 2, 3] h2 (broadcastInDim (D4 1 1) ![0, 1] h1 x) (ix4 b H t s) = x (ix2 b H) := by
  refine (broadcastInDim_apply _ h2 _ _ (ix4 b H 0 0) fun a => ?_).trans (broadcastInDim_apply _ h1 _ _ (ix2 b H) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

/-- The last entry of a vector. -/
theorem lastEntry (x : (D3 L).Idx → α) (l : ℕ) (hl : l < L) (h : (D3 L).Slices ![0, 0, l] (D3 1)) (hc : (D3 1).ShapeCasts D2)
    (b H : Fin 8) : shapeCast D2 (extractStridedSlice (D3 1) ![0, 0, l] x h) hc (ix2 b H) = x (ix3 b H ⟨l, hl⟩) := by
  refine (shapeCast_apply _ hc (ix2 b H) (ix3 b H 0) ?_).trans (extractStridedSlice_apply _ _ _ _ _ fun a => ?_)
  · simp only [Shape.rowMajor_val_three, Shape.rowMajor_val_two]
    show (b.val * 8 + H.val) * 1 + 0 = b.val * 8 + H.val
    omega
  · match a with
    | ⟨0, _⟩ => exact (Nat.zero_add _).symm
    | ⟨1, _⟩ => exact (Nat.zero_add _).symm
    | ⟨2, _⟩ => rfl

/-- The mask of a matrix's lower triangle. -/
theorem tril_select (hL : L < 2 ^ 31) (h : Sc.BroadcastsInDim (Mat L L) ![]) (hm : (Mat L L).BroadcastsInDim (D4 L L) ![2, 3])
    (y z : (D4 L L).Idx → α) (b H : Fin 8) (t s : Fin L) :
    select (broadcastInDim (D4 L L) ![2, 3] hm
      (select (cmpi .sge (addi (iotaInDim (Mat L L) 32 0) (broadcastInDim (Mat L L) ![] h (constantI Sc 32 0#32)))
        (iotaInDim (Mat L L) 32 1)) (broadcastInDim (Mat L L) ![] h (constantI Sc 1 1#1))
        (broadcastInDim (Mat L L) ![] h (constantI Sc 1 0#1)))) y z (ix4 b H t s)
      = if s.val ≤ t.val then y (ix4 b H t s) else z (ix4 b H t s) := by
  have e : IntOp.cmpi .sge (IntOp.addi (BitVec.ofNat 32 t.val) 0#32) (BitVec.ofNat 32 s.val) = BitVec.ofBool (decide (s.val ≤ t.val)) := by
    have e0 : IntOp.addi (BitVec.ofNat 32 t.val) 0#32 = BitVec.ofNat 32 t.val := by simp [IntOp.addi]
    have := t.isLt; have := s.isLt
    rw [e0]
    show BitVec.ofBool ((BitVec.ofNat 32 s.val).sle (BitVec.ofNat 32 t.val)) = _
    simp only [BitVec.sle]
    rw [Idealize.ShloMosaic.toInt_ofNat_of_lt (by omega), Idealize.ShloMosaic.toInt_ofNat_of_lt (by omega)]
    simp
  rw [select_apply, spreadMat]
  show (if (if IntOp.cmpi .sge (IntOp.addi (BitVec.ofNat 32 t.val) 0#32) (BitVec.ofNat 32 s.val) = 1#1 then 1#1 else 0#1) = 1#1 then _ else _) = _
  rw [e]
  by_cases hs : s.val ≤ t.val <;> simp [hs]

end

/-- A left fold of additions is a sum. -/
theorem foldl_add {ι M : Type*} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- The windows that end at position `t`: the positions up to `t`. -/
theorem sum_windows {M : Type*} [AddCommMonoid M] (f : ℕ → M) (l t : ℕ) (ht : t ≤ l) :
    (∑ w ∈ range (l + 1), if l ≤ t + w then f (t + w - l) else 0) = ∑ s ∈ range (t + 1), f s := by
  rw [← sum_filter]
  refine sum_nbij' (fun w => t + w - l) (fun s => s + l - t) ?_ ?_ ?_ ?_ ?_
  all_goals intro w hw; simp only [mem_filter, mem_range] at hw ⊢
  all_goals first | omega | rfl

/-- A running sum along a vector. -/
theorem runningSum {L l : ℕ} (hl : l + 1 = L) (x : FVec Ideal (D3 L) .f32) (h0 : Sc.BroadcastsInDim Sc ![])
    (h : (D3 L).ReduceWindows (![1, 1, L] : Fin 3 → Nat) ![1, 1, 1] ![0, 0, l] ![0, 0, 0] (D3 L)) (hu : 0 < Sc.numel)
    (b H : Fin 8) (t : Fin L) :
    Host.reduceWindowAdd ![1, 1, L] ![1, 1, 1] ![0, 0, l] ![0, 0, 0] x
      (broadcastInDim Sc ![] h0 (constant Sc .f32 0x00000000#32)) h hu (ix3 b H t)
      = ∑ s : Fin L, if s.val ≤ t.val then x (ix3 b H s) else 0 := by
  subst hl
  let f : ℕ → EReal := fun s => if hs : s < l + 1 then x (ix3 b H ⟨s, hs⟩) else 0
  have hz : (broadcastInDim Sc ![] h0 (constant (F := Ideal) Sc .f32 0x00000000#32) (Shape.Idx.first hu) : EReal) = 0 := by
    rw [broadcastInDim_scalar_apply]; exact Ideal.ofBits_zero_f32
  show Ideal.hostReduceWindowAdd ![1, 1, l + 1] ![1, 1, 1] ![0, 0, l] ![0, 0, 0] h x _ (ix3 b H t) = _
  rw [hz]
  unfold Ideal.hostReduceWindowAdd Host.reduceWindow
  refine (foldl_add _ _ _).trans ?_
  rw [zero_add, ← Fin.sum_univ_def]
  have ht := t.isLt
  have hb := b.isLt
  have hH := H.isLt
  let g : (⟨3, ![1, 1, l + 1]⟩ : Shape).Idx → EReal := fun i => (fun w : ℕ => if l ≤ t.val + w then f (t.val + w - l) else 0) (i 2).val
  refine (sum_congr rfl fun n _ => (?_ : _ = g ((⟨3, ![1, 1, l + 1]⟩ : Shape).rowMajor.symm n))).trans
    ((Equiv.sum_comp _ g).trans ?_)
  · obtain ⟨k, hk⟩ : ∃ k, k = (⟨3, ![1, 1, l + 1]⟩ : Shape).rowMajor.symm n := ⟨_, rfl⟩
    have h0 : (k 0).val < 1 := (k 0).isLt
    have h1 : (k 1).val < 1 := (k 1).isLt
    have h2 : (k 2).val < l + 1 := (k 2).isLt
    have e0 : b.val * 1 + (k 0).val - 0 = b.val := by omega
    have e1 : H.val * 1 + (k 1).val - 0 = H.val := by omega
    have e2 : t.val * 1 + (k 2).val - l = t.val + (k 2).val - l := by omega
    have i0 : 0 ≤ b.val * 1 + (k 0).val ∧ b.val * 1 + (k 0).val - 0 < 8 := by omega
    have i1 : 0 ≤ H.val * 1 + (k 1).val ∧ H.val * 1 + (k 1).val - 0 < 8 := by omega
    have e3 : l ≤ t.val * 1 + (k 2).val ↔ l ≤ t.val + (k 2).val := by omega
    have i3 : t.val * 1 + (k 2).val - l < l + 1 := by omega
    have i2 : t.val + (k 2).val - l < l + 1 := by omega
    refine Eq.trans ?_ (congrArg g hk)
    show _ = if l ≤ t.val + (k 2).val then (if hs : t.val + (k 2).val - l < l + 1 then x (ix3 b H ⟨t.val + (k 2).val - l, hs⟩) else 0) else 0
    by_cases hlt : l ≤ t.val + (k 2).val
    · rw [if_pos hlt, dif_pos i2]
      subst hk
      rw [dif_pos]
      · refine congrArg x (funext fun a => Fin.ext ?_)
        match a with
        | ⟨0, _⟩ => exact e0
        | ⟨1, _⟩ => exact e1
        | ⟨2, _⟩ => exact e2
      · intro a
        match a with
        | ⟨0, _⟩ => exact i0
        | ⟨1, _⟩ => exact i1
        | ⟨2, _⟩ => exact ⟨e3.2 hlt, i3⟩
    · rw [if_neg hlt]
      subst hk
      rw [dif_neg]
      exact fun hin => hlt (e3.1 (hin 2).1)
  rw [show (∑ i, g i) = ∑ w : Fin (l + 1), g (ix3 0 0 w) from
    sum_nbij' (fun i => i 2) (fun w => ix3 0 0 w) (fun _ _ => mem_univ _) (fun _ _ => mem_univ _)
      (fun i _ => (congrArg₂ (fun p q => ix3 p q (i 2)) (Subsingleton.elim _ _) (Subsingleton.elim _ _)).trans (eq_ix3 i).symm)
      (fun _ _ => rfl) (fun _ _ => rfl)]
  show (∑ w : Fin (l + 1), (fun w : ℕ => if l ≤ t.val + w then f (t.val + w - l) else 0) w.val) = _
  rw [Fin.sum_univ_eq_sum_range (fun w : ℕ => if l ≤ t.val + w then f (t.val + w - l) else 0) (l + 1), sum_windows f l t.val (by omega),
    ← sum_upto t f]
  refine sum_congr rfl fun s _ => ?_
  show (if s.val ≤ t.val then (if hs : s.val < l + 1 then x (ix3 b H ⟨s.val, hs⟩) else 0) else 0) = _
  rw [dif_pos s.isLt]

section
variable {L n : ℕ}

/-- A maximum along the rows of a matrix. -/
theorem stackMaxRow (x : FVec Ideal (D4 L n) .f32) (h' : (D4 L n).ReducesTo [3] (D3 L)) (h : (D4 L n).Reduces [3] (D3 L))
    (hu : 0 < Sc.numel) (b H : Fin 8) (t : Fin L) :
    Host.reduce FloatOps.maximumf x (constant (F := Ideal) Sc .f32 0xFF800000#32) h' hu (ix3 b H t)
      = (univ : Finset (Fin n)).fold max ⊥ fun s => x (ix4 b H t s) := by
  rw [Host.reduce_eq_fold_single _ x _ h' h hu]
  refine congrArg₂ (fun z f => (univ : Finset (Fin n)).fold max z f) ChunkIn.negInf (funext fun j => congrArg x (funext fun c => Fin.ext ?_))
  match c with
  | ⟨0, _⟩ => rfl
  | ⟨1, _⟩ => rfl
  | ⟨2, _⟩ => rfl
  | ⟨3, _⟩ => rfl

/-- A maximum along a vector. -/
theorem stackMax (x : FVec Ideal (D3 L) .f32) (h' : (D3 L).ReducesTo [2] D2) (h : (D3 L).Reduces [2] D2)
    (hu : 0 < Sc.numel) (b H : Fin 8) :
    Host.reduce FloatOps.maximumf x (constant (F := Ideal) Sc .f32 0xFF800000#32) h' hu (ix2 b H)
      = (univ : Finset (Fin L)).fold max ⊥ fun s => x (ix3 b H s) := by
  rw [Host.reduce_eq_fold_single _ x _ h' h hu]
  refine congrArg₂ (fun z f => (univ : Finset (Fin L)).fold max z f) ChunkIn.negInf (funext fun j => congrArg x (funext fun c => Fin.ext ?_))
  match c with
  | ⟨0, _⟩ => rfl
  | ⟨1, _⟩ => rfl
  | ⟨2, _⟩ => rfl

/-- A sum along the rows of a matrix. -/
theorem stackSumRow (x : FVec Ideal (D4 L n) .f32) (h' : (D4 L n).ReducesTo [3] (D3 L)) (h : (D4 L n).Reduces [3] (D3 L))
    (hu : 0 < Sc.numel) (b H : Fin 8) (t : Fin L) :
    Host.reduceAdd x (constant (F := Ideal) Sc .f32 0x00000000#32) h' hu (ix3 b H t) = ∑ s, x (ix4 b H t s) := by
  rw [hostReduceAdd_apply, Ideal.hostReduceAdd_single h' h]
  refine (congrArg₂ (· + ·) Ideal.ofBits_zero_f32 (sum_congr rfl fun j _ => congrArg x (funext fun c => Fin.ext ?_))).trans (zero_add _)
  match c with
  | ⟨0, _⟩ => rfl
  | ⟨1, _⟩ => rfl
  | ⟨2, _⟩ => rfl
  | ⟨3, _⟩ => rfl

end

section
variable {M K N : ℕ}

/-- The product of two stacks of matrices, member by member. -/
theorem stackMul (w : DotDims.WF (D4 M K) (D4 K N) (D4 M N) [3] [2] [2] [3] [0, 1] [0, 1])
    (A : FVec Ideal (D4 M K) .f32) (B : FVec Ideal (D4 K N) .f32) (b H : Fin 8) (i : Fin M) (j : Fin N) :
    Host.dotGeneral (⟨[3], [2], [2], [3], [0, 1], [0, 1], w⟩ : DotDims _ _ _) none A B (ix4 b H i j)
      = ∑ c : Fin K, A (ix4 b H i c) * B (ix4 b H c j) := by
  show FloatOps.dotGeneral _ none _ A B (ix4 b H i j) = _
  rw [Ideal.dotGeneral_apply,
    ← Equiv.sum_comp (contrEquiv1 (⟨[3], [2], [2], [3], [0, 1], [0, 1], w⟩ : DotDims _ _ _) K rfl rfl).symm]
  refine sum_congr rfl fun c _ => ?_
  have hc := contrEquiv1_symm_val (⟨[3], [2], [2], [3], [0, 1], [0, 1], w⟩ : DotDims (D4 M K) (D4 K N) (D4 M N)) K rfl rfl c
  refine congrArg₂ (· * ·) (congrArg A (funext fun ax => Fin.ext ?_)) (congrArg B (funext fun ax => Fin.ext ?_))
  · match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hc
  · match ax with
    | ⟨0, _⟩ => simp [DotDims.rhsIdx]; rfl
    | ⟨1, _⟩ => simp [DotDims.rhsIdx]; rfl
    | ⟨2, _⟩ => simp [DotDims.rhsIdx]; exact hc
    | ⟨3, _⟩ => simp [DotDims.rhsIdx]; rfl

/-- The product of a stack of matrices by the transposes of another's. -/
theorem stackMulTr (w : DotDims.WF (D4 M K) (D4 N K) (D4 M N) [3] [3] [2] [2] [0, 1] [0, 1])
    (A : FVec Ideal (D4 M K) .f32) (B : FVec Ideal (D4 N K) .f32) (b H : Fin 8) (i : Fin M) (j : Fin N) :
    Host.dotGeneral (⟨[3], [3], [2], [2], [0, 1], [0, 1], w⟩ : DotDims _ _ _) none A B (ix4 b H i j)
      = ∑ c : Fin K, A (ix4 b H i c) * B (ix4 b H j c) := by
  show FloatOps.dotGeneral _ none _ A B (ix4 b H i j) = _
  rw [Ideal.dotGeneral_apply,
    ← Equiv.sum_comp (contrEquiv1 (⟨[3], [3], [2], [2], [0, 1], [0, 1], w⟩ : DotDims _ _ _) K rfl rfl).symm]
  refine sum_congr rfl fun c _ => ?_
  have hc := contrEquiv1_symm_val (⟨[3], [3], [2], [2], [0, 1], [0, 1], w⟩ : DotDims (D4 M K) (D4 N K) (D4 M N)) K rfl rfl c
  refine congrArg₂ (· * ·) (congrArg A (funext fun ax => Fin.ext ?_)) (congrArg B (funext fun ax => Fin.ext ?_))
  · match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hc
  · match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact hc

/-- The product of the transposes of a stack of matrices by another stack. -/
theorem stackTrMul (w : DotDims.WF (D4 K M) (D4 K N) (D4 M N) [2] [2] [3] [3] [0, 1] [0, 1])
    (A : FVec Ideal (D4 K M) .f32) (B : FVec Ideal (D4 K N) .f32) (b H : Fin 8) (i : Fin M) (j : Fin N) :
    Host.dotGeneral (⟨[2], [2], [3], [3], [0, 1], [0, 1], w⟩ : DotDims _ _ _) none A B (ix4 b H i j)
      = ∑ c : Fin K, A (ix4 b H c i) * B (ix4 b H c j) := by
  show FloatOps.dotGeneral _ none _ A B (ix4 b H i j) = _
  rw [Ideal.dotGeneral_apply,
    ← Equiv.sum_comp (contrEquiv1 (⟨[2], [2], [3], [3], [0, 1], [0, 1], w⟩ : DotDims _ _ _) K rfl rfl).symm]
  refine sum_congr rfl fun c _ => ?_
  have hc := contrEquiv1_symm_val (⟨[2], [2], [3], [3], [0, 1], [0, 1], w⟩ : DotDims (D4 K M) (D4 K N) (D4 M N)) K rfl rfl c
  refine congrArg₂ (· * ·) (congrArg A (funext fun ax => Fin.ext ?_)) (congrArg B (funext fun ax => Fin.ext ?_))
  · match ax with
    | ⟨0, _⟩ => simp [DotDims.lhsIdx]; rfl
    | ⟨1, _⟩ => simp [DotDims.lhsIdx]; rfl
    | ⟨2, _⟩ => simp [DotDims.lhsIdx]; exact hc
    | ⟨3, _⟩ => simp [DotDims.lhsIdx]; rfl
  · match ax with
    | ⟨0, _⟩ => simp [DotDims.rhsIdx]; rfl
    | ⟨1, _⟩ => simp [DotDims.rhsIdx]; rfl
    | ⟨2, _⟩ => simp [DotDims.rhsIdx]; exact hc
    | ⟨3, _⟩ => simp [DotDims.rhsIdx]; rfl

/-- The product of a stack of matrices by a stack of vectors. -/
theorem stackMulVec (w : DotDims.WF (D4 M K) (D3 K) (D3 M) [3] [2] [2] [] [0, 1] [0, 1])
    (A : FVec Ideal (D4 M K) .f32) (B : FVec Ideal (D3 K) .f32) (b H : Fin 8) (i : Fin M) :
    Host.dotGeneral (⟨[3], [2], [2], [], [0, 1], [0, 1], w⟩ : DotDims _ _ _) none A B (ix3 b H i)
      = ∑ c : Fin K, A (ix4 b H i c) * B (ix3 b H c) := by
  show FloatOps.dotGeneral _ none _ A B (ix3 b H i) = _
  rw [Ideal.dotGeneral_apply,
    ← Equiv.sum_comp (contrEquiv1 (⟨[3], [2], [2], [], [0, 1], [0, 1], w⟩ : DotDims _ _ _) K rfl rfl).symm]
  refine sum_congr rfl fun c _ => ?_
  have hc := contrEquiv1_symm_val (⟨[3], [2], [2], [], [0, 1], [0, 1], w⟩ : DotDims (D4 M K) (D3 K) (D3 M)) K rfl rfl c
  refine congrArg₂ (· * ·) (congrArg A (funext fun ax => Fin.ext ?_)) (congrArg B (funext fun ax => Fin.ext ?_))
  · match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hc
  · match ax with
    | ⟨0, _⟩ => simp [DotDims.rhsIdx]; rfl
    | ⟨1, _⟩ => simp [DotDims.rhsIdx]; rfl
    | ⟨2, _⟩ => simp [DotDims.rhsIdx]; exact hc

/-- The product of a stack of row vectors by a stack of matrices. -/
theorem stackVecMul (w : DotDims.WF (D3 K) (D4 K N) (D3 N) [2] [2] [] [3] [0, 1] [0, 1])
    (A : FVec Ideal (D3 K) .f32) (B : FVec Ideal (D4 K N) .f32) (b H : Fin 8) (j : Fin N) :
    Host.dotGeneral (⟨[2], [2], [], [3], [0, 1], [0, 1], w⟩ : DotDims _ _ _) none A B (ix3 b H j)
      = ∑ c : Fin K, A (ix3 b H c) * B (ix4 b H c j) := by
  show FloatOps.dotGeneral _ none _ A B (ix3 b H j) = _
  rw [Ideal.dotGeneral_apply,
    ← Equiv.sum_comp (contrEquiv1 (⟨[2], [2], [], [3], [0, 1], [0, 1], w⟩ : DotDims _ _ _) K rfl rfl).symm]
  refine sum_congr rfl fun c _ => ?_
  have hc := contrEquiv1_symm_val (⟨[2], [2], [], [3], [0, 1], [0, 1], w⟩ : DotDims (D3 K) (D4 K N) (D3 N)) K rfl rfl c
  refine congrArg₂ (· * ·) (congrArg A (funext fun ax => Fin.ext ?_)) (congrArg B (funext fun ax => Fin.ext ?_))
  · match ax with
    | ⟨0, _⟩ => simp [DotDims.lhsIdx]; rfl
    | ⟨1, _⟩ => simp [DotDims.lhsIdx]; rfl
    | ⟨2, _⟩ => simp [DotDims.lhsIdx]; exact hc
  · match ax with
    | ⟨0, _⟩ => simp [DotDims.rhsIdx]; rfl
    | ⟨1, _⟩ => simp [DotDims.rhsIdx]; rfl
    | ⟨2, _⟩ => simp [DotDims.rhsIdx]; exact hc
    | ⟨3, _⟩ => simp [DotDims.rhsIdx]; rfl

end

end Cert.Mlstm
-- ==== Proof.StackChunk.lean ====
/-
  One chunk of the recurrence for all batch elements and heads at once, as tensor operations on stacks, and the proof
  that each member of the results is the chunk formula of that batch element and head.
-/
module

public import proofs.«01_k».proof.Proof.StackOps
public import Idealize.ShloMosaic.Lib.Pointwise.ElementwiseCore

@[expose] public section

noncomputable section

namespace Cert.Mlstm

open Idealize.ShloMosaic Idealize.ShloMosaic.ValueIdx Finset

/-- What the tensor operations of a chunk of `L` tokens with last position `l` ask of their shapes. -/
structure StackShapes (L l : ℕ) : Prop where
  last : l + 1 = L
  small : L < 2 ^ 31
  one : 0 < Sc.numel
  scSc : Sc.BroadcastsInDim Sc ![]
  scMat : Sc.BroadcastsInDim (Mat L L) ![]
  scD4 : Sc.BroadcastsInDim (D4 L L) ![]
  matD4 : (Mat L L).BroadcastsInDim (D4 L L) ![2, 3]
  col : (D3 L).BroadcastsInDim (D4 L 1) ![0, 1, 2]
  cols : ∀ n, n = L ∨ n = 256 ∨ n = 512 → (D4 L 1).BroadcastsInDim (D4 L n) ![0, 1, 2, 3]
  row : (D3 L).BroadcastsInDim (D4 1 L) ![0, 1, 3]
  rows : (D4 1 L).BroadcastsInDim (D4 L L) ![0, 1, 2, 3]
  num1 : D2.BroadcastsInDim (D3 1) ![0, 1]
  numL : (D3 1).BroadcastsInDim (D3 L) ![0, 1, 2]
  num256 : (D3 1).BroadcastsInDim (D3 256) ![0, 1, 2]
  num11 : D2.BroadcastsInDim (D4 1 1) ![0, 1]
  numMat : (D4 1 1).BroadcastsInDim (D4 256 512) ![0, 1, 2, 3]
  slice : (D3 L).Slices ![0, 0, l] (D3 1)
  cast : (D3 1).ShapeCasts D2
  windows : (D3 L).ReduceWindows (![1, 1, L] : Fin 3 → Nat) ![1, 1, 1] ![0, 0, l] ![0, 0, 0] (D3 L)
  rowTo : (D4 L L).ReducesTo [3] (D3 L)
  rowRed : (D4 L L).Reduces [3] (D3 L)
  vecTo : (D3 L).ReducesTo [2] D2
  vecRed : (D3 L).Reduces [2] D2
  qk : DotDims.WF (D4 L 256) (D4 L 256) (D4 L L) [3] [3] [2] [2] [0, 1] [0, 1]
  qC : DotDims.WF (D4 L 256) (D4 256 512) (D4 L 512) [3] [2] [2] [3] [0, 1] [0, 1]
  wv : DotDims.WF (D4 L L) (D4 L 512) (D4 L 512) [3] [2] [2] [3] [0, 1] [0, 1]
  qn : DotDims.WF (D4 L 256) (D3 256) (D3 L) [3] [2] [2] [] [0, 1] [0, 1]
  kv : DotDims.WF (D4 L 256) (D4 L 512) (D4 256 512) [2] [2] [3] [3] [0, 1] [0, 1]
  wk : DotDims.WF (D3 L) (D4 L 256) (D3 256) [2] [2] [] [3] [0, 1] [0, 1]

/-- What a chunk reads: for each batch element and head its gates, projections and carried state. -/
structure StackIn (L : ℕ) where
  lf : FVec Ideal (D3 L) .f32
  ig : FVec Ideal (D3 L) .f32
  q : FVec Ideal (D4 L 256) .f32
  k : FVec Ideal (D4 L 256) .f32
  v : FVec Ideal (D4 L 512) .f32
  C : FVec Ideal (D4 256 512) .f32
  n : FVec Ideal (D3 256) .f32
  m : FVec Ideal D2 .f32

namespace StackIn

variable {L l : ℕ}

/-- The chunk of batch element `b`, head `H`. -/
def chunk (x : StackIn L) (b H : Fin 8) : Chunk L where
  lf s := x.lf (ix3 b H s)
  ig s := x.ig (ix3 b H s)
  q s d := x.q (ix4 b H s d)
  k s d := x.k (ix4 b H s d)
  v s e := x.v (ix4 b H s e)
  C d e := x.C (ix4 b H d e)
  n d := x.n (ix3 b H d)
  m := x.m (ix2 b H)

/-- A vector spread along the columns. -/
def spread (σ : StackShapes L l) (n : ℕ) (hn : n = L ∨ n = 256 ∨ n = 512) (y : FVec Ideal (D3 L) .f32) : FVec Ideal (D4 L n) .f32 :=
  broadcastInDim (D4 L n) ![0, 1, 2, 3] (σ.cols n hn) (broadcastInDim (D4 L 1) ![0, 1, 2] σ.col y)

/-- A vector spread along the rows. -/
def across (σ : StackShapes L l) (y : FVec Ideal (D3 L) .f32) : FVec Ideal (D4 L L) .f32 :=
  broadcastInDim (D4 L L) ![0, 1, 2, 3] σ.rows (broadcastInDim (D4 1 L) ![0, 1, 3] σ.row y)

/-- A number spread along a vector. -/
def along (σ : StackShapes L l) (y : FVec Ideal D2 .f32) : FVec Ideal (D3 L) .f32 :=
  broadcastInDim (D3 L) ![0, 1, 2] σ.numL (broadcastInDim (D3 1) ![0, 1] σ.num1 y)

variable (σ : StackShapes L l) (x : StackIn L)

/-- The running sums of the log forget gates. -/
def bs : FVec Ideal (D3 L) .f32 :=
  Host.reduceWindowAdd ![1, 1, L] ![1, 1, 1] ![0, 0, l] ![0, 0, 0] x.lf
    (broadcastInDim Sc ![] σ.scSc (constant Sc .f32 0x00000000#32)) σ.windows σ.one

/-- The log weights, −∞ above the diagonal. -/
def dms : FVec Ideal (D4 L L) .f32 :=
  select (broadcastInDim (D4 L L) ![2, 3] σ.matD4
      (select (cmpi .sge (addi (iotaInDim (Mat L L) 32 0) (broadcastInDim (Mat L L) ![] σ.scMat (constantI Sc 32 0#32)))
        (iotaInDim (Mat L L) 32 1)) (broadcastInDim (Mat L L) ![] σ.scMat (constantI Sc 1 1#1))
        (broadcastInDim (Mat L L) ![] σ.scMat (constantI Sc 1 0#1))))
    (addf (subf (spread σ L (.inl rfl) (x.bs σ)) (across σ (x.bs σ))) (across σ x.ig))
    (broadcastInDim (D4 L L) ![] σ.scD4 (id (constant (F := Ideal) Sc .f32 0xFF800000#32)))

/-- The carried stabilizers, seen from each token. -/
def mst : FVec Ideal (D3 L) .f32 := addf (x.bs σ) (along σ x.m)

/-- The stabilizers. -/
def mts : FVec Ideal (D3 L) .f32 :=
  maximumf (x.mst σ) (Host.reduce FloatOps.maximumf (x.dms σ) (constant (F := Ideal) Sc .f32 0xFF800000#32) σ.rowTo σ.one)

/-- The weights of the carried states. -/
def sss : FVec Ideal (D3 L) .f32 := Host.exp (subf (x.mst σ) (x.mts σ))

/-- The weights times the scores. -/
def ws : FVec Ideal (D4 L L) .f32 :=
  mulf (Host.exp (subf (x.dms σ) (spread σ L (.inl rfl) (x.mts σ))))
    (Host.dotGeneral (⟨[3], [3], [2], [2], [0, 1], [0, 1], σ.qk⟩ : DotDims _ _ _) none x.q x.k)

/-- The outputs. -/
def hs : FVec Ideal (D4 L 512) .f32 :=
  Host.divf
    (addf (mulf (spread σ 512 (.inr (.inr rfl)) (x.sss σ))
        (Host.dotGeneral (⟨[3], [2], [2], [3], [0, 1], [0, 1], σ.qC⟩ : DotDims _ _ _) none x.q x.C))
      (Host.dotGeneral (⟨[3], [2], [2], [3], [0, 1], [0, 1], σ.wv⟩ : DotDims _ _ _) none (x.ws σ) x.v))
    (spread σ 512 (.inr (.inr rfl)) (maximumf (Host.absf
      (addf (mulf (x.sss σ) (Host.dotGeneral (⟨[3], [2], [2], [], [0, 1], [0, 1], σ.qn⟩ : DotDims _ _ _) none x.q x.n))
        (Host.reduceAdd (x.ws σ) (constant (F := Ideal) Sc .f32 0x00000000#32) σ.rowTo σ.one))) (Host.exp (Host.negf (x.mts σ)))))

/-- The log forget gates of the whole chunk, summed. -/
def gs : FVec Ideal D2 .f32 := shapeCast D2 (extractStridedSlice (D3 1) ![0, 0, l] (x.bs σ) σ.slice) σ.cast

/-- The log weights with which the tokens enter the state after the chunk. -/
def decs : FVec Ideal (D3 L) .f32 := addf (subf (along σ (x.gs σ)) (x.bs σ)) x.ig

/-- The stabilizers after the chunk. -/
def mns : FVec Ideal D2 .f32 :=
  maximumf (addf (x.gs σ) x.m) (Host.reduce FloatOps.maximumf (x.decs σ) (constant (F := Ideal) Sc .f32 0xFF800000#32) σ.vecTo σ.one)

/-- The weights of the carried states after the chunk. -/
def sos : FVec Ideal D2 .f32 := Host.exp (subf (addf (x.gs σ) x.m) (x.mns σ))

/-- The weights of the tokens in the state after the chunk. -/
def wes : FVec Ideal (D3 L) .f32 := Host.exp (subf (x.decs σ) (along σ (x.mns σ)))

/-- The matrix memories after the chunk. -/
def Cns : FVec Ideal (D4 256 512) .f32 :=
  addf (mulf (broadcastInDim (D4 256 512) ![0, 1, 2, 3] σ.numMat (broadcastInDim (D4 1 1) ![0, 1] σ.num11 (x.sos σ))) x.C)
    (Host.dotGeneral (⟨[2], [2], [3], [3], [0, 1], [0, 1], σ.kv⟩ : DotDims _ _ _) none
      (mulf (spread σ 256 (.inr (.inl rfl)) (x.wes σ)) x.k) x.v)

/-- The normalizers after the chunk. -/
def nns : FVec Ideal (D3 256) .f32 :=
  addf (mulf (broadcastInDim (D3 256) ![0, 1, 2] σ.num256 (broadcastInDim (D3 1) ![0, 1] σ.num1 (x.sos σ))) x.n)
    (Host.dotGeneral (⟨[2], [2], [], [3], [0, 1], [0, 1], σ.wk⟩ : DotDims _ _ _) none (x.wes σ) x.k)

variable (b H : Fin 8)

theorem spread_apply (n : ℕ) (hn : n = L ∨ n = 256 ∨ n = 512) (y : FVec Ideal (D3 L) .f32) (t : Fin L) (s : Fin n) :
    spread σ n hn y (ix4 b H t s) = y (ix3 b H t) := spreadCols ..

theorem across_apply (y : FVec Ideal (D3 L) .f32) (t s : Fin L) : across σ y (ix4 b H t s) = y (ix3 b H s) := spreadRows ..

theorem along_apply (y : FVec Ideal D2 .f32) (t : Fin L) : along σ y (ix3 b H t) = y (ix2 b H) := spreadVec ..

theorem bs_apply (t : Fin L) : x.bs σ (ix3 b H t) = (x.chunk b H).b t := runningSum σ.last x.lf _ _ _ b H t

theorem dms_apply (t s : Fin L) : x.dms σ (ix4 b H t s) = (x.chunk b H).dm t s := by
  refine (tril_select σ.small σ.scMat σ.matD4 _ _ b H t s).trans ?_
  rw [addf_apply, subf_apply, spread_apply, across_apply, across_apply, broadcastInDim_scalar_apply, bs_apply, bs_apply]
  exact congrArg (fun z => if s.val ≤ t.val then _ else z) ChunkIn.negInf

theorem mst_apply (t : Fin L) : x.mst σ (ix3 b H t) = (x.chunk b H).b t + (x.chunk b H).m := by
  unfold mst
  rw [addf_apply, along_apply, bs_apply]; rfl

theorem mts_apply (t : Fin L) : x.mts σ (ix3 b H t) = (x.chunk b H).mt t := by
  unfold mts
  rw [maximumf_apply, stackMaxRow (x.dms σ) σ.rowTo σ.rowRed, mst_apply]
  simp only [dms_apply]; rfl

theorem sss_apply (t : Fin L) : x.sss σ (ix3 b H t) = (x.chunk b H).ss t := by
  unfold sss
  rw [Host.exp_apply, subf_apply, mst_apply, mts_apply]; rfl

theorem ws_apply (t s : Fin L) : x.ws σ (ix4 b H t s) = (x.chunk b H).w t s := by
  unfold ws
  rw [mulf_apply, Host.exp_apply, subf_apply, dms_apply, spread_apply, mts_apply, stackMulTr]; rfl

/-- The outputs are the chunk formula's. -/
theorem hs_apply (t : Fin L) (e : Fin 512) : x.hs σ (ix4 b H t e) = (x.chunk b H).h t e := by
  unfold hs
  rw [Host.divf_apply, addf_apply, mulf_apply, spread_apply, spread_apply, maximumf_apply, Host.absf_apply, addf_apply, mulf_apply,
    Host.exp_apply, Host.negf_apply, sss_apply, mts_apply, stackMul, stackMul, stackMulVec, stackSumRow (x.ws σ) σ.rowTo σ.rowRed]
  simp only [ws_apply]; rfl

theorem gs_apply (hl : l < L) : x.gs σ (ix2 b H) = (x.chunk b H).b ⟨l, hl⟩ :=
  (lastEntry _ l hl _ _ b H).trans (bs_apply ..)

theorem decs_apply (hl : l < L) (s : Fin L) : x.decs σ (ix3 b H s) = (x.chunk b H).dec ⟨l, hl⟩ s := by
  unfold decs
  rw [addf_apply, subf_apply, along_apply, gs_apply σ x b H hl, bs_apply]; rfl

/-- The stabilizers after the chunk are the chunk formula's. -/
theorem mns_apply (hl : l < L) : x.mns σ (ix2 b H) = (x.chunk b H).mn ⟨l, hl⟩ := by
  unfold mns
  rw [maximumf_apply, addf_apply, gs_apply σ x b H hl, stackMax (x.decs σ) σ.vecTo σ.vecRed]
  simp only [decs_apply σ x b H hl]; rfl

theorem sos_apply (hl : l < L) : x.sos σ (ix2 b H) = (x.chunk b H).so ⟨l, hl⟩ := by
  unfold sos
  rw [Host.exp_apply, subf_apply, addf_apply, gs_apply σ x b H hl, mns_apply σ x b H hl]; rfl

theorem wes_apply (hl : l < L) (s : Fin L) :
    x.wes σ (ix3 b H s) = Ideal.exp ((x.chunk b H).dec ⟨l, hl⟩ s - (x.chunk b H).mn ⟨l, hl⟩) := by
  unfold wes
  rw [Host.exp_apply, subf_apply, decs_apply σ x b H hl, along_apply, mns_apply σ x b H hl]; rfl

/-- The matrix memories after the chunk are the chunk formula's. -/
theorem Cns_apply (hl : l < L) (d : Fin 256) (e : Fin 512) : x.Cns σ (ix4 b H d e) = (x.chunk b H).Cn ⟨l, hl⟩ d e := by
  unfold Cns
  rw [addf_apply, mulf_apply, spreadNum, sos_apply σ x b H hl, stackTrMul]
  refine congrArg₂ (· + ·) rfl (sum_congr rfl fun s _ => congrArg (· * _) ?_)
  rw [mulf_apply, spread_apply, wes_apply σ x b H hl]
  exact mul_comm _ _

/-- The normalizers after the chunk are the chunk formula's. -/
theorem nns_apply (hl : l < L) (d : Fin 256) : x.nns σ (ix3 b H d) = (x.chunk b H).nn ⟨l, hl⟩ d := by
  unfold nns
  rw [addf_apply, mulf_apply, spreadVec, sos_apply σ x b H hl, stackVecMul]
  refine congrArg₂ (· + ·) rfl (sum_congr rfl fun s _ => ?_)
  rw [wes_apply σ x b H hl]
  exact mul_comm _ _

end StackIn

end Cert.Mlstm
-- ==== Proof.RefStart.lean ====
/-
  The reference before its loop, first part: the queries, keys, values and gates it lays out for each batch element and
  head, which on real arguments are the tokens of the recurrence.
-/
module

public import proofs.«01_k».proof.Proof.Gen.ReferenceIdeal.Run
public import proofs.«01_k».proof.Proof.Inputs
public import proofs.«01_k».proof.Proof.StackChunk

@[expose] public section

set_option maxRecDepth 16384

noncomputable section

namespace Cert.Mlstm

open Idealize.ShloMosaic Idealize.ShloMosaic.ValueIdx Idealize.ShloMosaic.TcCoe Idealize.ShloMosaic.StableHlo
open Cert.ReferenceIdeal Cert.ReferenceIdeal.Gen Cert.ReferenceIdeal.Value

/-- The contents of the reference's buffers. -/
abbrev RefVals := Valuation τ sig (Elt Ideal)

/-- The argument arrays among the buffers' contents. -/
def refArgs (V : RefVals) : Args where
  q := V (Proc.devRef .tc main_arg0)
  k := V (Proc.devRef .tc main_arg1)
  v := V (Proc.devRef .tc main_arg2)
  g := V (Proc.devRef .tc main_arg3)

/-- Columns `n H, …` of a row as head `H`'s own. -/
def heads (n w : ℕ) (x : (Cube 8 2064 w).Idx → EReal) (h : (Cube 8 2064 w).ShapeCasts ⟨4, ![8, 2064, 8, n]⟩)
    (ht : (⟨4, ![8, 2064, 8, n]⟩ : Shape).Transposes [0, 2, 1, 3] (D4 2064 n)) : (D4 2064 n).Idx → EReal :=
  transpose (D4 2064 n) [0, 2, 1, 3] (shapeCast ⟨4, ![8, 2064, 8, n]⟩ x h) ht

theorem heads_apply (n w : ℕ) (hw : w = 8 * n) (x : (Cube 8 2064 w).Idx → EReal) (h) (ht) (b H : Fin 8) (r : Fin 2064) (d : Fin n)
    (k : Fin w) (hk : k.val = n * H.val + d.val) : heads n w x h ht (ix4 b H r d) = x (ix3 b r k) := by
  unfold heads
  rw [transpose_apply _ _ _ _ (ix4 b r H d) (by intro a; match a with | ⟨0, _⟩ => rfl | ⟨1, _⟩ => rfl | ⟨2, _⟩ => rfl | ⟨3, _⟩ => rfl)]
  refine shapeCast_apply _ _ _ _ ?_
  simp only [Shape.rowMajor_val_three, Shape.rowMajor_val_four]
  show (b.val * 2064 + r.val) * w + k.val = ((b.val * 2064 + r.val) * 8 + H.val) * n + d.val
  rw [hk, hw]; ring

/-- The gates of columns `o, …, o + 7`, one row per token. -/
def gateCols (o : ℕ) (g : (Cube 8 2064 16).Idx → EReal) (h : (Cube 8 2064 16).Slices ![0, 0, o] (Cube 8 2064 8)) :
    (Cube 8 2064 8).Idx → EReal := extractStridedSlice (Cube 8 2064 8) ![0, 0, o] g h

theorem gateCols_apply (o : ℕ) (g : (Cube 8 2064 16).Idx → EReal) (h) (b H : Fin 8) (r : Fin 2064) (k : Fin 16)
    (hk : k.val = o + H.val) : gateCols o g h (ix3 b r H) = g (ix3 b r k) := by
  refine extractStridedSlice_apply _ _ _ _ _ fun a => ?_
  match a with
  | ⟨0, _⟩ => exact (Nat.zero_add _).symm
  | ⟨1, _⟩ => exact (Nat.zero_add _).symm
  | ⟨2, _⟩ => exact hk

/-- One row of gates per head. -/
def gateHeads (x : (Cube 8 2064 8).Idx → EReal) (h : (Cube 8 2064 8).Transposes [0, 2, 1] (D3 2064)) : (D3 2064).Idx → EReal :=
  transpose (D3 2064) [0, 2, 1] x h

theorem gateHeads_apply (x : (Cube 8 2064 8).Idx → EReal) (h) (b H : Fin 8) (r : Fin 2064) :
    gateHeads x h (ix3 b H r) = x (ix3 b r H) :=
  transpose_apply _ _ _ _ _ (by intro a; match a with | ⟨0, _⟩ => rfl | ⟨1, _⟩ => rfl | ⟨2, _⟩ => rfl)

/-- The log-sigmoid as the reference computes it: minus the softplus of the negated argument. -/
def lsigRef (h : Sc.BroadcastsInDim (Cube 8 2064 8) ![]) (x : FVec Ideal (Cube 8 2064 8) .f32) : FVec Ideal (Cube 8 2064 8) .f32 :=
  let z : FVec Ideal (Cube 8 2064 8) .f32 := broadcastInDim (Cube 8 2064 8) ![] h (constant Sc .f32 0x00000000#32)
  let y : FVec Ideal (Cube 8 2064 8) .f32 := Host.negf x
  Host.negf (select (cmpf .une (subf y z) (subf y z)) (addf y z)
    (addf (maximumf y z) (Host.log1p (Host.exp (Host.negf (Host.absf (subf y z)))))))

theorem lsigRef_coe (h) (x : FVec Ideal (Cube 8 2064 8) .f32) (j : (Cube 8 2064 8).Idx) (hx : IsReal (x j)) :
    lsigRef h x j = (lsigR (x j).toReal : ℝ) := by
  obtain ⟨r, hr⟩ := hx
  have hz : broadcastInDim (Cube 8 2064 8) ![] h (constant (F := Ideal) Sc .f32 0x00000000#32) j = (0 : EReal) := by
    rw [broadcastInDim_scalar_apply]; exact Ideal.ofBits_zero_f32
  unfold lsigRef
  simp only [Host.negf_apply, select_apply, cmpf_apply, addf_apply, subf_apply, maximumf_apply, Host.log1p_apply, Host.exp_apply,
    Host.absf_apply, hz, hr]
  have hc : FloatOps.cmpf (F := Ideal) (φ := .f32) .une (-(r : EReal) - 0) (-(r : EReal) - 0) = 0#1 := by
    simp [Ideal.cmpf_def, Ideal.cmp]
  refine (congrArg Neg.neg ((if_neg (fun h1 => absurd (hc.symm.trans h1) (by decide))).trans
    (?_ : _ = ((max (-r) 0 + Real.log (1 + Real.exp (-|r|)) : ℝ) : EReal)))).trans ?_
  · show max (-(r : EReal)) 0 + Ideal.log (1 + Ideal.exp (-max (-(r : EReal) - 0) (-(-(r : EReal) - 0)))) = _
    have e1 : max (-(r : EReal) - 0) (-(-(r : EReal) - 0)) = ((|r| : ℝ) : EReal) := by
      rw [sub_zero, neg_neg, ← EReal.coe_neg, max_comm, abs_eq_max_neg]; push_cast; rfl
    have e2 : (1 : EReal) + ((Real.exp (-|r|) : ℝ) : EReal) = ((1 + Real.exp (-|r|) : ℝ) : EReal) := by push_cast; rfl
    rw [e1, ← EReal.coe_neg, ← EReal.coe_neg, Ideal.exp_coe, e2, Ideal.log_coe, if_neg (not_le.2 (by positivity))]
    push_cast
    rfl
  · rw [← EReal.coe_neg]
    refine congrArg _ ?_
    show -(max (-r) 0 + Real.log (1 + Real.exp (-|r|))) = min r 0 - Real.log (1 + Real.exp (-|r|))
    have e3 : max (-r) 0 = -min r 0 := by rw [← max_neg_neg, neg_zero]
    rw [e3]; ring

section
variable (V : RefVals)

/-- After the first stretch: the queries, keys, values and gates, laid out. -/
theorem start0_q : after hostOps0 V (Proc.devRef .tc main_v4)
    = mulf (F := Ideal) (heads 256 2048 (refArgs V).q shapeCasts_S8x2064x2048_S8x2064x8x256 transposes_S8x2064x8x256_S8x8x2064x256_0_2_1_3)
        (broadcastInDim (D4 2064 256) ![] bcast_S_S8x8x2064x256 (constant Sc .f32 0x3D800000#32)) := by
  after_results_simp
  rfl

theorem start0_k : after hostOps0 V (Proc.devRef .tc main_v7)
    = heads 256 2048 (refArgs V).k shapeCasts_S8x2064x2048_S8x2064x8x256 transposes_S8x2064x8x256_S8x8x2064x256_0_2_1_3 := by
  after_results_simp
  rfl

theorem start0_v : after hostOps0 V (Proc.devRef .tc main_v10)
    = heads 512 4096 (refArgs V).v shapeCasts_S8x2064x4096_S8x2064x8x512 transposes_S8x2064x8x512_S8x8x2064x512_0_2_1_3 := by
  after_results_simp
  rfl

theorem start0_ig : after hostOps0 V (Proc.devRef .tc main_v12)
    = gateHeads (gateCols 0 (refArgs V).g slices_S8x2064x16_S8x2064x8_0_0_0) transposes_S8x2064x8_S8x8x2064_0_2_1 := by
  after_results_simp
  rfl

theorem start0_f : after hostOps0 V (Proc.devRef .tc main_v13) = gateCols 8 (refArgs V).g slices_S8x2064x16_S8x2064x8_0_0_8 := by
  after_results_simp
  rfl

theorem start1 : after hostOps0_1 V (Proc.devRef .tc main_v14) = lsigRef bcast_S_S8x2064x8 (V (Proc.devRef .tc main_v13)) := by
  after_results_simp
  rfl

theorem start2_lf : after hostOps0_2 V (Proc.devRef .tc main_v15)
    = gateHeads (V (Proc.devRef .tc main_v14)) transposes_S8x2064x8_S8x8x2064_0_2_1 := by
  after_results_simp
  rfl

/-- The carried state at the start: zero. -/
theorem start2_C : after hostOps0_2 V (Proc.devRef .tc main_v16)
    = broadcastInDim (D4 256 512) ![] bcast_S_S8x8x256x512 (constant (F := Ideal) Sc .f32 0x00000000#32) := by
  after_results_simp

theorem start2_n : after hostOps0_2 V (Proc.devRef .tc main_v17)
    = broadcastInDim (D3 256) ![] bcast_S_S8x8x256 (constant (F := Ideal) Sc .f32 0x00000000#32) := by
  after_results_simp

theorem start2_m : after hostOps0_2 V (Proc.devRef .tc main_v18)
    = broadcastInDim D2 ![] bcast_S_S8x8 (constant (F := Ideal) Sc .f32 0x00000000#32) := by
  after_results_simp

/-- The leading tokens' queries, keys, values and gates. -/
theorem start2_lead_q : after hostOps0_2 V (Proc.devRef .tc main_v19)
    = extractStridedSlice (D4 16 256) ![0, 0, 2048, 0] (V (Proc.devRef .tc main_v4)) slices_S8x8x2064x256_S8x8x16x256_0_0_2048_0 := by
  after_results_simp

theorem start2_lead_k : after hostOps0_2 V (Proc.devRef .tc main_v20)
    = extractStridedSlice (D4 16 256) ![0, 0, 2048, 0] (V (Proc.devRef .tc main_v7)) slices_S8x8x2064x256_S8x8x16x256_0_0_2048_0 := by
  after_results_simp

theorem start2_lead_v : after hostOps0_2 V (Proc.devRef .tc main_v21)
    = extractStridedSlice (D4 16 512) ![0, 0, 2048, 0] (V (Proc.devRef .tc main_v10)) slices_S8x8x2064x512_S8x8x16x512_0_0_2048_0 := by
  after_results_simp

theorem start2_lead_ig : after hostOps0_2 V (Proc.devRef .tc main_v22)
    = extractStridedSlice (D3 16) ![0, 0, 2048] (V (Proc.devRef .tc main_v12)) slices_S8x8x2064_S8x8x16_0_0_2048 := by
  after_results_simp

theorem start2_lead_lf : after hostOps0_2 V (Proc.devRef .tc main_v23)
    = extractStridedSlice (D3 16) ![0, 0, 2048]
        (gateHeads (V (Proc.devRef .tc main_v14)) transposes_S8x2064x8_S8x8x2064_0_2_1) slices_S8x8x2064_S8x8x16_0_0_2048 := by
  after_results_simp
  rfl

end

/-- The reference's buffers once the arguments are laid out. -/
def laid (V : RefVals) : RefVals := after hostOps0_2 (after hostOps0_1 (after hostOps0 V))

/-- A buffer that the two stretches after the first do not write. -/
theorem laid_keep (V : RefVals) (r : Ref sig .tc) (h1 : r ∉ hostOps0_1_W) (h2 : r ∉ hostOps0_2_W) :
    laid V (Proc.devRef .tc r) = after hostOps0 V (Proc.devRef .tc r) :=
  (after_of_writes_sub hostOps0_2 _ hostOps0_2_writes h2).trans (after_of_writes_sub hostOps0_1 _ hostOps0_1_writes h1)

section
variable {V : RefVals} (hV : (refArgs V).Real) (b H : Fin 8) (r : Fin 2064)
include hV

theorem laid_q (d : Fin 256) : (laid V (Proc.devRef .tc main_v4) : FVec Ideal (D4 2064 256) .f32) (ix4 b H r d)
    = ((((refArgs V).tokens b H).q (time r) d : ℝ) : EReal) := by
  rw [laid_keep V main_v4 (by decide) (by decide), start0_q, mulf_apply, broadcastInDim_scalar_apply,
    heads_apply 256 2048 (by norm_num) _ _ _ b H r d (col256 H d) rfl]
  exact hV.q_eq b H r d

theorem laid_k (d : Fin 256) : (laid V (Proc.devRef .tc main_v7) : FVec Ideal (D4 2064 256) .f32) (ix4 b H r d)
    = ((((refArgs V).tokens b H).k (time r) d : ℝ) : EReal) := by
  rw [laid_keep V main_v7 (by decide) (by decide), start0_k,
    heads_apply 256 2048 (by norm_num) _ _ _ b H r d (col256 H d) rfl]
  exact hV.k_eq b H r d

theorem laid_v (e : Fin 512) : (laid V (Proc.devRef .tc main_v10) : FVec Ideal (D4 2064 512) .f32) (ix4 b H r e)
    = ((((refArgs V).tokens b H).v (time r) e : ℝ) : EReal) := by
  rw [laid_keep V main_v10 (by decide) (by decide), start0_v,
    heads_apply 512 4096 (by norm_num) _ _ _ b H r e (col512 H e) rfl]
  exact hV.v_eq b H r e

theorem laid_ig : (laid V (Proc.devRef .tc main_v12) : FVec Ideal (D3 2064) .f32) (ix3 b H r)
    = ((((refArgs V).tokens b H).ig (time r) : ℝ) : EReal) := by
  rw [laid_keep V main_v12 (by decide) (by decide), start0_ig, gateHeads_apply,
    gateCols_apply 0 _ _ b H r (colI H) (Nat.zero_add _).symm]
  exact hV.ig_eq b H r

/-- The log forget gates. -/
theorem gates_lf : gateHeads (after hostOps0_1 (after hostOps0 V) (Proc.devRef .tc main_v14)) transposes_S8x2064x8_S8x8x2064_0_2_1
    (ix3 b H r) = ((((refArgs V).tokens b H).lf (time r) : ℝ) : EReal) := by
  have e := gateCols_apply 8 (refArgs V).g slices_S8x2064x16_S8x2064x8_0_0_8 b H r (colF H) rfl
  rw [gateHeads_apply, start1, start0_f, lsigRef_coe _ _ _ (by rw [e]; exact hV.g _), e]
  exact hV.lf_eq b H r

theorem laid_lf : (laid V (Proc.devRef .tc main_v15) : FVec Ideal (D3 2064) .f32) (ix3 b H r)
    = ((((refArgs V).tokens b H).lf (time r) : ℝ) : EReal) := by
  unfold laid
  rw [start2_lf]
  exact gates_lf hV b H r

end

/-- The leading tokens, with the state before any token. -/
def lead (V : RefVals) : StackIn 16 where
  lf := laid V (Proc.devRef .tc main_v23)
  ig := laid V (Proc.devRef .tc main_v22)
  q := laid V (Proc.devRef .tc main_v19)
  k := laid V (Proc.devRef .tc main_v20)
  v := laid V (Proc.devRef .tc main_v21)
  C := laid V (Proc.devRef .tc main_v16)
  n := laid V (Proc.devRef .tc main_v17)
  m := laid V (Proc.devRef .tc main_v18)

/-- The time of a leading token. -/
theorem time_lead (t : Fin 16) : time (2048 + t.val) = 0 + t.val := by
  unfold time; split <;> omega

/-- Rows 2048, … of a stack of matrices, and of a stack of vectors. -/
theorem leadMat {n : ℕ} (x : (D4 2064 n).Idx → EReal) (h : (D4 2064 n).Slices ![0, 0, 2048, 0] (D4 16 n)) (b H : Fin 8) (t : Fin 16) (d : Fin n) :
    extractStridedSlice (D4 16 n) ![0, 0, 2048, 0] x h (ix4 b H t d) = x (ix4 b H (⟨2048 + t.val, by omega⟩ : Fin 2064) d) := by
  refine extractStridedSlice_apply _ _ _ _ _ fun a => ?_
  match a with
  | ⟨0, _⟩ => exact (Nat.zero_add _).symm
  | ⟨1, _⟩ => exact (Nat.zero_add _).symm
  | ⟨2, _⟩ => rfl
  | ⟨3, _⟩ => exact (Nat.zero_add _).symm

theorem leadVec (x : (D3 2064).Idx → EReal) (h : (D3 2064).Slices ![0, 0, 2048] (D3 16)) (b H : Fin 8) (t : Fin 16) :
    extractStridedSlice (D3 16) ![0, 0, 2048] x h (ix3 b H t) = x (ix3 b H (⟨2048 + t.val, by omega⟩ : Fin 2064)) := by
  refine extractStridedSlice_apply _ _ _ _ _ fun a => ?_
  match a with
  | ⟨0, _⟩ => exact (Nat.zero_add _).symm
  | ⟨1, _⟩ => exact (Nat.zero_add _).symm
  | ⟨2, _⟩ => rfl

/-- On real arguments the leading chunk is the recurrence's first 16 tokens. -/
theorem lead_chunk {V : RefVals} (hV : (refArgs V).Real) (b H : Fin 8) :
    (lead V).chunk b H = chunkOf 16 ((refArgs V).tokens b H) 0 := by
  have hz : Ideal.ofBits .f32 0x00000000#32 = ((0 : ℝ) : EReal) := Ideal.ofBits_zero_f32
  have key := fun t : Fin 16 => time_lead t
  unfold StackIn.chunk chunkOf
  congr 1
  · funext t
    show (laid V (Proc.devRef .tc main_v23) : FVec Ideal (D3 16) .f32) (ix3 b H t) = _
    unfold laid
    rw [start2_lead_lf, leadVec, gates_lf hV]
    exact congrArg (fun z => ((((refArgs V).tokens b H).lf z : ℝ) : EReal)) (key t)
  · funext t
    show (laid V (Proc.devRef .tc main_v22) : FVec Ideal (D3 16) .f32) (ix3 b H t) = _
    unfold laid
    rw [start2_lead_ig, leadVec]
    exact (congrFun (after_of_writes_sub hostOps0_2 _ hostOps0_2_writes (r := main_v12) (by decide)).symm _).trans
      ((laid_ig hV b H _).trans (congrArg (fun z => ((((refArgs V).tokens b H).ig z : ℝ) : EReal)) (key t)))
  · funext t d
    show (laid V (Proc.devRef .tc main_v19) : FVec Ideal (D4 16 256) .f32) (ix4 b H t d) = _
    unfold laid
    rw [start2_lead_q, leadMat]
    exact (congrFun (after_of_writes_sub hostOps0_2 _ hostOps0_2_writes (r := main_v4) (by decide)).symm _).trans
      ((laid_q hV b H _ d).trans (congrArg (fun z => ((((refArgs V).tokens b H).q z d : ℝ) : EReal)) (key t)))
  · funext t d
    show (laid V (Proc.devRef .tc main_v20) : FVec Ideal (D4 16 256) .f32) (ix4 b H t d) = _
    unfold laid
    rw [start2_lead_k, leadMat]
    exact (congrFun (after_of_writes_sub hostOps0_2 _ hostOps0_2_writes (r := main_v7) (by decide)).symm _).trans
      ((laid_k hV b H _ d).trans (congrArg (fun z => ((((refArgs V).tokens b H).k z d : ℝ) : EReal)) (key t)))
  · funext t d
    show (laid V (Proc.devRef .tc main_v21) : FVec Ideal (D4 16 512) .f32) (ix4 b H t d) = _
    unfold laid
    rw [start2_lead_v, leadMat]
    exact (congrFun (after_of_writes_sub hostOps0_2 _ hostOps0_2_writes (r := main_v10) (by decide)).symm _).trans
      ((laid_v hV b H _ d).trans (congrArg (fun z => ((((refArgs V).tokens b H).v z d : ℝ) : EReal)) (key t)))
  · funext d e
    show (laid V (Proc.devRef .tc main_v16) : FVec Ideal (D4 256 512) .f32) (ix4 b H d e) = _
    unfold laid
    rw [start2_C, broadcastInDim_scalar_apply]; exact hz
  · funext d
    show (laid V (Proc.devRef .tc main_v17) : FVec Ideal (D3 256) .f32) (ix3 b H d) = _
    unfold laid
    rw [start2_n, broadcastInDim_scalar_apply]; exact hz

end Cert.Mlstm
-- ==== Proof.RefLead.lean ====
/-
  The reference before its loop, second part: its chunk of the 16 leading tokens, and the rest of the tokens cut into
  chunks of 64.
-/
module

public import proofs.«01_k».proof.Proof.RefStart

@[expose] public section

set_option maxRecDepth 16384

noncomputable section

namespace Cert.Mlstm

open Idealize.ShloMosaic Idealize.ShloMosaic.ValueIdx Idealize.ShloMosaic.TcCoe Idealize.ShloMosaic.StableHlo
open Cert.ReferenceIdeal Cert.ReferenceIdeal.Gen Cert.ReferenceIdeal.Value

/-- The shapes of a chunk of 16 tokens. -/
theorem stack16 : StackShapes 16 15 where
  last := rfl
  small := by norm_num
  one := h_S_
  scSc := bcast_S_S_
  scMat := bcast_S_S16x16
  scD4 := bcast_S_S8x8x16x16
  matD4 := bcast_S16x16_S8x8x16x16_2_3
  col := bcast_S8x8x16_S8x8x16x1_0_1_2
  cols := by
    rintro n (rfl | rfl | rfl)
    · exact bcast_S8x8x16x1_S8x8x16x16_0_1_2_3
    · exact bcast_S8x8x16x1_S8x8x16x256_0_1_2_3
    · exact bcast_S8x8x16x1_S8x8x16x512_0_1_2_3
  row := bcast_S8x8x16_S8x8x1x16_0_1_3
  rows := bcast_S8x8x1x16_S8x8x16x16_0_1_2_3
  num1 := bcast_S8x8_S8x8x1_0_1
  numL := bcast_S8x8x1_S8x8x16_0_1_2
  num256 := bcast_S8x8x1_S8x8x256_0_1_2
  num11 := bcast_S8x8_S8x8x1x1_0_1
  numMat := bcast_S8x8x1x1_S8x8x256x512_0_1_2_3
  slice := slices_S8x8x16_S8x8x1_0_0_15
  cast := shapeCasts_S8x8x1_S8x8
  windows := reduceWindows_S8x8x16_S8x8x16_w1s1p0_0_w1s1p0_0_w16s1p15_0
  rowTo := reducesTo_S8x8x16x16_S8x8x16_d3
  rowRed := by decide
  vecTo := reducesTo_S8x8x16_S8x8_d2
  vecRed := by decide
  qk := dot_S8x8x16x256_S8x8x16x256_S8x8x16x16_3_3_2_2_01_01_wf
  qC := dot_S8x8x16x256_S8x8x256x512_S8x8x16x512_3_2_2_3_01_01_wf
  wv := dot_S8x8x16x16_S8x8x16x512_S8x8x16x512_3_2_2_3_01_01_wf
  qn := dot_S8x8x16x256_S8x8x256_S8x8x16_3_2_2_n_01_01_wf
  kv := dot_S8x8x16x256_S8x8x16x512_S8x8x256x512_2_2_3_3_01_01_wf
  wk := dot_S8x8x16_S8x8x16x256_S8x8x256_2_2_n_3_01_01_wf

/-- The shapes of a chunk of 64 tokens. -/
theorem stack64 : StackShapes 64 63 where
  last := rfl
  small := by norm_num
  one := h_S_
  scSc := bcast_S_S_
  scMat := bcast_S_S64x64
  scD4 := bcast_S_S8x8x64x64
  matD4 := bcast_S64x64_S8x8x64x64_2_3
  col := bcast_S8x8x64_S8x8x64x1_0_1_2
  cols := by
    rintro n (rfl | rfl | rfl)
    · exact bcast_S8x8x64x1_S8x8x64x64_0_1_2_3
    · exact bcast_S8x8x64x1_S8x8x64x256_0_1_2_3
    · exact bcast_S8x8x64x1_S8x8x64x512_0_1_2_3
  row := bcast_S8x8x64_S8x8x1x64_0_1_3
  rows := bcast_S8x8x1x64_S8x8x64x64_0_1_2_3
  num1 := bcast_S8x8_S8x8x1_0_1
  numL := bcast_S8x8x1_S8x8x64_0_1_2
  num256 := bcast_S8x8x1_S8x8x256_0_1_2
  num11 := bcast_S8x8_S8x8x1x1_0_1
  numMat := bcast_S8x8x1x1_S8x8x256x512_0_1_2_3
  slice := slices_S8x8x64_S8x8x1_0_0_63
  cast := shapeCasts_S8x8x1_S8x8
  windows := reduceWindows_S8x8x64_S8x8x64_w1s1p0_0_w1s1p0_0_w64s1p63_0
  rowTo := reducesTo_S8x8x64x64_S8x8x64_d3
  rowRed := by decide
  vecTo := reducesTo_S8x8x64_S8x8_d2
  vecRed := by decide
  qk := dot_S8x8x64x256_S8x8x64x256_S8x8x64x64_3_3_2_2_01_01_wf
  qC := dot_S8x8x64x256_S8x8x256x512_S8x8x64x512_3_2_2_3_01_01_wf
  wv := dot_S8x8x64x64_S8x8x64x512_S8x8x64x512_3_2_2_3_01_01_wf
  qn := dot_S8x8x64x256_S8x8x256_S8x8x64_3_2_2_n_01_01_wf
  kv := dot_S8x8x64x256_S8x8x64x512_S8x8x256x512_2_2_3_3_01_01_wf
  wk := dot_S8x8x64_S8x8x64x256_S8x8x256_2_2_n_3_01_01_wf

section
variable (V : RefVals)

/-- The running sums of the leading tokens' log forget gates. -/
theorem lead3 (x : StackIn 16) (hlf : V (Proc.devRef .tc main_v23) = x.lf) :
    after hostOps0_3 V (Proc.devRef .tc main_v24) = x.bs stack16 := by
  after_results_simp
  rw [hlf]
  rfl

/-- The log weights, before the mask. -/
theorem lead6 (x : StackIn 16) (hig : V (Proc.devRef .tc main_v22) = x.ig) (hb : V (Proc.devRef .tc main_v24) = x.bs stack16) :
    after hostOps0_6 V (Proc.devRef .tc main_v34) = addf (subf (StackIn.spread stack16 16 (.inl rfl) (x.bs stack16))
      (StackIn.across stack16 (x.bs stack16))) (StackIn.across stack16 x.ig) := by
  after_results_simp
  rw [hig, hb]
  rfl

theorem lead6_inf : after hostOps0_6 V (Proc.devRef .tc main_cst_3) = constant (F := Ideal) Sc .f32 0xFF800000#32 := by
  after_results_simp

theorem lead4 : after hostOps0_4 V (Proc.devRef .tc main_v25) = broadcastInDim (Mat 16 16) ![] stack16.scMat (constantI Sc 1 1#1) := by
  after_results_simp

theorem lead5 : after hostOps0_5 V (Proc.devRef .tc main_v26)
    = select (cmpi .sge (addi (iotaInDim (Mat 16 16) 32 0) (broadcastInDim (Mat 16 16) ![] stack16.scMat (constantI Sc 32 0#32)))
        (iotaInDim (Mat 16 16) 32 1)) (V (Proc.devRef .tc main_v25))
        (broadcastInDim (Mat 16 16) ![] stack16.scMat (constantI Sc 1 0#1)) := by
  after_results_simp
  rfl

theorem lead7 : after hostOps0_7 V (Proc.devRef .tc main_v35)
    = select (broadcastInDim (D4 16 16) ![2, 3] stack16.matD4 (V (Proc.devRef .tc main_v26))) (V (Proc.devRef .tc main_v34))
        (broadcastInDim (D4 16 16) ![] stack16.scD4 (id (V (Proc.devRef .tc main_cst_3)))) := by
  after_results_simp
  rfl

/-- What the long stretch reads, when it is the leading chunk's. -/
structure Leads (x : StackIn 16) : Prop where
  ig : V (Proc.devRef .tc main_v22) = x.ig
  q : V (Proc.devRef .tc main_v19) = x.q
  k : V (Proc.devRef .tc main_v20) = x.k
  v : V (Proc.devRef .tc main_v21) = x.v
  C : V (Proc.devRef .tc main_v16) = x.C
  n : V (Proc.devRef .tc main_v17) = x.n
  m : V (Proc.devRef .tc main_v18) = x.m
  b : V (Proc.devRef .tc main_v24) = x.bs stack16
  d : V (Proc.devRef .tc main_v35) = x.dms stack16

variable {V} {x : StackIn 16} (h : Leads V x)
include h

theorem lead8_h : after hostOps0_8 V (Proc.devRef .tc main_v65) = x.hs stack16 := by
  after_results_simp
  rw [h.q, h.k, h.v, h.C, h.n, h.m, h.b, h.d]
  rfl

theorem lead8_m : after hostOps0_8 V (Proc.devRef .tc main_v111_8) = x.mns stack16 := by
  after_results_simp
  rw [h.ig, h.m, h.b]
  rfl

theorem lead8_C : after hostOps0_8 V (Proc.devRef .tc main_v111_6) = x.Cns stack16 := by
  after_results_simp
  rw [h.ig, h.k, h.v, h.C, h.m, h.b]
  rfl

theorem lead8_n : after hostOps0_8 V (Proc.devRef .tc main_v111_7) = x.nns stack16 := by
  after_results_simp
  rw [h.ig, h.k, h.n, h.m, h.b]
  rfl

end

end Cert.Mlstm
-- ==== Proof.RefEntry.lean ====
/-
  The reference at its loop's entry: the tokens after the leading ones in 32 chunks of 64, the state after the 16 leading
  tokens, and the leading tokens' outputs.
-/
module

public import proofs.«01_k».proof.Proof.RefLead

@[expose] public section

set_option maxRecDepth 16384

noncomputable section

namespace Cert.Mlstm

open Idealize.ShloMosaic Idealize.ShloMosaic.ValueIdx Idealize.ShloMosaic.TcCoe Idealize.ShloMosaic.StableHlo
open Cert.ReferenceIdeal Cert.ReferenceIdeal.Gen Cert.ReferenceIdeal.Value

/-- The shape of 32 stacks of matrices. -/
abbrev D5 (a b : ℕ) : Shape := ⟨5, ![32, 8, 8, a, b]⟩

/-- The buffers before the long stretch. -/
def mid (V : RefVals) : RefVals :=
  after hostOps0_7 (after hostOps0_6 (after hostOps0_5 (after hostOps0_4 (after hostOps0_3 (laid V)))))

/-- The buffers at the loop's entry. -/
def entry (V : RefVals) : RefVals := after hostOps0_8 (mid V)

section
variable (V : RefVals)

theorem mid_keep (r : Ref sig .tc) (h3 : r ∉ hostOps0_3_W) (h4 : r ∉ hostOps0_4_W) (h5 : r ∉ hostOps0_5_W) (h6 : r ∉ hostOps0_6_W)
    (h7 : r ∉ hostOps0_7_W) : mid V (Proc.devRef .tc r) = laid V (Proc.devRef .tc r) :=
  (after_of_writes_sub hostOps0_7 _ hostOps0_7_writes h7).trans <|
    (after_of_writes_sub hostOps0_6 _ hostOps0_6_writes h6).trans <|
    (after_of_writes_sub hostOps0_5 _ hostOps0_5_writes h5).trans <|
    (after_of_writes_sub hostOps0_4 _ hostOps0_4_writes h4).trans <| after_of_writes_sub hostOps0_3 _ hostOps0_3_writes h3

/-- The long stretch reads the leading chunk. -/
theorem mid_leads : Leads (mid V) (lead V) where
  ig := mid_keep V main_v22 (by decide) (by decide) (by decide) (by decide) (by decide)
  q := mid_keep V main_v19 (by decide) (by decide) (by decide) (by decide) (by decide)
  k := mid_keep V main_v20 (by decide) (by decide) (by decide) (by decide) (by decide)
  v := mid_keep V main_v21 (by decide) (by decide) (by decide) (by decide) (by decide)
  C := mid_keep V main_v16 (by decide) (by decide) (by decide) (by decide) (by decide)
  n := mid_keep V main_v17 (by decide) (by decide) (by decide) (by decide) (by decide)
  m := mid_keep V main_v18 (by decide) (by decide) (by decide) (by decide) (by decide)
  b := by
    refine (after_of_writes_sub hostOps0_7 _ hostOps0_7_writes (by decide)).trans <|
      (after_of_writes_sub hostOps0_6 _ hostOps0_6_writes (by decide)).trans <|
      (after_of_writes_sub hostOps0_5 _ hostOps0_5_writes (by decide)).trans <|
      (after_of_writes_sub hostOps0_4 _ hostOps0_4_writes (by decide)).trans ?_
    exact lead3 _ (lead V) rfl
  d := by
    unfold mid
    rw [lead7, lead6 _ (lead V), lead6_inf, after_of_writes_sub hostOps0_6 _ hostOps0_6_writes (r := main_v26) (by decide), lead5, lead4]
    · rfl
    · exact (after_of_writes_sub hostOps0_5 _ hostOps0_5_writes (by decide)).trans <|
        (after_of_writes_sub hostOps0_4 _ hostOps0_4_writes (by decide)).trans <| after_of_writes_sub hostOps0_3 _ hostOps0_3_writes (by decide)
    · refine (after_of_writes_sub hostOps0_5 _ hostOps0_5_writes (by decide)).trans <|
        (after_of_writes_sub hostOps0_4 _ hostOps0_4_writes (by decide)).trans ?_
      exact lead3 _ (lead V) rfl

end

section
variable {V : RefVals} (hV : (refArgs V).Real) (b H : Fin 8)
include hV

/-- The leading tokens' outputs. -/
theorem entry_h (t : Fin 16) (e : Fin 512) : (entry V (Proc.devRef .tc main_v65) : FVec Ideal (D4 16 512) .f32) (ix4 b H t e)
    = ((out ((refArgs V).tokens b H) t.val e : ℝ) : EReal) := by
  unfold entry
  rw [lead8_h (mid_leads V), StackIn.hs_apply, lead_chunk hV, h_coe, Nat.zero_add]

/-- The state after the leading tokens. -/
theorem entry_C (d : Fin 256) (e : Fin 512) : (entry V (Proc.devRef .tc main_v111_6) : FVec Ideal (D4 256 512) .f32) (ix4 b H d e)
    = ((stC ((refArgs V).tokens b H) 16 d e : ℝ) : EReal) := by
  unfold entry
  rw [lead8_C (mid_leads V), StackIn.Cns_apply _ _ _ _ (by norm_num), lead_chunk hV, Cn_coe _ _ _ rfl]

theorem entry_n (d : Fin 256) : (entry V (Proc.devRef .tc main_v111_7) : FVec Ideal (D3 256) .f32) (ix3 b H d)
    = ((stN ((refArgs V).tokens b H) 16 d : ℝ) : EReal) := by
  unfold entry
  rw [lead8_n (mid_leads V), StackIn.nns_apply _ _ _ _ (by norm_num), lead_chunk hV, nn_coe _ _ _ rfl]

theorem entry_m : (entry V (Proc.devRef .tc main_v111_8) : FVec Ideal D2 .f32) (ix2 b H)
    = ((stM ((refArgs V).tokens b H) 16 : ℝ) : EReal) := by
  unfold entry
  rw [lead8_m (mid_leads V), StackIn.mns_apply _ _ _ _ (by norm_num), lead_chunk hV, mn_coe _ _ _ rfl]

end

/-- The first 2048 rows of a stack of matrices, in chunks of 64. -/
def chunksMat {n : ℕ} (x : (D4 2064 n).Idx → EReal) (h : (D4 2064 n).Slices ![0, 0, 0, 0] (D4 2048 n))
    (hc : (D4 2048 n).ShapeCasts ⟨5, ![8, 8, 32, 64, n]⟩) (ht : (⟨5, ![8, 8, 32, 64, n]⟩ : Shape).Transposes [2, 0, 1, 3, 4] (D5 64 n)) :
    (D5 64 n).Idx → EReal :=
  transpose (D5 64 n) [2, 0, 1, 3, 4] (shapeCast ⟨5, ![8, 8, 32, 64, n]⟩ (extractStridedSlice (D4 2048 n) ![0, 0, 0, 0] x h) hc) ht

theorem chunksMat_apply {n : ℕ} (x : (D4 2064 n).Idx → EReal) (h) (hc) (ht) (k : Fin 32) (b H : Fin 8) (s : Fin 64) (d : Fin n) :
    chunksMat x h hc ht (ix5 k b H s d) = x (ix4 b H (⟨64 * k.val + s.val, by omega⟩ : Fin 2064) d) := by
  unfold chunksMat
  rw [transpose_apply _ _ _ _ (ix5 b H k s d)
    (by intro a; match a with | ⟨0, _⟩ => rfl | ⟨1, _⟩ => rfl | ⟨2, _⟩ => rfl | ⟨3, _⟩ => rfl | ⟨4, _⟩ => rfl),
    shapeCast_apply _ _ _ (ix4 b H (⟨64 * k.val + s.val, by omega⟩ : Fin 2048) d)
      (by simp only [Shape.rowMajor_val_five, Shape.rowMajor_val_four]
          show ((b.val * 8 + H.val) * 2048 + (64 * k.val + s.val)) * n + d.val = (((b.val * 8 + H.val) * 32 + k.val) * 64 + s.val) * n + d.val
          ring)]
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- The first 2048 entries of a stack of vectors, in chunks of 64. -/
def chunksVec (x : (D3 2064).Idx → EReal) (h : (D3 2064).Slices ![0, 0, 0] (D3 2048))
    (hc : (D3 2048).ShapeCasts (D4 32 64)) (ht : (D4 32 64).Transposes [2, 0, 1, 3] ⟨4, ![32, 8, 8, 64]⟩) :
    (⟨4, ![32, 8, 8, 64]⟩ : Shape).Idx → EReal :=
  transpose ⟨4, ![32, 8, 8, 64]⟩ [2, 0, 1, 3] (shapeCast (D4 32 64) (extractStridedSlice (D3 2048) ![0, 0, 0] x h) hc) ht

theorem chunksVec_apply (x : (D3 2064).Idx → EReal) (h) (hc) (ht) (k : Fin 32) (b H : Fin 8) (s : Fin 64) :
    chunksVec x h hc ht (ix4 k b H s) = x (ix3 b H (⟨64 * k.val + s.val, by omega⟩ : Fin 2064)) := by
  unfold chunksVec
  rw [transpose_apply _ _ _ _ (ix4 b H k s)
    (by intro a; match a with | ⟨0, _⟩ => rfl | ⟨1, _⟩ => rfl | ⟨2, _⟩ => rfl | ⟨3, _⟩ => rfl),
    shapeCast_apply _ _ _ (ix3 b H (⟨64 * k.val + s.val, by omega⟩ : Fin 2048))
      (by simp only [Shape.rowMajor_val_three, Shape.rowMajor_val_four]
          show (b.val * 8 + H.val) * 2048 + (64 * k.val + s.val) = ((b.val * 8 + H.val) * 32 + k.val) * 64 + s.val
          omega)]
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

section
variable (V : RefVals)

theorem chunks_q : after hostOps0_8 V (Proc.devRef .tc main_v111_0) = chunksMat (V (Proc.devRef .tc main_v4))
    slices_S8x8x2064x256_S8x8x2048x256_0_0_0_0 shapeCasts_S8x8x2048x256_S8x8x32x64x256 transposes_S8x8x32x64x256_S32x8x8x64x256_2_0_1_3_4 := by
  after_results_simp
  rfl

theorem chunks_k : after hostOps0_8 V (Proc.devRef .tc main_v111_1) = chunksMat (V (Proc.devRef .tc main_v7))
    slices_S8x8x2064x256_S8x8x2048x256_0_0_0_0 shapeCasts_S8x8x2048x256_S8x8x32x64x256 transposes_S8x8x32x64x256_S32x8x8x64x256_2_0_1_3_4 := by
  after_results_simp
  rfl

theorem chunks_v : after hostOps0_8 V (Proc.devRef .tc main_v111_2) = chunksMat (V (Proc.devRef .tc main_v10))
    slices_S8x8x2064x512_S8x8x2048x512_0_0_0_0 shapeCasts_S8x8x2048x512_S8x8x32x64x512 transposes_S8x8x32x64x512_S32x8x8x64x512_2_0_1_3_4 := by
  after_results_simp
  rfl

theorem chunks_ig : after hostOps0_8 V (Proc.devRef .tc main_v111_3) = chunksVec (V (Proc.devRef .tc main_v12))
    slices_S8x8x2064_S8x8x2048_0_0_0 shapeCasts_S8x8x2048_S8x8x32x64 transposes_S8x8x32x64_S32x8x8x64_2_0_1_3 := by
  after_results_simp
  rfl

theorem chunks_lf : after hostOps0_8 V (Proc.devRef .tc main_v111_4) = chunksVec (V (Proc.devRef .tc main_v15))
    slices_S8x8x2064_S8x8x2048_0_0_0 shapeCasts_S8x8x2048_S8x8x32x64 transposes_S8x8x32x64_S32x8x8x64_2_0_1_3 := by
  after_results_simp
  rfl

end

/-- The time of token `s` of chunk `k`. -/
theorem time_chunk (k : Fin 32) (s : Fin 64) : time (64 * k.val + s.val) = 16 + 64 * k.val + s.val := by
  unfold time
  rw [if_pos (by omega), add_assoc]

section
variable {V : RefVals} (hV : (refArgs V).Real) (k : Fin 32) (b H : Fin 8) (s : Fin 64)
include hV

theorem entry_q (d : Fin 256) : (entry V (Proc.devRef .tc main_v111_0) : FVec Ideal (D5 64 256) .f32) (ix5 k b H s d)
    = ((((refArgs V).tokens b H).q (16 + 64 * k.val + s.val) d : ℝ) : EReal) := by
  unfold entry
  rw [chunks_q, chunksMat_apply, mid_keep V main_v4 (by decide) (by decide) (by decide) (by decide) (by decide), ← time_chunk]
  exact laid_q hV b H _ d

theorem entry_k (d : Fin 256) : (entry V (Proc.devRef .tc main_v111_1) : FVec Ideal (D5 64 256) .f32) (ix5 k b H s d)
    = ((((refArgs V).tokens b H).k (16 + 64 * k.val + s.val) d : ℝ) : EReal) := by
  unfold entry
  rw [chunks_k, chunksMat_apply, mid_keep V main_v7 (by decide) (by decide) (by decide) (by decide) (by decide), ← time_chunk]
  exact laid_k hV b H _ d

theorem entry_v (e : Fin 512) : (entry V (Proc.devRef .tc main_v111_2) : FVec Ideal (D5 64 512) .f32) (ix5 k b H s e)
    = ((((refArgs V).tokens b H).v (16 + 64 * k.val + s.val) e : ℝ) : EReal) := by
  unfold entry
  rw [chunks_v, chunksMat_apply, mid_keep V main_v10 (by decide) (by decide) (by decide) (by decide) (by decide), ← time_chunk]
  exact laid_v hV b H _ e

theorem entry_ig : (entry V (Proc.devRef .tc main_v111_3) : FVec Ideal ⟨4, ![32, 8, 8, 64]⟩ .f32) (ix4 k b H s)
    = ((((refArgs V).tokens b H).ig (16 + 64 * k.val + s.val) : ℝ) : EReal) := by
  unfold entry
  rw [chunks_ig, chunksVec_apply, mid_keep V main_v12 (by decide) (by decide) (by decide) (by decide) (by decide), ← time_chunk]
  exact laid_ig hV b H _

theorem entry_lf : (entry V (Proc.devRef .tc main_v111_4) : FVec Ideal ⟨4, ![32, 8, 8, 64]⟩ .f32) (ix4 k b H s)
    = ((((refArgs V).tokens b H).lf (16 + 64 * k.val + s.val) : ℝ) : EReal) := by
  unfold entry
  rw [chunks_lf, chunksVec_apply, mid_keep V main_v15 (by decide) (by decide) (by decide) (by decide) (by decide), ← time_chunk]
  exact laid_lf hV b H _

end

end Cert.Mlstm
-- ==== Proof.RefLoop.lean ====
/-
  The reference's loop: after `k` trips the carried state is the recurrence's after `16 + 64 k` tokens, and the outputs of
  the first `k` chunks are the recurrence's.
-/
module

public import proofs.«01_k».proof.Proof.RefEntry
public import Idealize.ShloMosaic.Lib.DynamicIndex

@[expose] public section

set_option maxRecDepth 16384

noncomputable section

namespace Cert.Mlstm

open Idealize.ShloMosaic Idealize.ShloMosaic.ValueIdx Idealize.ShloMosaic.TcCoe Idealize.ShloMosaic.StableHlo
open Cert.ReferenceIdeal Cert.ReferenceIdeal.Gen Cert.ReferenceIdeal.Value

/-! ## One chunk's matrices and vectors, read and written -/

/-- One chunk of the stacks of matrices, with the chunk's axis kept. -/
abbrev U5 (a b : ℕ) : Shape := ⟨5, ![1, 8, 8, a, b]⟩

theorem chunkSlices (k : Fin 32) (a n : ℕ) : (D5 a n).Slices ![k.val, 0, 0, 0, 0] (U5 a n) := by
  refine ⟨rfl, fun x => ?_⟩
  match x with
  | ⟨0, _⟩ => show k.val + 1 ≤ 32; omega
  | ⟨1, _⟩ => exact (Nat.zero_add _).le
  | ⟨2, _⟩ => exact (Nat.zero_add _).le
  | ⟨3, _⟩ => exact (Nat.zero_add _).le
  | ⟨4, _⟩ => exact (Nat.zero_add _).le

theorem readMat {α : Type} {a n : ℕ} (x : (D5 a n).Idx → α) (start : Fin 5 → Int) (k : Fin 32)
    (hs : ∀ i, start i = ((![k.val, 0, 0, 0, 0] i : ℕ) : Int)) (h : (D5 a n).Slices (fun _ => 0) (U5 a n))
    (hc : (U5 a n).ShapeCasts (D4 a n)) (b H : Fin 8) (s : Fin a) (d : Fin n) :
    shapeCast (D4 a n) (Host.dynamicSlice (U5 a n) x start h) hc (ix4 b H s d) = x (ix5 k b H s d) := by
  rw [Host.dynamicSlice_eq_extractStridedSlice (U5 a n) x start ![k.val, 0, 0, 0, 0] h (chunkSlices k a n) hs,
    shapeCast_apply _ _ _ (ix5 (0 : Fin 1) b H s d)
      (by simp only [Shape.rowMajor_val_five, Shape.rowMajor_val_four]
          show (((0 * 8 + b.val) * 8 + H.val) * a + s.val) * n + d.val = ((b.val * 8 + H.val) * a + s.val) * n + d.val
          rw [Nat.zero_mul, Nat.zero_add])]
  refine extractStridedSlice_apply _ _ _ _ _ fun x => ?_
  match x with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

theorem readVec {α : Type} {a : ℕ} (x : (⟨4, ![32, 8, 8, a]⟩ : Shape).Idx → α) (start : Fin 4 → Int) (k : Fin 32)
    (hs : ∀ i, start i = ((![k.val, 0, 0, 0] i : ℕ) : Int)) (h : (⟨4, ![32, 8, 8, a]⟩ : Shape).Slices (fun _ => 0) ⟨4, ![1, 8, 8, a]⟩)
    (hc : (⟨4, ![1, 8, 8, a]⟩ : Shape).ShapeCasts (D3 a)) (b H : Fin 8) (s : Fin a) :
    shapeCast (D3 a) (Host.dynamicSlice ⟨4, ![1, 8, 8, a]⟩ x start h) hc (ix3 b H s) = x (ix4 k b H s) := by
  have hk : (⟨4, ![32, 8, 8, a]⟩ : Shape).Slices ![k.val, 0, 0, 0] ⟨4, ![1, 8, 8, a]⟩ := by
    refine ⟨rfl, fun x => ?_⟩
    match x with
    | ⟨0, _⟩ => show k.val + 1 ≤ 32; omega
    | ⟨1, _⟩ => exact (Nat.zero_add _).le
    | ⟨2, _⟩ => exact (Nat.zero_add _).le
    | ⟨3, _⟩ => exact (Nat.zero_add _).le
  rw [Host.dynamicSlice_eq_extractStridedSlice ⟨4, ![1, 8, 8, a]⟩ x start ![k.val, 0, 0, 0] h hk hs,
    shapeCast_apply _ _ _ (ix4 (0 : Fin 1) b H s)
      (by simp only [Shape.rowMajor_val_three, Shape.rowMajor_val_four]
          show ((0 * 8 + b.val) * 8 + H.val) * a + s.val = (b.val * 8 + H.val) * a + s.val
          rw [Nat.zero_mul, Nat.zero_add])]
  refine extractStridedSlice_apply _ _ _ _ _ fun x => ?_
  match x with
  | ⟨0, _⟩ => rfl
  | ⟨1, _⟩ => exact (Nat.zero_add _).symm
  | ⟨2, _⟩ => exact (Nat.zero_add _).symm
  | ⟨3, _⟩ => exact (Nat.zero_add _).symm

/-- Writing chunk `k` changes chunk `k` alone. -/
theorem writeMat {α : Type} {a n : ℕ} (x : (D5 a n).Idx → α) (y : (D4 a n).Idx → α) (start : Fin 5 → Int) (k : Fin 32)
    (hs : ∀ i, start i = ((![k.val, 0, 0, 0, 0] i : ℕ) : Int)) (h : (D5 a n).Slices (fun _ => 0) (U5 a n))
    (hb : (D4 a n).BroadcastsInDim (U5 a n) ![1, 2, 3, 4]) (j : Fin 32) (b H : Fin 8) (s : Fin a) (d : Fin n) :
    Host.dynamicUpdateSlice x (broadcastInDim (U5 a n) ![1, 2, 3, 4] hb y) start h (ix5 j b H s d)
      = if j = k then y (ix4 b H s d) else x (ix5 j b H s d) := by
  rw [Host.dynamicUpdateSlice_eq_updateSlice x _ start h ![k.val, 0, 0, 0, 0]
    (by intro i
        rw [hs i]
        match i with
        | ⟨0, _⟩ => show (min (max ((k.val : ℕ) : Int) 0) ((32 - 1 : ℕ) : Int)).toNat = k.val; omega
        | ⟨1, _⟩ => show (min (max ((0 : ℕ) : Int) 0) ((8 - 8 : ℕ) : Int)).toNat = 0; omega
        | ⟨2, _⟩ => show (min (max ((0 : ℕ) : Int) 0) ((8 - 8 : ℕ) : Int)).toNat = 0; omega
        | ⟨3, _⟩ => show (min (max ((0 : ℕ) : Int) 0) ((a - a : ℕ) : Int)).toNat = 0; omega
        | ⟨4, _⟩ => show (min (max ((0 : ℕ) : Int) 0) ((n - n : ℕ) : Int)).toNat = 0; omega)
    (chunkSlices k a n)]
  unfold updateSlice
  by_cases hj : j = k
  · subst hj
    rw [if_pos rfl, dif_pos]
    · refine broadcastInDim_apply _ _ _ _ _ fun i => ?_
      match i with
      | ⟨0, _⟩ => rfl
      | ⟨1, _⟩ => rfl
      | ⟨2, _⟩ => show s.val = if a = 1 then 0 else s.val - 0; split <;> omega
      | ⟨3, _⟩ => show d.val = if n = 1 then 0 else d.val - 0; split <;> omega
    · intro i
      match i with
      | ⟨0, _⟩ => exact ⟨le_refl _, Nat.lt_succ_self _⟩
      | ⟨1, _⟩ => exact ⟨Nat.zero_le _, by show b.val < 0 + 8; omega⟩
      | ⟨2, _⟩ => exact ⟨Nat.zero_le _, by show H.val < 0 + 8; omega⟩
      | ⟨3, _⟩ => exact ⟨Nat.zero_le _, by show s.val < 0 + a; omega⟩
      | ⟨4, _⟩ => exact ⟨Nat.zero_le _, by show d.val < 0 + n; omega⟩
  · rw [if_neg hj, dif_neg]
    intro hin
    have h0 : k.val ≤ j.val ∧ j.val < k.val + 1 := hin 0
    exact hj (Fin.ext (by omega))

/-! ## One trip -/

/-- Where trip `V` reads and writes. -/
def startMat (V : RefVals) : Fin 5 → Int := fun k => (((![V (Proc.devRef .tc main_v111_5), constantI S_ 32 0#32, constantI S_ 32 0#32,
  constantI S_ 32 0#32, constantI S_ 32 0#32] : Fin 5 → (⟨S_, .i32⟩ : BufTy).Contents (Elt Ideal))) k (Shape.Idx.first h_S_)).toInt

def startVec (V : RefVals) : Fin 4 → Int := fun k => (((![V (Proc.devRef .tc main_v111_5), constantI S_ 32 0#32, constantI S_ 32 0#32,
  constantI S_ 32 0#32] : Fin 4 → (⟨S_, .i32⟩ : BufTy).Contents (Elt Ideal))) k (Shape.Idx.first h_S_)).toInt

/-- What a trip reads. -/
def chunkAt (V : RefVals) : StackIn 64 where
  lf := shapeCast S8x8x64 (Host.dynamicSlice S1x8x8x64 (V (Proc.devRef .tc main_v111_4)) (startVec V) sliceFits_S32x8x8x64_S1x8x8x64)
    shapeCasts_S1x8x8x64_S8x8x64
  ig := shapeCast S8x8x64 (Host.dynamicSlice S1x8x8x64 (V (Proc.devRef .tc main_v111_3)) (startVec V) sliceFits_S32x8x8x64_S1x8x8x64)
    shapeCasts_S1x8x8x64_S8x8x64
  q := shapeCast S8x8x64x256 (Host.dynamicSlice S1x8x8x64x256 (V (Proc.devRef .tc main_v111_0)) (startMat V)
    sliceFits_S32x8x8x64x256_S1x8x8x64x256) shapeCasts_S1x8x8x64x256_S8x8x64x256
  k := shapeCast S8x8x64x256 (Host.dynamicSlice S1x8x8x64x256 (V (Proc.devRef .tc main_v111_1)) (startMat V)
    sliceFits_S32x8x8x64x256_S1x8x8x64x256) shapeCasts_S1x8x8x64x256_S8x8x64x256
  v := shapeCast S8x8x64x512 (Host.dynamicSlice S1x8x8x64x512 (V (Proc.devRef .tc main_v111_2)) (startMat V)
    sliceFits_S32x8x8x64x512_S1x8x8x64x512) shapeCasts_S1x8x8x64x512_S8x8x64x512
  C := V (Proc.devRef .tc main_v111_6)
  n := V (Proc.devRef .tc main_v111_7)
  m := V (Proc.devRef .tc main_v111_8)

theorem trip_mts (V : RefVals) : res_main_while0b_v139 V = (chunkAt V).mts stack64 := rfl
theorem trip_sss (V : RefVals) : res_main_while0b_v141 V = (chunkAt V).sss stack64 := rfl
theorem trip_ws (V : RefVals) : res_main_while0b_v147 V = (chunkAt V).ws stack64 := rfl
theorem trip_C (V : RefVals) : step_main_v111_6 V = (chunkAt V).Cns stack64 := rfl
theorem trip_n (V : RefVals) : step_main_v111_7 V = (chunkAt V).nns stack64 := rfl
theorem trip_m (V : RefVals) : step_main_v111_8 V = (chunkAt V).mns stack64 := rfl
theorem trip_h (V : RefVals) : step_main_v111_9 V = Host.dynamicUpdateSlice (V (Proc.devRef .tc main_v111_9))
    (broadcastInDim S1x8x8x64x512 ![1, 2, 3, 4] bcast_S8x8x64x512_S1x8x8x64x512_1_2_3_4 ((chunkAt V).hs stack64)) (startMat V)
    updateFits_S32x8x8x64x512_S1x8x8x64x512 := by
  unfold step_main_v111_9
  rw [trip_sss, trip_ws, trip_mts]
  rfl

/-- The buffers after `T` trips, for the tokens `X`. -/
structure Trips (X : Fin 8 → Fin 8 → Tokens (Fin 256) (Fin 512)) (T : ℕ) (V : RefVals) : Prop where
  q : ∀ (j : Fin 32) (b H : Fin 8) (s : Fin 64) (d : Fin 256), (V (Proc.devRef .tc main_v111_0) : FVec Ideal (D5 64 256) .f32) (ix5 j b H s d)
    = (((X b H).q (16 + 64 * j.val + s.val) d : ℝ) : EReal)
  k : ∀ (j : Fin 32) (b H : Fin 8) (s : Fin 64) (d : Fin 256), (V (Proc.devRef .tc main_v111_1) : FVec Ideal (D5 64 256) .f32) (ix5 j b H s d)
    = (((X b H).k (16 + 64 * j.val + s.val) d : ℝ) : EReal)
  v : ∀ (j : Fin 32) (b H : Fin 8) (s : Fin 64) (e : Fin 512), (V (Proc.devRef .tc main_v111_2) : FVec Ideal (D5 64 512) .f32) (ix5 j b H s e)
    = (((X b H).v (16 + 64 * j.val + s.val) e : ℝ) : EReal)
  ig : ∀ (j : Fin 32) (b H : Fin 8) (s : Fin 64), (V (Proc.devRef .tc main_v111_3) : FVec Ideal ⟨4, ![32, 8, 8, 64]⟩ .f32) (ix4 j b H s)
    = (((X b H).ig (16 + 64 * j.val + s.val) : ℝ) : EReal)
  lf : ∀ (j : Fin 32) (b H : Fin 8) (s : Fin 64), (V (Proc.devRef .tc main_v111_4) : FVec Ideal ⟨4, ![32, 8, 8, 64]⟩ .f32) (ix4 j b H s)
    = (((X b H).lf (16 + 64 * j.val + s.val) : ℝ) : EReal)
  at_ : V (Proc.devRef .tc main_v111_5) = fun _ => BitVec.ofNat 32 T
  C : ∀ (b H : Fin 8) (d : Fin 256) (e : Fin 512), (V (Proc.devRef .tc main_v111_6) : FVec Ideal (D4 256 512) .f32) (ix4 b H d e)
    = ((stC (X b H) (16 + 64 * T) d e : ℝ) : EReal)
  n : ∀ (b H : Fin 8) (d : Fin 256), (V (Proc.devRef .tc main_v111_7) : FVec Ideal (D3 256) .f32) (ix3 b H d)
    = ((stN (X b H) (16 + 64 * T) d : ℝ) : EReal)
  m : ∀ (b H : Fin 8), (V (Proc.devRef .tc main_v111_8) : FVec Ideal D2 .f32) (ix2 b H) = ((stM (X b H) (16 + 64 * T) : ℝ) : EReal)
  h : ∀ (j : Fin 32), j.val < T → ∀ (b H : Fin 8) (s : Fin 64) (e : Fin 512),
    (V (Proc.devRef .tc main_v111_9) : FVec Ideal (D5 64 512) .f32) (ix5 j b H s e) = ((out (X b H) (16 + 64 * j.val + s.val) e : ℝ) : EReal)

section
variable {X : Fin 8 → Fin 8 → Tokens (Fin 256) (Fin 512)} {V : RefVals}

theorem Trips.startMat {k : Fin 32} (h : Trips X k.val V) (i : Fin 5) : startMat V i = ((![k.val, 0, 0, 0, 0] i : ℕ) : Int) := by
  match i with
  | ⟨0, _⟩ =>
    show ((V (Proc.devRef .tc main_v111_5) : IVec S_ 32) (Shape.Idx.first h_S_)).toInt = ((k.val : ℕ) : Int)
    rw [h.at_]
    exact Idealize.ShloMosaic.toInt_ofNat_of_lt (k := k.val) (by omega)
  | ⟨1, _⟩ => rfl
  | ⟨2, _⟩ => rfl
  | ⟨3, _⟩ => rfl
  | ⟨4, _⟩ => rfl

theorem Trips.startVec {k : Fin 32} (h : Trips X k.val V) (i : Fin 4) : startVec V i = ((![k.val, 0, 0, 0] i : ℕ) : Int) := by
  match i with
  | ⟨0, _⟩ =>
    show ((V (Proc.devRef .tc main_v111_5) : IVec S_ 32) (Shape.Idx.first h_S_)).toInt = ((k.val : ℕ) : Int)
    rw [h.at_]
    exact Idealize.ShloMosaic.toInt_ofNat_of_lt (k := k.val) (by omega)
  | ⟨1, _⟩ => rfl
  | ⟨2, _⟩ => rfl
  | ⟨3, _⟩ => rfl

/-- A trip reads the recurrence's next 64 tokens and its state before them. -/
theorem Trips.chunk {k : Fin 32} (h : Trips X k.val V) (b H : Fin 8) :
    (chunkAt V).chunk b H = chunkOf 64 (X b H) (16 + 64 * k.val) := by
  unfold StackIn.chunk chunkOf
  congr 1
  · funext s
    exact (readVec _ _ k h.startVec sliceFits_S32x8x8x64_S1x8x8x64 _ b H s).trans (h.lf k b H s)
  · funext s
    exact (readVec _ _ k h.startVec sliceFits_S32x8x8x64_S1x8x8x64 _ b H s).trans (h.ig k b H s)
  · funext s d
    exact (readMat _ _ k h.startMat sliceFits_S32x8x8x64x256_S1x8x8x64x256 _ b H s d).trans (h.q k b H s d)
  · funext s d
    exact (readMat _ _ k h.startMat sliceFits_S32x8x8x64x256_S1x8x8x64x256 _ b H s d).trans (h.k k b H s d)
  · funext s e
    exact (readMat _ _ k h.startMat sliceFits_S32x8x8x64x512_S1x8x8x64x512 _ b H s e).trans (h.v k b H s e)
  · funext d e
    exact h.C b H d e
  · funext d
    exact h.n b H d
  · exact h.m b H

/-- One more trip. -/
theorem Trips.step {k : Fin 32} (h : Trips X k.val V) : Trips X (k.val + 1) (STEP V) where
  q := by rw [STEP_main_v111_0]; exact h.q
  k := by rw [STEP_main_v111_1]; exact h.k
  v := by rw [STEP_main_v111_2]; exact h.v
  ig := by rw [STEP_main_v111_3]; exact h.ig
  lf := by rw [STEP_main_v111_4]; exact h.lf
  at_ := by
    rw [STEP_main_v111_5]
    unfold step_main_v111_5
    rw [h.at_]
    funext i
    exact (BitVec.ofNat_add k.val 1).symm
  C b H d e := by
    rw [STEP_main_v111_6, trip_C, StackIn.Cns_apply _ _ _ _ (by norm_num), h.chunk, Cn_coe _ _ _ rfl]
    rfl
  n b H d := by
    rw [STEP_main_v111_7, trip_n, StackIn.nns_apply _ _ _ _ (by norm_num), h.chunk, nn_coe _ _ _ rfl]
    rfl
  m b H := by
    rw [STEP_main_v111_8, trip_m, StackIn.mns_apply _ _ _ _ (by norm_num), h.chunk, mn_coe _ _ _ rfl]
    rfl
  h j hj b H s e := by
    rw [STEP_main_v111_9, trip_h]
    refine (writeMat _ _ _ k h.startMat _ _ j b H s e).trans ?_
    by_cases hjk : j = k
    · subst hjk
      rw [if_pos rfl, StackIn.hs_apply, h.chunk, h_coe]
    · have hn : j.val ≠ k.val := fun h => hjk (Fin.ext h)
      rw [if_neg hjk]
      exact h.h j (by omega) b H s e

/-- `k` trips from the entry. -/
theorem Trips.iterate (h : Trips X 0 V) : ∀ k : ℕ, k ≤ 32 → Trips X k (STEP^[k] V)
  | 0, _ => h
  | k + 1, hk => by
    rw [Function.iterate_succ_apply']
    exact Trips.step (k := ⟨k, hk⟩) (Trips.iterate h k (by omega))

end

/-- No trip yet. -/
theorem entry_trips {V : RefVals} (hV : (refArgs V).Real) (h0 : entry V (Proc.devRef .tc main_v111_5) = fun _ => 0#32) :
    Trips (refArgs V).tokens 0 (entry V) where
  q := entry_q hV
  k := entry_k hV
  v := entry_v hV
  ig := entry_ig hV
  lf := entry_lf hV
  at_ := h0
  C := entry_C hV
  n := entry_n hV
  m := entry_m hV
  h j hj := absurd hj (Nat.not_lt_zero _)

end Cert.Mlstm
-- ==== Proof.RefKeep.lean ====
/-
  What the reference leaves alone: a buffer no operation writes ends as it was at launch, and the semaphores at zero.
-/
module

public import proofs.«01_k».proof.Proof.Gen.ReferenceIdeal.Run
public import Idealize.ShloMosaic.PureOps.Ideal
public import Idealize.ShloMosaic.Init

@[expose] public section

set_option maxRecDepth 16384

noncomputable section

namespace Cert.Mlstm

open Idealize.ShloMosaic Idealize.ShloMosaic.TcCoe Idealize.ShloMosaic.StableHlo
open Cert.ReferenceIdeal Cert.ReferenceIdeal.Gen Cert.ReferenceIdeal.Value

/-- What the loop's condition and the stretches of its body write. -/
abbrev loopWs : List (List (Ref sig .tc)) :=
  [condOps_W, while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W]

/-- What the stretches before the loop write. -/
abbrev preWs : List (List (Ref sig .tc)) := [hostOps0_W, hostOps0_1_W, hostOps0_2_W, hostOps0_3_W, hostOps0_4_W, hostOps0_5_W, hostOps0_6_W, hostOps0_7_W, hostOps0_8_W]

/-- What the stretch after the loop writes. -/
abbrev postWs : List (List (Ref sig .tc)) := [[main_v112, main_v113, main_v114, main_v115, main_v116, main_v117]]

theorem last_writes : (hostOps0_9 : List (HloOp τ sig (Elt Ideal))).Forall
    fun op => op.writes ⊆ ([main_v112, main_v113, main_v114, main_v115, main_v116, main_v117].map (Proc.devRef (τ := τ) .tc)).toFinset :=
  forall_writes_sub_of_map rfl

theorem trip_keep (V : Valuation τ sig (Elt Ideal)) (r : Ref sig .tc) (h : ∀ W ∈ loopWs, r ∉ W) :
    afterL bodyI (after condOps V) (Proc.devRef .tc r) = V (Proc.devRef .tc r) := by
  simp only [afterL_cons, afterL_nil]
  exact (after_of_writes_sub while0Ops0_12 _ while0Ops0_12_writes (h _ (.tail _ (.tail _ (.tail _ (.tail _ (.tail _ (.tail _ (.tail _ (.tail _ (.tail _ (.tail _ (.tail _ (.tail _ (.tail _ (.head _)))))))))))))))).trans <|
    (after_of_writes_sub while0Ops0_11 _ while0Ops0_11_writes (h _ (.tail _ (.tail _ (.tail _ (.tail _ (.tail _ (.tail _ (.tail _ (.tail _ (.tail _ (.tail _ (.tail _ (.tail _ (.head _))))))))))))))).trans <|
    (after_of_writes_sub while0Ops0_10 _ while0Ops0_10_writes (h _ (.tail _ (.tail _ (.tail _ (.tail _ (.tail _ (.tail _ (.tail _ (.tail _ (.tail _ (.tail _ (.tail _ (.head _)))))))))))))).trans <|
    (after_of_writes_sub while0Ops0_9 _ while0Ops0_9_writes (h _ (.tail _ (.tail _ (.tail _ (.tail _ (.tail _ (.tail _ (.tail _ (.tail _ (.tail _ (.tail _ (.head _))))))))))))).trans <|
    (after_of_writes_sub while0Ops0_8 _ while0Ops0_8_writes (h _ (.tail _ (.tail _ (.tail _ (.tail _ (.tail _ (.tail _ (.tail _ (.tail _ (.tail _ (.head _)))))))))))).trans <|
    (after_of_writes_sub while0Ops0_7 _ while0Ops0_7_writes (h _ (.tail _ (.tail _ (.tail _ (.tail _ (.tail _ (.tail _ (.tail _ (.tail _ (.head _))))))))))).trans <|
    (after_of_writes_sub while0Ops0_6 _ while0Ops0_6_writes (h _ (.tail _ (.tail _ (.tail _ (.tail _ (.tail _ (.tail _ (.tail _ (.head _)))))))))).trans <|
    (after_of_writes_sub while0Ops0_5 _ while0Ops0_5_writes (h _ (.tail _ (.tail _ (.tail _ (.tail _ (.tail _ (.tail _ (.head _))))))))).trans <|
    (after_of_writes_sub while0Ops0_4 _ while0Ops0_4_writes (h _ (.tail _ (.tail _ (.tail _ (.tail _ (.tail _ (.head _)))))))).trans <|
    (after_of_writes_sub while0Ops0_3 _ while0Ops0_3_writes (h _ (.tail _ (.tail _ (.tail _ (.tail _ (.head _))))))).trans <|
    (after_of_writes_sub while0Ops0_2 _ while0Ops0_2_writes (h _ (.tail _ (.tail _ (.tail _ (.head _)))))).trans <|
    (after_of_writes_sub while0Ops0_1 _ while0Ops0_1_writes (h _ (.tail _ (.tail _ (.head _))))).trans <|
    (after_of_writes_sub while0Ops0 _ while0Ops0_writes (h _ (.tail _ (.head _)))).trans <|
    (after_of_writes_sub condOps _ condOps_writes (h _ (.head _)))

theorem pre_keep (V : Valuation τ sig (Elt Ideal)) (r : Ref sig .tc) (h : ∀ W ∈ preWs, r ∉ W) :
    afterL preI V (Proc.devRef .tc r) = V (Proc.devRef .tc r) := by
  simp only [afterL_cons, afterL_nil]
  exact (after_of_writes_sub hostOps0_8 _ hostOps0_8_writes (h _ (.tail _ (.tail _ (.tail _ (.tail _ (.tail _ (.tail _ (.tail _ (.tail _ (.head _))))))))))).trans <|
    (after_of_writes_sub hostOps0_7 _ hostOps0_7_writes (h _ (.tail _ (.tail _ (.tail _ (.tail _ (.tail _ (.tail _ (.tail _ (.head _)))))))))).trans <|
    (after_of_writes_sub hostOps0_6 _ hostOps0_6_writes (h _ (.tail _ (.tail _ (.tail _ (.tail _ (.tail _ (.tail _ (.head _))))))))).trans <|
    (after_of_writes_sub hostOps0_5 _ hostOps0_5_writes (h _ (.tail _ (.tail _ (.tail _ (.tail _ (.tail _ (.head _)))))))).trans <|
    (after_of_writes_sub hostOps0_4 _ hostOps0_4_writes (h _ (.tail _ (.tail _ (.tail _ (.tail _ (.head _))))))).trans <|
    (after_of_writes_sub hostOps0_3 _ hostOps0_3_writes (h _ (.tail _ (.tail _ (.tail _ (.head _)))))).trans <|
    (after_of_writes_sub hostOps0_2 _ hostOps0_2_writes (h _ (.tail _ (.tail _ (.head _))))).trans <|
    (after_of_writes_sub hostOps0_1 _ hostOps0_1_writes (h _ (.tail _ (.head _)))).trans <|
    (after_of_writes_sub hostOps0 _ hostOps0_writes (h _ (.head _)))

variable (m : (ℓ : Loc nD τ sig) → Buf (Elt Ideal) ℓ) (c : Dev nD)

theorem trips_keep (r : Ref sig .tc) (h : ∀ W ∈ loopWs, r ∉ W) :
    ∀ k : ℕ, atK m k c (Proc.devRef .tc r) = entryContents preI m c (Proc.devRef .tc r)
  | 0 => rfl
  | k + 1 => (trip_keep _ r h).trans (trips_keep r h k)

/-- A buffer nothing writes ends as it was. -/
theorem end_keep (r : Ref sig .tc) (hl : ∀ W ∈ loopWs, r ∉ W) (hp : ∀ W ∈ preWs, r ∉ W) (he : ∀ W ∈ postWs, r ∉ W) :
    finalContents condOps preI bodyI postI 32 m c (Proc.devRef .tc r) = m ((c.tc : Thread nD τ).loc r) := by
  show after hostOps0_9 (after condOps (atK m 32 c)) (Proc.devRef .tc r) = _
  exact (after_of_writes_sub hostOps0_9 _ last_writes (he _ (.head _))).trans <|
    (after_of_writes_sub condOps _ condOps_writes (hl _ (.head _))).trans <|
    (trips_keep m c r hl 32).trans (pre_keep _ r hp)

/-- The reference's run: the result as the stretches compute it, the arguments and the semaphores as they were. -/
theorem ref_run (ρ : Dev nD → PrngReg) : θ_run (defs (F := Ideal)) (onTc (τ := τ) (main (F := Ideal))) ⟨m, fun _ => 0, ρ⟩
    (fun r => (∀ c : Dev nD, r.2.mem ((c.tc : Thread nD τ).loc main_v117) = finalContents condOps preI bodyI postI 32 m c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := Ideal)) _ _).mono (fun r h => ⟨fun c => ⟨h c main_v117 rfl,
      (h c main_arg0 rfl).trans (end_keep m c main_arg0 (by decide +kernel) (by decide +kernel) (by decide +kernel)),
      (h c main_arg1 rfl).trans (end_keep m c main_arg1 (by decide +kernel) (by decide +kernel) (by decide +kernel)),
      (h c main_arg2 rfl).trans (end_keep m c main_arg2 (by decide +kernel) (by decide +kernel) (by decide +kernel)),
      (h c main_arg3 rfl).trans (end_keep m c main_arg3 (by decide +kernel) (by decide +kernel) (by decide +kernel))⟩,
      sem_eq_zero_of_no_sems (by decide) r.2⟩) (run_fold m ρ)

end Cert.Mlstm
-- ==== Proof.RefEnd.lean ====
/-
  The reference's result: on real arguments it holds the recurrence's outputs, laid out as the arguments are.
-/
module

public import proofs.«01_k».proof.Proof.RefLoop
public import proofs.«01_k».proof.Proof.RefKeep

@[expose] public section

set_option maxRecDepth 16384

noncomputable section

namespace Cert.Mlstm

open Idealize.ShloMosaic Idealize.ShloMosaic.ValueIdx Idealize.ShloMosaic.TcCoe Idealize.ShloMosaic.StableHlo
open Cert.ReferenceIdeal Cert.ReferenceIdeal.Gen Cert.ReferenceIdeal.Value

variable (m : (ℓ : Loc nD τ sig) → Buf (Elt Ideal) ℓ) (c : Dev nD)

/-- The buffers at the loop's entry. -/
theorem entry_eq : entryContents preI m c = entry (launchContents m c) := by
  simp only [afterL_cons, afterL_nil]
  rfl

/-! ## The last stretch -/

/-- The chunks' outputs and the leading tokens' outputs, laid out as the arguments are. -/
def joined (y : (D5 64 512).Idx → EReal) (z : (D4 16 512).Idx → EReal) : (Cube 8 2064 4096).Idx → EReal :=
  shapeCast S8x2064x4096 (transpose S8x2064x8x512 [0, 2, 1, 3]
    (concatenate S8x8x2064x512 2
      [⟨S8x8x2048x512, shapeCast S8x8x2048x512 (transpose S8x8x32x64x512 [1, 2, 0, 3, 4] y transposes_S32x8x8x64x512_S8x8x32x64x512_1_2_0_3_4)
        shapeCasts_S8x8x32x64x512_S8x8x2048x512⟩, ⟨S8x8x16x512, z⟩] concatenates_S8x8x2048x512_S8x8x16x512_S8x8x2064x512_d2)
    transposes_S8x8x2064x512_S8x2064x8x512_0_2_1_3) shapeCasts_S8x2064x8x512_S8x2064x4096

theorem last_stretch (V : RefVals) : after hostOps0_9 V (Proc.devRef .tc main_v117)
    = joined (V (Proc.devRef .tc main_v111_9)) (V (Proc.devRef .tc main_v65)) := by
  after_results_simp
  rfl

/-- A head's columns in the result. -/
theorem joined_head (y : (D5 64 512).Idx → EReal) (z : (D4 16 512).Idx → EReal) (b : Fin 8) (r : Fin 2064) (H : Fin 8) (e : Fin 512) :
    joined y z (ix3 b r (col512 H e)) = concatenate S8x8x2064x512 2
      [⟨S8x8x2048x512, shapeCast S8x8x2048x512 (transpose S8x8x32x64x512 [1, 2, 0, 3, 4] y transposes_S32x8x8x64x512_S8x8x32x64x512_1_2_0_3_4)
        shapeCasts_S8x8x32x64x512_S8x8x2048x512⟩, ⟨S8x8x16x512, z⟩] concatenates_S8x8x2048x512_S8x8x16x512_S8x8x2064x512_d2 (ix4 b H r e) := by
  unfold joined
  rw [shapeCast_apply _ _ _ (ix4 b r H e)
      (by simp only [Shape.rowMajor_val_three, Shape.rowMajor_val_four]
          show ((b.val * 2064 + r.val) * 8 + H.val) * 512 + e.val = (b.val * 2064 + r.val) * 4096 + (512 * H.val + e.val)
          omega),
    transpose_apply _ _ _ _ (ix4 b H r e) (by intro a; match a with | ⟨0, _⟩ => rfl | ⟨1, _⟩ => rfl | ⟨2, _⟩ => rfl | ⟨3, _⟩ => rfl)]

/-- A row of a chunk. -/
theorem joined_chunk (y : (D5 64 512).Idx → EReal) (z : (D4 16 512).Idx → EReal) (b : Fin 8) (j : Fin 32) (s : Fin 64) (H : Fin 8) (e : Fin 512) :
    joined y z (ix3 b ⟨64 * j.val + s.val, by omega⟩ (col512 H e)) = y (ix5 j b H s e) := by
  rw [joined_head]
  refine (concatenate_pair_apply_left (t := S8x8x2064x512) (s₁ := S8x8x2048x512) (s₂ := S8x8x16x512) (2 : Fin 4) _ _ _ _ rfl (ix4 b H (⟨64 * j.val + s.val, by omega⟩ : Fin 2048) e)
      (by intro a; match a with | ⟨0, _⟩ => rfl | ⟨1, _⟩ => rfl | ⟨2, _⟩ => rfl | ⟨3, _⟩ => rfl)).trans ?_
  rw [shapeCast_apply _ _ _ (ix5 b H j s e)
      (by simp only [Shape.rowMajor_val_five, Shape.rowMajor_val_four]
          show (((b.val * 8 + H.val) * 32 + j.val) * 64 + s.val) * 512 + e.val = ((b.val * 8 + H.val) * 2048 + (64 * j.val + s.val)) * 512 + e.val
          omega),
    transpose_apply _ _ _ _ (ix5 j b H s e)
      (by intro a; match a with | ⟨0, _⟩ => rfl | ⟨1, _⟩ => rfl | ⟨2, _⟩ => rfl | ⟨3, _⟩ => rfl | ⟨4, _⟩ => rfl)]

/-- A leading token's row. -/
theorem joined_lead (y : (D5 64 512).Idx → EReal) (z : (D4 16 512).Idx → EReal) (b : Fin 8) (t : Fin 16) (H : Fin 8) (e : Fin 512) :
    joined y z (ix3 b ⟨2048 + t.val, by omega⟩ (col512 H e)) = z (ix4 b H t e) := by
  rw [joined_head]
  refine concatenate_pair_apply_right (t := S8x8x2064x512) (s₁ := S8x8x2048x512) (s₂ := S8x8x16x512) (2 : Fin 4) _ _ _ _ rfl rfl (ix4 b H t e) (fun a ha => ?_)
    (show t.val + 2048 = 2048 + t.val from Nat.add_comm _ _)
  match a with
  | ⟨0, _⟩ => rfl
  | ⟨1, _⟩ => rfl
  | ⟨2, _⟩ => exact absurd rfl ha
  | ⟨3, _⟩ => rfl

/-! ## The result -/

/-- On real arguments the reference's result holds the recurrence's outputs. -/
theorem ref_result (hV : (refArgs (launchContents m c)).Real) :
    finalContents condOps preI bodyI postI 32 m c (Proc.devRef .tc main_v117) = (refArgs (launchContents m c)).outs := by
  have h0 : entry (launchContents m c) (Proc.devRef .tc main_v111_5) = fun _ => 0#32 :=
    (congrFun (entry_eq m c).symm _).trans (ctr_entry m c)
  have ht := (entry_trips hV h0).iterate 32 (le_refl _)
  have hy : after condOps (atK m 32 c) (Proc.devRef .tc main_v111_9) = STEP^[32] (entry (launchContents m c)) (Proc.devRef .tc main_v111_9) := by
    rw [cond_keeps _ main_v111_9 (by decide), atK_agree m c 32 main_v111_9 (by decide), entry_eq]
  have hz : after condOps (atK m 32 c) (Proc.devRef .tc main_v65) = entry (launchContents m c) (Proc.devRef .tc main_v65) := by
    rw [after_of_writes_sub condOps _ condOps_writes (r := main_v65) (by decide +kernel), trips_keep m c main_v65 (by decide +kernel), entry_eq]
  have hf : finalContents condOps preI bodyI postI 32 m c (Proc.devRef .tc main_v117)
      = joined (STEP^[32] (entry (launchContents m c)) (Proc.devRef .tc main_v111_9)) (entry (launchContents m c) (Proc.devRef .tc main_v65)) := by
    rw [← hy, ← hz, ← last_stretch]
    rfl
  rw [hf]
  funext i
  obtain ⟨b, r, x, rfl⟩ : ∃ (b : Fin 8) (r : Fin 2064) (x : Fin 4096), i = ix3 b r x := ⟨_, _, _, eq_ix3 i⟩
  obtain ⟨H, e, rfl⟩ : ∃ (H : Fin 8) (e : Fin 512), x = col512 H e :=
    ⟨⟨x.val / 512, by omega⟩, ⟨x.val % 512, Nat.mod_lt _ (by decide)⟩, Fin.ext (Nat.div_add_mod _ _).symm⟩
  rw [Args.outs_eq _ _ b H r.val e rfl rfl rfl]
  by_cases hr : r.val < 2048
  · obtain ⟨j, s, hs⟩ : ∃ (j : Fin 32) (s : Fin 64), r.val = 64 * j.val + s.val :=
      ⟨⟨r.val / 64, by omega⟩, ⟨r.val % 64, Nat.mod_lt _ (by decide)⟩, (Nat.div_add_mod _ _).symm⟩
    rw [show r = ⟨64 * j.val + s.val, by omega⟩ from Fin.ext hs, joined_chunk]
    refine (ht.h j j.isLt b H s e).trans ?_
    rw [time_chunk]
  · obtain ⟨t, ht⟩ : ∃ t : Fin 16, r.val = 2048 + t.val := ⟨⟨r.val - 2048, by omega⟩, by show r.val = 2048 + (r.val - 2048); omega⟩
    rw [show r = ⟨2048 + t.val, by omega⟩ from Fin.ext ht, joined_lead]
    refine (entry_h hV b H t e).trans ?_
    rw [time_lead, Nat.zero_add]

end Cert.Mlstm
-- ==== Proof.Finite.lean ====
/-
  The precondition read back: arrays whose entries are all below infinity in absolute value hold real numbers.
-/
module

public import proofs.«01_k».proof.Proof.Inputs
public import proofs.«01_k».proof.Proof.Gen.Pre_finite
public import Idealize.ShloMosaic.Lib.ReduceAll

@[expose] public section

noncomputable section

namespace Cert.Mlstm

open Idealize.ShloMosaic Cert.Pre_finite

/-- The word of positive infinity. -/
theorem posInf : Ideal.ofBits .f32 0x7F800000#32 = ⊤ := by
  simp [Ideal.ofBits, Ideal.ieee]

/-- Below infinity in absolute value is real. -/
theorem real_of_abs {x : EReal} (h : max x (-x) < ⊤) : IsReal x := by
  obtain ⟨h1, h2⟩ := max_lt_iff.mp h
  refine ⟨x.toReal, (EReal.coe_toReal h1.ne fun hx => ?_).symm⟩
  rw [hx] at h2
  exact h2.ne EReal.neg_bot

/-- The check of one array. -/
theorem real_of_check {s : Shape} {axes : List (Fin s.rank)} (x : s.Idx → EReal) (hb : S_.BroadcastsInDim s (![] : Fin 0 → Fin s.rank))
    (hr : s.ReducesTo axes S_) (j : S_.Idx)
    (h : Host.reduce IntOp.andi (cmpf .olt (Host.absf (F := Ideal) (φ := .f32) x)
      (broadcastInDim s ![] hb (constant (F := Ideal) S_ .f32 0x7F800000#32))) (constantI S_ 1 1#1) hr Facts.h_S_ j = 1#1) (y : s.Idx) :
    IsReal (x y) := by
  haveI : Subsingleton S_.Idx := ⟨fun a b => funext fun i => i.elim0⟩
  have hy : BitVec.ofBool (decide (max (x y) (-x y) < Ideal.ofBits .f32 0x7F800000#32)) = 1#1 := Host.reduce_andi_all _ _ _ _ j h y
  rw [posInf] at hy
  by_cases hd : max (x y) (-x y) < ⊤
  · exact real_of_abs hd
  · rw [decide_eq_false hd] at hy
    exact absurd hy (by decide)

/-- Arguments that pass the precondition are real. -/
theorem real_of_finite (a : Args) (h : Cert.Pre_finite.fn (F := Ideal) a.q a.k a.v a.g = fun _ => 1#1) : a.Real := by
  have j : S_.Idx := fun i => i.elim0
  have h0 := congrFun h j
  obtain ⟨h1, hg⟩ := IntOp.andi_eq_one.mp h0
  obtain ⟨h2, hv⟩ := IntOp.andi_eq_one.mp h1
  obtain ⟨hq, hk⟩ := IntOp.andi_eq_one.mp h2
  exact ⟨real_of_check _ _ _ _ hq, real_of_check _ _ _ _ hk, real_of_check _ _ _ _ hv, real_of_check _ _ _ _ hg⟩

end Cert.Mlstm
-- ==== Proof.FoxRun.lean ====
/-
  The projection into the attention, run. Twelve blocks of rows are visited in order, each at eight points, one per block
  of output columns. The first point of a row block normalizes its rows, keeps them in the scratch, and writes the narrow
  result; the other seven only read the scratch. So after any point the scratch holds the normalized rows of the point's
  row block, and the narrow result's buffer still holds what the first point put there.
-/
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Claim
public import Idealize.ShloMosaic.Lib.VecWindow

@[expose] public section

set_option maxRecDepth 16384

noncomputable section

namespace Cert.Fox

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- A whole buffer holding `x`, loaded at its own sizes, gives `x`. -/
theorem load_unread {sg : RefSig} {sp : Space} {s : Shape} {e : EltTy}
    {a : Memref sg .tc sp s e} (h : a.IsWhole) (x : Vec F s e) {off : Fin s.rank → ℕ}
    (inb : ∀ k, off k + s.size k ≤ s.size k) :
    a.view.readAt (Elt F) (Rect.unit off s.size inb).toLoadRect (h.unread x) = x :=
  (View.readAt_full _ _ _).trans (h.read_unread _)

section Body

variable (c : Dev nD) (i : grid0.Coords)
  (aX : Memref sig .tc .vmem S1376x2048 .f32) (hX : aX.IsWhole) (aG : Memref sig .tc .vmem S1x2048 .f32) (hG : aG.IsWhole)
  (aW : Memref sig .tc .vmem S1024x2048 .bf16) (hW : aW.IsWhole) (aN : Memref sig .tc .vmem S128x2048 .bf16) (hN : aN.IsWhole)
  (aO : Memref sig .tc .vmem S1376x1024 .bf16) (hO : aO.IsWhole) (aP : Memref sig .tc .vmem S1376x128 .f32) (hP : aP.IsWhole)
  (aS : Memref sig .tc .vmem S1376x2048 .bf16) (hS : aS.IsWhole)
  (x : Vec F S1376x2048 .f32) (g : Vec F S1x2048 .f32) (w : Vec F S1024x2048 .bf16) (n : Vec F S128x2048 .bf16)

set_option maxHeartbeats 1000000 in
/-- The body at the first point of a row block: all three buffers are written. -/
theorem body_first (hc : k0_cond1 i = 1#1) (E : Set ℕ) (K : PUnit → sProp 𝕄) :
    iprop(owns (c : Thread nD τ) aX fullShare x ∗ owns (c : Thread nD τ) aG fullShare g ∗ owns (c : Thread nD τ) aW fullShare w
        ∗ owns (c : Thread nD τ) aN fullShare n ∗ (∃ d, owns (c : Thread nD τ) aO fullShare d)
        ∗ (∃ d, owns (c : Thread nD τ) aP fullShare d) ∗ (∃ d, owns (c : Thread nD τ) aS fullShare d)
        ∗ (iprop(owns (c : Thread nD τ) aX fullShare x ∗ owns (c : Thread nD τ) aG fullShare g ∗ owns (c : Thread nD τ) aW fullShare w
            ∗ owns (c : Thread nD τ) aN fullShare n ∗ owns (c : Thread nD τ) aO fullShare (k0_pay4 (k0_pay2 x g) w)
            ∗ owns (c : Thread nD τ) aP fullShare (k0_pay3 x g n) ∗ owns (c : Thread nD τ) aS fullShare (k0_pay2 x g)) -∗ K ⟨⟩))
      ⊢ wp frame (wpE (defs₀ (F := F)) Variants.none c none) E (cc0_fox_in_proj i aX hX aG hG aW hW aN hN aO hO aP hP aS hS) K := by
  simp only [cc0_fox_in_proj_eq_skeleton]; unfold cc0_fox_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := hX.eq_unread hf0; obtain rfl := hG.eq_unread hf1; obtain rfl := hW.eq_unread hf2; obtain rfl := hN.eq_unread hf3
  sl_exec (disch := sl_exact hc)
  sl_step
  iapply Hk
  isplitl [H0]
  · iexists _; isplitr; · ipureintro; exact hX.read_unread _
    iexact H0
  isplitl [H1]
  · iexists _; isplitr; · ipureintro; exact hG.read_unread _
    iexact H1
  isplitl [H2]
  · iexists _; isplitr; · ipureintro; exact hW.read_unread _
    iexact H2
  isplitl [H3]
  · iexists _; isplitr; · ipureintro; exact hN.read_unread _
    iexact H3
  isplitl [H4]
  · iexists _; isplitr
    swap; · iexact H4
    ipureintro
    exact (View.read_writes_full aO.view f4 _ _ []).trans (congrArg₂ k0_pay4
      ((View.readCov_full aS.view _ inb_S1376x2048_S1376x2048_0_0 _ []).trans
        (congrArg₂ k0_pay2 (load_unread hX x _) (load_unread hG g _))) (load_unread hW w _))
  isplitl [H5]
  · iexists _; isplitr
    swap; · iexact H5
    ipureintro
    rw [View.read_writes_full, load_unread hX, load_unread hG, load_unread hN]
  iexists _; isplitr
  swap; · iexact H6
  ipureintro
  exact (View.read_writes_full aS.view f6 inb_S1376x2048_S1376x2048_0_0 _ []).trans
    (congrArg₂ k0_pay2 (load_unread hX x _) (load_unread hG g _))

set_option maxHeartbeats 1000000 in
/-- The body at the other points: the scratch is read, and only the wide result's buffer is written. -/
theorem body_later (hc : ¬k0_cond1 i = 1#1) (s : Vec F S1376x2048 .bf16) (R : sProp 𝕄) (E : Set ℕ) (K : PUnit → sProp 𝕄) :
    iprop(owns (c : Thread nD τ) aW fullShare w ∗ (∃ d, owns (c : Thread nD τ) aO fullShare d) ∗ owns (c : Thread nD τ) aS fullShare s ∗ R
        ∗ (iprop(owns (c : Thread nD τ) aW fullShare w ∗ owns (c : Thread nD τ) aO fullShare (k0_pay4 s w)
            ∗ owns (c : Thread nD τ) aS fullShare s ∗ R) -∗ K ⟨⟩))
      ⊢ wp frame (wpE (defs₀ (F := F)) Variants.none c none) E (cc0_fox_in_proj i aX hX aG hG aW hW aN hN aO hO aP hP aS hS) K := by
  simp only [cc0_fox_in_proj_eq_skeleton]; unfold cc0_fox_in_proj_skel
  unfold owns
  iintro ⟨⟨%f2, %hf2, H2⟩, ⟨%d4, %f4, -, H4⟩, ⟨%f6, %hf6, H6⟩, HR, Hk⟩
  obtain rfl := hW.eq_unread hf2; obtain rfl := hS.eq_unread hf6
  sl_exec (disch := sl_exact hc)
  sl_step
  iapply Hk
  isplitl [H2]
  · iexists _; isplitr; · ipureintro; exact hW.read_unread _
    iexact H2
  isplitl [H4]
  · iexists _; isplitr
    swap; · iexact H4
    ipureintro
    rw [View.read_writes_full, load_unread hS, load_unread hW]
  isplitl [H6]
  · iexists _; isplitr; · ipureintro; exact hS.read_unread _
    iexact H6
  iexact HR

end Body

end Cert.Fox
-- ==== Proof.RowNorm.lean ====
/-
  The normalization of a matrix's rows by their root mean square, and the product of the normalized rows with the rows of
  a weight matrix: what a kernel's tensor operations and a host's hold at an index over the extended reals.
-/
module

public import proofs.«01_k».proof.Proof.StackOps

@[expose] public section

noncomputable section

namespace Cert.RowNorm

open Idealize.ShloMosaic Idealize.ShloMosaic.ValueIdx Cert.Mlstm Finset

variable {R K N : ℕ}

/-- One over the root mean square of a row of 2048 numbers. -/
def scale (x : Fin K → EReal) : EReal :=
  Ideal.rsqrt (Ideal.div (∑ k, x k * x k) (Ideal.ofBits .f32 0x45000000#32) + Ideal.ofBits .f32 0x358637BD#32)

/-- A row scaled by that, and by a gain for each column. -/
def normed (x g : Fin K → EReal) (k : Fin K) : EReal := x k * scale x * g k

/-- A normalized row's product with a row of weights. -/
def project (x g w : Fin K → EReal) : EReal := ∑ k, normed x g k * w k

/-- The scales of all rows, as a kernel computes them. -/
theorem kernel_scale (x : FVec Ideal (Mat R K) .f32) (hr : (Mat R K).Reduces [1] (Row R)) (hφ hacc)
    (hc : (Row R).ShapeCasts (Mat R 1)) (r : Fin R) (u : Fin 1) :
    rsqrt (addf (divf (shapeCast (Mat R 1) (multiReduction .add [1] (Row R) (mulf x x) 0x00000000#32 hr hφ hacc) hc)
        (broadcast (Mat R 1) (Scalar.ofBits (F := Ideal) .f32 0x45000000#32)))
      (broadcast (Mat R 1) (Scalar.ofBits (F := Ideal) .f32 0x358637BD#32))) (ix2 r u) = scale fun k => x (ix2 r k) := by
  show Ideal.rsqrt (Ideal.div (shapeCast (Mat R 1) (multiReduction .add [1] (Row R) (mulf x x) 0x00000000#32 hr hφ hacc) hc (ix2 r u)) _ + _) = _
  rw [shapeCast_a_a1_apply, ChunkIn.sumRow]; rfl

/-- The same on a host. -/
theorem host_scale (x : FVec Ideal (Mat R K) .f32) (ht : (Mat R K).ReducesTo [1] (Row R)) (hr : (Mat R K).Reduces [1] (Row R))
    (hu : 0 < Sc.numel) (hc : (Row R).BroadcastsInDim (Mat R 1) ![0]) (hs : Sc.BroadcastsInDim (Mat R 1) ![]) (r : Fin R) (u : Fin 1) :
    Host.rsqrt (addf (Host.divf (broadcastInDim (Mat R 1) ![0] hc
          (Host.reduceAdd (mulf x x) (constant (F := Ideal) Sc .f32 0x00000000#32) ht hu))
        (broadcastInDim (Mat R 1) ![] hs (constant (F := Ideal) Sc .f32 0x45000000#32)))
      (broadcastInDim (Mat R 1) ![] hs (constant (F := Ideal) Sc .f32 0x358637BD#32))) (ix2 r u) = scale fun k => x (ix2 r k) := by
  show Ideal.rsqrt (Ideal.div (broadcastInDim (Mat R 1) ![0] hc
    (Host.reduceAdd (mulf x x) (constant (F := Ideal) Sc .f32 0x00000000#32) ht hu) (ix2 r u)) _ + _) = _
  unfold scale
  refine congrArg Ideal.rsqrt (congrArg (Ideal.div · _ + _) ?_)
  rw [broadcastInDim_apply _ hc _ (ix2 r u) (ix1 r) (fun a => by match a with | ⟨0, _⟩ => exact kept r),
    hostReduceAdd_apply, Ideal.hostReduceAdd_single ht hr]
  refine (congrArg₂ (· + ·) Ideal.ofBits_zero_f32 (sum_congr rfl fun j _ => ?_)).trans (zero_add _)
  have e : hr.lift (ix1 r) j = ix2 r j := funext fun c => Fin.ext (by match c with | ⟨0, _⟩ => rfl | ⟨1, _⟩ => rfl)
  rw [e]; rfl

/-- A host's column spread along the columns of a matrix. -/
theorem host_spreadCol {α : Type} (y : (Mat R 1).Idx → α) (h : (Mat R 1).BroadcastsInDim (Mat R K) ![0, 1]) (r : Fin R) (k : Fin K) :
    broadcastInDim (Mat R K) ![0, 1] h y (ix2 r k) = y (ix2 r 0) := by
  refine broadcastInDim_apply _ h _ _ (ix2 r 0) fun a => ?_
  match a with
  | ⟨0, _⟩ => exact kept r
  | ⟨1, _⟩ => rfl

/-- A host's row spread along the rows of a matrix. -/
theorem host_spreadRow {α : Type} (y : (Row K).Idx → α) (h1 : (Row K).BroadcastsInDim (Mat 1 K) ![1])
    (h2 : (Mat 1 K).BroadcastsInDim (Mat R K) ![0, 1]) (r : Fin R) (k : Fin K) :
    broadcastInDim (Mat R K) ![0, 1] h2 (broadcastInDim (Mat 1 K) ![1] h1 y) (ix2 r k) = y (ix1 k) := by
  refine (broadcastInDim_apply _ h2 _ _ (ix2 0 k) fun a => ?_).trans (broadcastInDim_apply _ h1 _ _ (ix1 k) fun a => ?_)
  · match a with
    | ⟨0, _⟩ => rfl
    | ⟨1, _⟩ => exact kept k
  · match a with
    | ⟨0, _⟩ => exact kept k

/-- A kernel's product with the rows of a weight matrix, from a zero accumulator. -/
theorem kernel_dot {φ₁ φ₂ : FTy} (w : DotDims.WF (Mat R K) (Mat N K) (Mat R N) [1] [1] [0] [0] [] [])
    (x : FVec Ideal (Mat R K) φ₁) (y : FVec Ideal (Mat N K) φ₂) (r : Fin R) (j : Fin N) :
    matmul (⟨[1], [1], [0], [0], [], [], w⟩ : DotDims _ _ _) none x y (constant (F := Ideal) (Mat R N) .f32 0x00000000#32) (ix2 r j)
      = ∑ k, x (ix2 r k) * y (ix2 j k) := by
  refine (Ideal.matmul_transposedRhs_apply none x y _ r j).trans ?_
  rw [constant_apply, Ideal.ofBits_zero_f32, zero_add]

/-- A host's product with the transpose of a weight matrix. -/
theorem host_dot (w : DotDims.WF (Mat R K) (Mat K N) (Mat R N) [1] [0] [0] [1] [] [])
    (x : FVec Ideal (Mat R K) .f32) (y : FVec Ideal (Mat N K) .f32) (ht : (Mat N K).Transposes [1, 0] (Mat K N)) (r : Fin R) (j : Fin N) :
    Host.dotGeneral (⟨[1], [0], [0], [1], [], [], w⟩ : DotDims _ _ _) none x (transpose (Mat K N) [1, 0] y ht) (ix2 r j)
      = ∑ k, x (ix2 r k) * y (ix2 j k) := by
  refine (StackMember.dotGeneral_plain_apply none x _ r j).trans (sum_congr rfl fun k _ => congrArg (x (ix2 r k) * ·) ?_)
  refine congrArg y (funext fun a => Fin.ext ?_)
  match a with
  | ⟨0, _⟩ => rfl
  | ⟨1, _⟩ => rfl

/-- The normalized rows, as a kernel computes them. -/
theorem kernel_normed (x : FVec Ideal (Mat R K) .f32) (g : FVec Ideal (Mat 1 K) .f32) (hr : (Mat R K).Reduces [1] (Row R)) (hφ hacc)
    (hc : (Row R).ShapeCasts (Mat R 1)) (hb : (Mat R 1).Broadcasts (Mat R K)) (hg : (Mat 1 K).ShapeCasts (Mat 1 K))
    (hw : (Mat 1 K).Broadcasts (Mat R K)) (r : Fin R) (k : Fin K) :
    mulf (mulf x (broadcastTo (Mat R K) (rsqrt (addf (divf (shapeCast (Mat R 1)
          (multiReduction .add [1] (Row R) (mulf x x) 0x00000000#32 hr hφ hacc) hc)
        (broadcast (Mat R 1) (Scalar.ofBits (F := Ideal) .f32 0x45000000#32)))
      (broadcast (Mat R 1) (Scalar.ofBits (F := Ideal) .f32 0x358637BD#32)))) hb))
      (broadcastTo (Mat R K) (shapeCast (Mat 1 K) g hg) hw) (ix2 r k) = normed (fun k => x (ix2 r k)) (fun k => g (ix2 0 k)) k := by
  rw [mulf_apply, mulf_apply, ChunkIn.spreadCol, ChunkIn.spreadRow, kernel_scale, shapeCast_self]; rfl

/-- The normalized rows, as a host computes them. -/
theorem host_normed (x : FVec Ideal (Mat R K) .f32) (g : FVec Ideal (Row K) .f32) (ht : (Mat R K).ReducesTo [1] (Row R))
    (hr : (Mat R K).Reduces [1] (Row R)) (hu : 0 < Sc.numel) (hc : (Row R).BroadcastsInDim (Mat R 1) ![0])
    (hs : Sc.BroadcastsInDim (Mat R 1) ![]) (hb : (Mat R 1).BroadcastsInDim (Mat R K) ![0, 1])
    (h1 : (Row K).BroadcastsInDim (Mat 1 K) ![1]) (h2 : (Mat 1 K).BroadcastsInDim (Mat R K) ![0, 1]) (r : Fin R) (k : Fin K) :
    mulf (mulf x (broadcastInDim (Mat R K) ![0, 1] hb (Host.rsqrt (addf (Host.divf (broadcastInDim (Mat R 1) ![0] hc
          (Host.reduceAdd (mulf x x) (constant (F := Ideal) Sc .f32 0x00000000#32) ht hu))
        (broadcastInDim (Mat R 1) ![] hs (constant (F := Ideal) Sc .f32 0x45000000#32)))
      (broadcastInDim (Mat R 1) ![] hs (constant (F := Ideal) Sc .f32 0x358637BD#32))))))
      (broadcastInDim (Mat R K) ![0, 1] h2 (broadcastInDim (Mat 1 K) ![1] h1 g)) (ix2 r k)
      = normed (fun k => x (ix2 r k)) (fun k => g (ix1 k)) k := by
  rw [mulf_apply, mulf_apply, host_spreadCol, host_spreadRow, host_scale x ht hr hu hc hs]; rfl

/-- The normalized rows' product with a weight matrix's rows, as a host computes it. -/
theorem host_project (x : FVec Ideal (Mat R K) .f32) (g : FVec Ideal (Row K) .f32) (ht : (Mat R K).ReducesTo [1] (Row R))
    (hr : (Mat R K).Reduces [1] (Row R)) (hu : 0 < Sc.numel) (hc : (Row R).BroadcastsInDim (Mat R 1) ![0])
    (hs : Sc.BroadcastsInDim (Mat R 1) ![]) (hb : (Mat R 1).BroadcastsInDim (Mat R K) ![0, 1])
    (h1 : (Row K).BroadcastsInDim (Mat 1 K) ![1]) (h2 : (Mat 1 K).BroadcastsInDim (Mat R K) ![0, 1])
    (w : DotDims.WF (Mat R K) (Mat K N) (Mat R N) [1] [0] [0] [1] [] []) (y : FVec Ideal (Mat N K) .f32)
    (hy : (Mat N K).Transposes [1, 0] (Mat K N)) (r : Fin R) (j : Fin N) :
    Host.dotGeneral (⟨[1], [0], [0], [1], [], [], w⟩ : DotDims _ _ _) none
      (mulf (mulf x (broadcastInDim (Mat R K) ![0, 1] hb (Host.rsqrt (addf (Host.divf (broadcastInDim (Mat R 1) ![0] hc
            (Host.reduceAdd (mulf x x) (constant (F := Ideal) Sc .f32 0x00000000#32) ht hu))
          (broadcastInDim (Mat R 1) ![] hs (constant (F := Ideal) Sc .f32 0x45000000#32)))
        (broadcastInDim (Mat R 1) ![] hs (constant (F := Ideal) Sc .f32 0x358637BD#32))))))
        (broadcastInDim (Mat R K) ![0, 1] h2 (broadcastInDim (Mat 1 K) ![1] h1 g)))
      (transpose (Mat K N) [1, 0] y hy) (ix2 r j)
      = project (fun k => x (ix2 r k)) (fun k => g (ix1 k)) fun k => y (ix2 j k) :=
  (host_dot w _ y hy r j).trans (sum_congr rfl fun k _ =>
    congrArg (· * y (ix2 j k)) (host_normed x g ht hr hu hc hs hb h1 h2 r k))

end Cert.RowNorm

end
-- ==== Proof.FinalValue.lean ====
/-
  The last projection, the residual sum and the closing normalization over the extended reals: the result array as a
  function of the arguments, the same for the kernel and for the reference.
-/
module

public import proofs.«01_k».proof.Proof.FoxRun
public import proofs.«01_k».proof.Proof.RowNorm
public import proofs.«01_k».proof.Proof.Inputs
public import proofs.«01_k».proof.Proof.Gen.Kernel2Ideal.Value
public import proofs.«01_k».proof.Proof.Gen.Reference2Ideal.Run
public import proofs.«01_k».proof.Defs
public import Idealize.ShloMosaic.Lib.Pipeline.ValueKit.Geometry

@[expose] public section

set_option maxRecDepth 16384

noncomputable section

namespace Cert.Final

open Idealize.ShloMosaic Idealize.ShloMosaic.TcCoe Idealize.ShloMosaic.ValueIdx Idealize.SL.Sem Cert.RowNorm Finset
open Cert.Mlstm (Mat Row Cube Sc kept)

/-- The arguments: the attention's output, the projection's weights, the residual stream and the gain. -/
structure Args where
  y : (Cube 8 2064 2048).Idx → EReal
  w : (Mat 2048 2048).Idx → EReal
  h : (Mat 16512 2048).Idx → EReal
  g : (Row 2048).Idx → EReal

namespace Args
variable (a : Args)

/-- The residual stream by batch element and token. -/
def stream : (Cube 8 2064 2048).Idx → EReal := shapeCast (Cube 8 2064 2048) a.h (by decide)

/-- A token's row of the residual sum. -/
def row (b : Fin 8) (r : Fin 2064) (k : Fin 2048) : EReal := a.stream (ix3 b r k) + ∑ j : Fin 2048, a.y (ix3 b r j) * a.w (ix2 j k)

/-- The result: the rows of the sequence's own tokens, normalized. -/
def out (i : (Cube 8 2048 2048).Idx) : EReal :=
  normed (a.row (i 0) ⟨(i 1).val, Nat.lt_trans (i 1).isLt (by decide)⟩) (fun k => a.g (ix1 k)) (i 2)

theorem out_eq (i : (Cube 8 2048 2048).Idx) (b : Fin 8) (r : Fin 2064) (k : Fin 2048) (h0 : (i 0).val = b.val) (h1 : (i 1).val = r.val)
    (h2 : (i 2).val = k.val) : a.out i = normed (a.row b r) (fun k => a.g (ix1 k)) k := by
  unfold out
  rw [show i 0 = b from Fin.ext h0, show (⟨(i 1).val, Nat.lt_trans (i 1).isLt (by decide)⟩ : Fin 2064) = r from Fin.ext h1,
    show i 2 = k from Fin.ext h2]

end Args

/-- An index of a block one matrix deep. -/
theorem one_deep {a b : ℕ} (y : (Cube 1 a b).Idx) : y = ix3 0 (y 1) (y 2) := by
  funext c
  match c with
  | ⟨0, _⟩ => exact Subsingleton.elim (α := Fin 1) _ _
  | ⟨1, _⟩ => rfl
  | ⟨2, _⟩ => rfl

section Host
variable {A R K N : ℕ}

/-- A host's product of a stack of matrices with one matrix. -/
theorem host_cube_dot (w : DotDims.WF (Cube A R K) (Mat K N) (Cube A R N) [2] [0] [0, 1] [1] [] [])
    (x : FVec Ideal (Cube A R K) .f32) (y : FVec Ideal (Mat K N) .f32) (a : Fin A) (r : Fin R) (j : Fin N) :
    Host.dotGeneral (⟨[2], [0], [0, 1], [1], [], [], w⟩ : DotDims _ _ _) none x y (ix3 a r j) = ∑ k, x (ix3 a r k) * y (ix2 k j) := by
  show FloatOps.dotGeneral _ none _ x y (ix3 a r j) = _
  rw [Ideal.dotGeneral_apply,
    ← Equiv.sum_comp (contrEquiv1 (⟨[2], [0], [0, 1], [1], [], [], w⟩ : DotDims _ _ _) K rfl rfl).symm]
  refine sum_congr rfl fun c _ => ?_
  have hc := contrEquiv1_symm_val (⟨[2], [0], [0, 1], [1], [], [], w⟩ : DotDims (Cube A R K) (Mat K N) (Cube A R N)) K rfl rfl c
  refine congrArg₂ (· * ·) (congrArg x (funext fun ax => Fin.ext ?_)) (congrArg y (funext fun ax => Fin.ext ?_))
  · match ax with
    | ⟨0, _⟩ => simp [DotDims.lhsIdx]; rfl
    | ⟨1, _⟩ => simp [DotDims.lhsIdx]; rfl
    | ⟨2, _⟩ => simp [DotDims.lhsIdx]; exact hc
  · match ax with
    | ⟨0, _⟩ => simp [DotDims.rhsIdx]; exact hc
    | ⟨1, _⟩ => simp [DotDims.rhsIdx]; rfl

/-- The normalized rows of a stack of matrices, as a host computes them. -/
theorem host_cube_normed (x : FVec Ideal (Cube A R K) .f32) (g : FVec Ideal (Row K) .f32) (ht : (Cube A R K).ReducesTo [2] (Mat A R))
    (hr : (Cube A R K).Reduces [2] (Mat A R)) (hu : 0 < Sc.numel) (hc : (Mat A R).BroadcastsInDim (Cube A R 1) ![0, 1])
    (hs : Sc.BroadcastsInDim (Cube A R 1) ![]) (hb : (Cube A R 1).BroadcastsInDim (Cube A R K) ![0, 1, 2])
    (h1 : (Row K).BroadcastsInDim (Cube 1 1 K) ![2]) (h2 : (Cube 1 1 K).BroadcastsInDim (Cube A R K) ![0, 1, 2])
    (a : Fin A) (r : Fin R) (k : Fin K) :
    mulf (mulf x (broadcastInDim (Cube A R K) ![0, 1, 2] hb (Host.rsqrt (addf (Host.divf (broadcastInDim (Cube A R 1) ![0, 1] hc
          (Host.reduceAdd (mulf x x) (constant (F := Ideal) Sc .f32 0x00000000#32) ht hu))
        (broadcastInDim (Cube A R 1) ![] hs (constant (F := Ideal) Sc .f32 0x45000000#32)))
      (broadcastInDim (Cube A R 1) ![] hs (constant (F := Ideal) Sc .f32 0x358637BD#32))))))
      (broadcastInDim (Cube A R K) ![0, 1, 2] h2 (broadcastInDim (Cube 1 1 K) ![2] h1 g)) (ix3 a r k)
      = normed (fun k => x (ix3 a r k)) (fun k => g (ix1 k)) k := by
  rw [mulf_apply, mulf_apply,
    broadcastInDim_apply _ hb _ (ix3 a r k) (ix3 a r 0) (fun c => by
      match c with | ⟨0, _⟩ => exact kept a | ⟨1, _⟩ => exact kept r | ⟨2, _⟩ => rfl),
    broadcastInDim_apply _ h2 _ (ix3 a r k) (ix3 0 0 k) (fun c => by
      match c with | ⟨0, _⟩ => rfl | ⟨1, _⟩ => rfl | ⟨2, _⟩ => exact kept k),
    broadcastInDim_apply _ h1 _ (ix3 0 0 k) (ix1 k) (fun c => by match c with | ⟨0, _⟩ => exact kept k)]
  unfold normed scale
  refine congrArg (x (ix3 a r k) * · * g (ix1 k)) ?_
  show Ideal.rsqrt (Ideal.div (broadcastInDim (Cube A R 1) ![0, 1] hc
    (Host.reduceAdd (mulf x x) (constant (F := Ideal) Sc .f32 0x00000000#32) ht hu) (ix3 a r 0)) _ + _) = _
  refine congrArg Ideal.rsqrt (congrArg (Ideal.div · _ + _) ?_)
  rw [broadcastInDim_apply _ hc _ (ix3 a r 0) (ix2 a r) (fun c => by match c with | ⟨0, _⟩ => exact kept a | ⟨1, _⟩ => exact kept r),
    hostReduceAdd_apply, Ideal.hostReduceAdd_single ht hr]
  refine (congrArg₂ (· + ·) Ideal.ofBits_zero_f32 (sum_congr rfl fun j _ => ?_)).trans (zero_add _)
  have e : hr.lift (ix2 a r) j = ix3 a r j := funext fun c => Fin.ext (by match c with | ⟨0, _⟩ => rfl | ⟨1, _⟩ => rfl | ⟨2, _⟩ => rfl)
  rw [e]; rfl

/-- A row of the residual sum, as a host computes it. -/
theorem host_row (a : Args) (w : DotDims.WF (Cube 8 2064 2048) (Mat 2048 2048) (Cube 8 2064 2048) [2] [0] [0, 1] [1] [] [])
    (b : Fin 8) (r : Fin 2064) (k : Fin 2048) :
    addf (F := Ideal) (φ := .f32) a.stream (Host.dotGeneral (F := Ideal) (φ₁ := .f32) (φ₂ := .f32)
      (⟨[2], [0], [0, 1], [1], [], [], w⟩ : DotDims _ _ _) none a.y a.w) (ix3 b r k) = a.row b r k :=
  congrArg (a.stream (ix3 b r k) + ·) (host_cube_dot w a.y a.w b r k)

end Host

section Kernel
open Cert.Kernel2Ideal Cert.Kernel2Ideal.Gen
variable (m : (ℓ : Loc nD τ sig) → Buf (Elt Ideal) ℓ) (c : Dev nD) (t : Fin cfg0.N)

/-- The kernel's arguments. -/
def kernelArgs : Args where
  y := m ((c : Thread nD τ).loc main_arg0)
  w := m ((c : Thread nD τ).loc main_arg1)
  h := m ((c : Thread nD τ).loc main_arg2)
  g := m ((c : Thread nD τ).loc main_arg3)

theorem index0 : ∀ t : Fin cfg0.N, win0_0.index t = ![t.val / 4, t.val % 4, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 4, t.val % 4, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, t.val % 4, 0] := (by decide +kernel : ∀ t : Fin grid0.N, _)

/-- The batch element of a point, and the token of a row of its block. -/
def batch : Fin 8 := ⟨t.val / 4, by have : t.val < 32 := t.isLt; omega⟩
def token (r : Fin 512) : Fin 2064 := ⟨512 * (t.val % 4) + r.val, by omega⟩

theorem heads_apply (r : Fin 512) (k : Fin 2048) : X0_0 m c t (ix3 0 r k) = (kernelArgs m c).y (ix3 (batch t) (token t r) k) := by
  unfold X0_0 Pipeline.Window.fill
  rw [dif_pos (moved0_0 t _)]
  blk_simp [iblk]
  rw [V_main_arg0]
  refine congrArg (m ((c : Thread nD τ).loc main_arg0)) (funext fun a => Fin.ext ?_)
  match a with
  | ⟨0, _⟩ => blk_simp [index0]; rfl
  | ⟨1, _⟩ => blk_simp [index0]; exact congrArg (· + r.val) (Nat.mul_comm _ _)
  | ⟨2, _⟩ => blk_simp [index0]

theorem stream_apply (r : Fin 512) (k : Fin 2048) : X0_2 m c t (ix3 0 r k) = (kernelArgs m c).stream (ix3 (batch t) (token t r) k) := by
  unfold X0_2 Pipeline.Window.fill
  rw [dif_pos (moved0_2 t _)]
  blk_simp [iblk]
  refine congrArg (V m c main_v0) (funext fun a => Fin.ext ?_)
  match a with
  | ⟨0, _⟩ => blk_simp [index2]; rfl
  | ⟨1, _⟩ => blk_simp [index2]; exact congrArg (· + r.val) (Nat.mul_comm _ _)
  | ⟨2, _⟩ => blk_simp [index2]

theorem weights_eq : iblk m c 1 t = (kernelArgs m c).w := by
  funext y
  blk_simp [iblk]
  rw [V_main_arg1]
  refine congrArg (m ((c : Thread nD τ).loc main_arg1)) (funext fun a => Fin.ext ?_)
  match a with
  | ⟨0, _⟩ => blk_simp [index1]
  | ⟨1, _⟩ => blk_simp [index1]

theorem gain_apply (k : Fin 2048) : iblk m c 3 t (ix2 0 k) = (kernelArgs m c).g (ix1 k) := by
  blk_simp [iblk]
  refine (congrArg (V m c main_v1) (funext fun a => Fin.ext ?_)).trans
    (broadcastInDim_apply (s := S2048) (t := S1x2048) ![1] bcast_S2048_S1x2048_1 (kernelArgs m c).g (ix2 0 k) (ix1 k)
      fun a => by match a with | ⟨0, _⟩ => exact kept k)
  match a with
  | ⟨0, _⟩ => blk_simp [index3]
  | ⟨1, _⟩ => blk_simp [index3]

/-- What the body leaves in its result's buffer. -/
theorem body_value (i : grid0.Coords) (aY : Memref sig .tc .vmem S1x512x2048 .bf16) (hY : aY.IsWhole)
    (aW : Memref sig .tc .vmem S2048x2048 .bf16) (hW : aW.IsWhole) (aH : Memref sig .tc .vmem S1x512x2048 .f32) (hH : aH.IsWhole)
    (aG : Memref sig .tc .vmem S1x2048 .f32) (hG : aG.IsWhole) (aO : Memref sig .tc .vmem S1x512x2048 .f32) (hO : aO.IsWhole)
    (y : Vec Ideal S1x512x2048 .bf16) (w : Vec Ideal S2048x2048 .bf16) (h : Vec Ideal S1x512x2048 .f32) (g : Vec Ideal S1x2048 .f32) :
    out0_A_4 c i aY hY aW hW aH hH aG hG aO hO y w h g = k0_pay1 h y w g := by
  unfold out0_A_4
  exact (View.read_writes_full VO0_4 _ _ _ []).trans (congr (congr (congrArg₂ k0_pay1 (Cert.Fox.load_unread hH h _)
    (Cert.Fox.load_unread hY y _)) (Cert.Fox.load_unread hW w _)) (Cert.Fox.load_unread hG g _))

theorem outs_eq : outsAt0 m c t = k0_pay1 (X0_2 m c t) (X0_0 m c t) (iblk m c 1 t) (iblk m c 3 t) := body_value ..

/-- A row of the residual sum, as the body computes it. -/
theorem row_entry (x : FVec Ideal S1x512x2048 .f32) (y : FVec Ideal S1x512x2048 .bf16) (w : FVec Ideal S2048x2048 .bf16)
    (hx : S1x512x2048.ShapeCasts S512x2048) (d) (r : Fin 512) (k : Fin 2048) :
    addf (shapeCast S512x2048 x hx) (matmul (⟨[1], [0], [0], [1], [], [], d⟩ : DotDims S512x2048 S2048x2048 S512x2048) none
      (shapeCast S512x2048 y hx) w (constant (F := Ideal) S512x2048 .f32 0x00000000#32)) (ix2 r k)
      = x (ix3 0 r k) + ∑ j : Fin 2048, y (ix3 0 r j) * w (ix2 j k) := by
  rw [addf_apply]
  refine congrArg₂ (· + ·) (shapeCast_1ab_ab_apply x hx r k) ?_
  refine (Ideal.matmul_plain_apply none (shapeCast S512x2048 y hx) w _ r k).trans ?_
  rw [constant_apply, Ideal.ofBits_zero_f32, zero_add]
  exact sum_congr rfl fun j _ => congrArg (· * w (ix2 j k)) (shapeCast_1ab_ab_apply y hx r j)

theorem outs_entry (r : Fin 512) (k : Fin 2048) :
    outsAt0 m c t (ix3 0 r k) = normed ((kernelArgs m c).row (batch t) (token t r)) (fun k => (kernelArgs m c).g (ix1 k)) k := by
  rw [outs_eq]
  refine (shapeCast_ab_1ab_apply _ _ 0 r k).trans ((kernel_normed _ (iblk m c 3 t) _ _ _ _ _ _ _ r k).trans ?_)
  refine congrArg₂ (normed · · k) (funext fun k => ?_) (funext fun k => gain_apply m c t k)
  refine (row_entry _ _ _ _ _ r k).trans ?_
  rw [stream_apply, weights_eq]
  exact congrArg _ (sum_congr rfl fun j _ => congrArg (· * _) (heads_apply m c t r j))

/-- The kernel's result array. -/
theorem array : (dats m 0 c).arrAt 4 cfg0.N = (kernelArgs m c).out := by
  refine (dats m 0 c).arrAt_eq_of_covers 4 _ (by decide +kernel) fun t hf y => ?_
  blk_simp
  rw [after0_4]
  refine (congrArg (outsAt0 m c t) (one_deep y)).trans ((outs_entry m c t (y 1) (y 2)).trans
    (Args.out_eq _ _ (batch t) (token t (y 1)) (y 2) ?_ ?_ ?_).symm)
  · blk_simp [index4]; rfl
  · blk_simp [index4]; exact congrArg (· + (y 1).val) (Nat.mul_comm _ _)
  · blk_simp [index4]

end Kernel

/-- The kernel and the reference end with the same array. -/
theorem same : Cert.algebraic_Kernel2Ideal_Reference2Ideal := by
  intro m g m' g' _ hm
  refine ⟨fun c => (kernelArgs m c).out, ?_, ?_⟩
  · refine (θ_run (Cert.Kernel2Ideal.defs (F := Ideal)) _ _).mono (fun r h c => ?_) (Cert.Kernel2Ideal.Value.run_blocks m g)
    exact ⟨(h c).1.trans (array m c), (h c).2⟩
  · refine (θ_run (Cert.Reference2Ideal.defs (F := Ideal)) _ _).mono (fun r h c => ?_) (Cert.Reference2Ideal.Value.run m' g')
    obtain ⟨h0, h1, h2, h3⟩ := hm c
    refine ⟨(h c).1.trans (funext fun i => ?_), (h c).2⟩
    rw [h0, h1, h2, h3]
    have lt : (i 1).val < 2064 := Nat.lt_trans (i 1).isLt (by decide)
    refine (extractStridedSlice_apply _ _ _ i (ix3 (i 0) ⟨(i 1).val, lt⟩ (i 2)) fun a => ?_).trans ?_
    · match a with
      | ⟨0, _⟩ => exact (Nat.zero_add _).symm
      | ⟨1, _⟩ => exact (Nat.zero_add _).symm
      | ⟨2, _⟩ => exact (Nat.zero_add _).symm
    refine (host_cube_normed _ (kernelArgs m c).g _ (by decide) _ _ _ _ _ _ (i 0) ⟨(i 1).val, lt⟩ (i 2)).trans ?_
    refine Eq.trans ?_ (Args.out_eq _ i (i 0) ⟨(i 1).val, lt⟩ (i 2) rfl rfl rfl).symm
    refine congrArg (normed · _ _) (funext fun k => ?_)
    exact host_row (kernelArgs m c) _ (i 0) ⟨(i 1).val, lt⟩ k

end Cert.Final

end
-- ==== Proof.FoxFrame.lean ====
/-
  The projection into the attention over its grid: what every buffer holds after each point, the body's obligation there,
  and the run of the whole program.
-/
module

public import proofs.«01_k».proof.Proof.FoxRun
public import Idealize.ShloMosaic.Lib.Pipeline.ValueKit.Geometry
public import Idealize.ShloMosaic.Lib.ValueIdx

@[expose] public section

set_option maxRecDepth 16384

noncomputable section

namespace Cert.Fox

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem first_iff (t : Fin cfg0.N) : k0_cond1 (grid0.coords t) = 1#1 ↔ t.val % 8 = 0 := by
  have ht : t.val < 96 := Nat.lt_of_lt_of_eq t.isLt N_0
  have e1 : (grid0.coords t 1).val = t.val / 1 % 8 := Pipeline.Grid.coords_val t 1 (by decide) rfl
  simp only [k0_cond1, e1]
  word_cmp

theorem index0 : ∀ t : Fin cfg0.N, win0_0.index t = ![t.val / 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 8, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 8, t.val % 8] := (by decide +kernel : ∀ t : Fin grid0.N, _)
theorem index5 : ∀ t : Fin cfg0.N, win0_5.index t = ![t.val / 8, 0] := (by decide +kernel : ∀ t : Fin grid0.N, _)

/-- The rows, the gain, the wide and the narrow weights at a point. -/
abbrev rows (t : Fin cfg0.N) : Vec F S1376x2048 .f32 := iblk m c 0 t
abbrev gain (t : Fin cfg0.N) : Vec F S1x2048 .f32 := iblk m c 1 t
abbrev wide (t : Fin cfg0.N) : Vec F S1024x2048 .bf16 := iblk m c 2 t
abbrev narrow (t : Fin cfg0.N) : Vec F S128x2048 .bf16 := iblk m c 3 t

theorem rows_apply (t : Fin cfg0.N) (y : S1376x2048.Idx) (i : S16512x2048.Idx)
    (h0 : (i 0).val = 1376 * (t.val / 8) + (y 0).val) (h1 : (i 1).val = (y 1).val) :
    rows m c t y = m ((c : Thread nD τ).loc main_arg0) i := by
  show iblk m c 0 t y = _
  blk_simp [iblk]
  rw [V_main_arg0]
  refine congrArg (m ((c : Thread nD τ).loc main_arg0)) (funext fun a => Fin.ext ?_)
  match a with
  | ⟨0, _⟩ => blk_simp [index0]; show t.val / 8 * 1376 + (y 0).val = (i 0).val; omega
  | ⟨1, _⟩ => blk_simp [index0]; exact h1.symm

theorem gain_apply (t : Fin cfg0.N) (y : S1x2048.Idx) : gain m c t y = V m c main_v1 y := by
  show iblk m c 1 t y = _
  blk_simp [iblk]
  refine congrArg (V m c main_v1) (funext fun a => Fin.ext ?_)
  match a with
  | ⟨0, _⟩ => blk_simp [index1]
  | ⟨1, _⟩ => blk_simp [index1]

theorem wide_apply (t : Fin cfg0.N) (y : S1024x2048.Idx) (i : S8192x2048.Idx)
    (h0 : (i 0).val = 1024 * (t.val % 8) + (y 0).val) (h1 : (i 1).val = (y 1).val) :
    wide m c t y = m ((c : Thread nD τ).loc main_arg2) i := by
  show iblk m c 2 t y = _
  blk_simp [iblk]
  rw [V_main_arg2]
  refine congrArg (m ((c : Thread nD τ).loc main_arg2)) (funext fun a => Fin.ext ?_)
  match a with
  | ⟨0, _⟩ => blk_simp [index2]; show t.val % 8 * 1024 + (y 0).val = (i 0).val; omega
  | ⟨1, _⟩ => blk_simp [index2]; exact h1.symm

theorem narrow_apply (t : Fin cfg0.N) (y : S128x2048.Idx) : narrow m c t y = m ((c : Thread nD τ).loc main_arg3) y := by
  show iblk m c 3 t y = _
  blk_simp [iblk]
  rw [V_main_arg3]
  refine congrArg (m ((c : Thread nD τ).loc main_arg3)) (funext fun a => Fin.ext ?_)
  match a with
  | ⟨0, _⟩ => blk_simp [index3]
  | ⟨1, _⟩ => blk_simp [index3]

/-- The normalized rows of a point's row block. -/
def normed (t : Fin cfg0.N) : Vec F S1376x2048 .bf16 := k0_pay2 (rows m c t) (gain m c t)
/-- The narrow result of a point's row block. -/
def narrowOut (t : Fin cfg0.N) : Vec F S1376x128 .f32 := k0_pay3 (rows m c t) (gain m c t) (narrow m c t)
/-- The point's block of the wide result. -/
def wideOut (t : Fin cfg0.N) : Vec F S1376x1024 .bf16 := k0_pay4 (normed m c t) (wide m c t)

section
variable {t u : Fin cfg0.N} (h : t.val / 8 = u.val / 8)
include h

theorem rows_congr : rows m c t = rows m c u := by
  funext y
  have ht : t.val < 96 := Nat.lt_of_lt_of_eq t.isLt N_0
  have h0 : (y 0).val < 1376 := (y 0).isLt
  rw [rows_apply m c t y (ValueIdx.ix2 ⟨1376 * (t.val / 8) + (y 0).val, by omega⟩ (y 1)) rfl rfl,
    rows_apply m c u y (ValueIdx.ix2 ⟨1376 * (t.val / 8) + (y 0).val, by omega⟩ (y 1)) (by rw [← h]) rfl]

omit h in
theorem gain_congr : gain m c t = gain m c u := by
  funext y; rw [gain_apply, gain_apply]

omit h in
theorem narrow_congr : narrow m c t = narrow m c u := by
  funext y; rw [narrow_apply, narrow_apply]

theorem normed_congr : normed m c t = normed m c u := by
  unfold normed; rw [rows_congr m c h, gain_congr m c (t := t) (u := u)]

theorem narrowOut_congr : narrowOut m c t = narrowOut m c u := by
  unfold narrowOut; rw [rows_congr m c h, gain_congr m c (t := t) (u := u), narrow_congr m c (t := t) (u := u)]

end

/-- The scratch that holds the normalized rows. -/
abbrev kept : Memref sig .tc .vmem S1376x2048 .bf16 := Memref.whole cc0_scratch0

/-- Between points: before the first the scratch holds anything, later what the point before left. -/
def between : (n : ℕ) → n ≤ cfg0.N → sProp 𝕄
  | 0, _ => Pipeline.ΦA spec0 c
  | n + 1, hn => iprop(iprop(owns (c : Thread nD τ) kept fullShare (normed m c ⟨n, hn⟩)) ∗ (∃ r, prngReg c r))

theorem start_eq : (Pipeline.ΦA spec0 c : sProp 𝕄)
    = iprop(iprop((∃ d, owns (c : Thread nD τ) kept fullShare d)) ∗ (∃ r, prngReg c r)) := by
  unfold Pipeline.ΦA; rw [scopedRest0_eq]; simp only [kept, owns_whole]; try rfl

theorem between_pos (n : ℕ) (h : n ≤ cfg0.N) (hz : n ≠ 0) : between m c n h
    = iprop(iprop(owns (c : Thread nD τ) kept fullShare (normed m c ⟨n - 1, by omega⟩)) ∗ (∃ r, prngReg c r)) := by
  cases n with
  | zero => exact absurd rfl hz
  | succ n => rfl

/-- At any point the scratch holds something. -/
theorem between_some (n : ℕ) (h : n ≤ cfg0.N) :
    between m c n h ⊢ iprop(iprop((∃ d, owns (c : Thread nD τ) kept fullShare d)) ∗ (∃ r, prngReg c r)) := by
  cases n with
  | zero => rw [show between m c 0 h = Pipeline.ΦA spec0 c from rfl, start_eq]
  | succ n =>
    rw [between_pos m c _ h (Nat.succ_ne_zero n)]
    iintro ⟨H, Hg⟩
    isplitl [H]
    · iexists _; iexact H
    iexact Hg

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => rows m c t
    | ⟨1, _⟩ => gain m c t
    | ⟨2, _⟩ => wide m c t
    | ⟨3, _⟩ => narrow m c t
    | ⟨4, _⟩ => wideOut m c t
    | ⟨5, _⟩ => narrowOut m c t
  Φ t := between m c t.val (Nat.le_of_lt_succ t.isLt)
  q _ := fullShare
  owed _ := 0

theorem A_eq (w : Fin cfg0.W) : (dats m 0 c).A w = V m c (Pipeline.arrRef spec0 w) := by dsimp only [dats]

theorem after0 (t : Fin cfg0.N) : (dats m 0 c).after 0 t = rows m c t := by dsimp only [dats]
theorem after1 (t : Fin cfg0.N) : (dats m 0 c).after 1 t = gain m c t := by dsimp only [dats]
theorem after2 (t : Fin cfg0.N) : (dats m 0 c).after 2 t = wide m c t := by dsimp only [dats]
theorem after3 (t : Fin cfg0.N) : (dats m 0 c).after 3 t = narrow m c t := by dsimp only [dats]
theorem after4 (t : Fin cfg0.N) : (dats m 0 c).after 4 t = wideOut m c t := by dsimp only [dats]
theorem after5 (t : Fin cfg0.N) : (dats m 0 c).after 5 t = narrowOut m c t := by dsimp only [dats]

theorem before0 (t : Fin cfg0.N) (d) : (dats m 0 c).before 0 t d = rows m c t :=
  before0_0_of m (dats m 0 c) (A_eq m c 0) (after0 m c) t d
theorem before1 (t : Fin cfg0.N) (d) : (dats m 0 c).before 1 t d = gain m c t :=
  before0_1_of m (dats m 0 c) (A_eq m c 1) (after1 m c) t d
theorem before2 (t : Fin cfg0.N) (d) : (dats m 0 c).before 2 t d = wide m c t :=
  before0_2_of m (dats m 0 c) (A_eq m c 2) (after2 m c) t d
theorem before3 (t : Fin cfg0.N) (d) : (dats m 0 c).before 3 t d = narrow m c t :=
  before0_3_of m (dats m 0 c) (A_eq m c 3) (after3 m c) t d

/-- The narrow result's buffer holds nothing of use exactly where a row block begins. -/
theorem fresh_iff (t : Fin cfg0.N) : cfg0.fresh 5 t.val = (t.val % 8 == 0) :=
  Pipeline.Cfg.fresh_tab cfg0 5 (fun n => n % 8 == 0) rfl (by decide +kernel) t.val (Nat.le_of_lt t.isLt)

theorem idle_later (t : Fin cfg0.N) (h : ¬t.val % 8 = 0) : cfg0.idle 5 (grid0.coords t) = true := by
  show (!(k0_cond1 (grid0.coords t) == 1#1)) = true
  simpa using mt (first_iff t).mp h

theorem idle_first (t : Fin cfg0.N) (h : t.val % 8 = 0) : cfg0.idle 5 (grid0.coords t) = false := by
  show (!(k0_cond1 (grid0.coords t) == 1#1)) = false
  simpa using (first_iff t).mpr h

/-- At the later points of a row block the narrow result's buffer already holds the row block's result. -/
theorem before5 (t : Fin cfg0.N) (h : ¬t.val % 8 = 0) (d) : (dats m 0 c).before 5 t d = narrowOut m c t := by
  have hp : ∀ u : Fin cfg0.N, ¬u.val % 8 = 0 → narrowOut m c u = narrowOut m c ⟨u.val - 1, by omega⟩ :=
    fun u hu => narrowOut_congr m c (by show u.val / 8 = (u.val - 1) / 8; omega)
  rw [Dat.before_out_traj _ 5 rfl (fun _ _ => rfl) (fun u _ hi hf => ?_) t.val t rfl d, if_neg, after5, ← hp t h]
  · rw [fresh_iff]; simpa using h
  · rw [fresh_iff] at hf
    rw [after5, after5]
    exact hp u (by simpa using hf)

/-- What the body finds at a point, -/
def found (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it leaves. -/
def left (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_live (w : Fin cfg0.W) (t : Fin cfg0.N) (h : cfg0.idle w (grid0.coords t) = false) : (dats m 0 c).leavesExact w t
    = owns (c : Thread nD τ) ((cfg0.win w).stage (cfg0.slots t w)) fullShare ((dats m 0 c).after w t) := by
  unfold Dat.leavesExact; rw [h]

/-- The narrow result's buffer, left alone at a later point, is left as it should be. -/
theorem leaves_kept (t : Fin cfg0.N) (h : ¬t.val % 8 = 0) :
    owns (c : Thread nD τ) (st0_5 t) fullShare (narrowOut m c t) ⊢ (dats m 0 c).leavesExact 5 t := by
  by_cases hf : (cfg0.win 5).flush t = true
  · unfold Dat.leavesExact; rw [idle_later t h, hf, after5]
  · rw [Dat.leavesExact_idle _ 5 t (idle_later t h) (by simpa using hf)]
    simp only [before5 m c t h]
    iintro H
    iexists (narrowOut m c t)
    iexact H

set_option maxHeartbeats 1000000 in
theorem body_at (t : Fin cfg0.N) :
    found m c t ⊢ wp frame (wpE (defs₀ (F := F)) Variants.none c none) Set.univ (bodyAt0 t) (fun _ => left m c t) := by
  unfold found left bodyAt0
  simp only [before0, before1, before2, before3]
  rw [show (dats m 0 c).owesAt () t.succ = (dats m 0 c).owesAt () t.castSucc from rfl,
    show (dats m 0 c).Φ t.succ = between m c (t.val + 1) t.isLt from rfl, between_pos m c _ _ (Nat.succ_ne_zero _),
    show (dats m 0 c).Φ t.castSucc = between m c t.val (Nat.le_of_lt t.isLt) from rfl,
    leaves_live m c 0 t rfl, leaves_live m c 1 t rfl, leaves_live m c 2 t rfl, leaves_live m c 3 t rfl, leaves_live m c 4 t rfl,
    after0, after1, after2, after3, after4]
  by_cases h : t.val % 8 = 0
  · rw [leaves_live m c 5 t (idle_first t h), after5]
    refine (sep_mono_l (between_some m c _ _)).trans ?_
    show (iprop(_ ∗ _) : sProp 𝕄) ⊢ _
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ (Memref.isWhole_whole _) (rows m c t) (gain m c t) (wide m c t)
      (narrow m c t) ((first_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [between_pos m c _ _ (by omega)]
    simp only [before5 m c t h]
    rw [show normed m c ⟨t.val - 1, by omega⟩ = normed m c t from
      normed_congr m c (by show (t.val - 1) / 8 = t.val / 8; omega)]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ (Memref.isWhole_whole _) (wide m c t)
      (fun e => h ((first_iff t).mp e)) (normed m c t) iprop(emp) Set.univ _)
    isplitl [H2]; · iexact H2
    isplitl [H4]; · iexists _; iexact H4
    isplitl [HS]; · iexact HS
    isplitr; · iempintro
    iintro ⟨H2, H4, HS, -⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_kept m c t h)
    iexact H5

theorem row_eq (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row_eq]
  exact triple_restated (body_at m c t) rfl .rfl fun _ => .rfl

theorem enter : Pipeline.ΦA spec0 c ⊢ (dats m 0 c).Φ 0 := by
  rw [show (dats m 0 c).Φ 0 = Pipeline.ΦA spec0 c from rfl]

theorem leave : (dats m 0 c).Φ (Fin.last cfg0.N) ⊢ Pipeline.ΦA spec0 c := by
  rw [show (dats m 0 c).Φ (Fin.last cfg0.N) = between m c cfg0.N le_rfl from rfl, start_eq]
  exact between_some m c _ _

set_option backward.isDefEq.respectTransparency.types false in
/-- The program runs; its arrays end as the points leave them, and its semaphores at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Fox
-- ==== Proof.FoxValue.lean ====
/-
  The projection into the attention over the extended reals: both result arrays as functions of the arguments, the same
  for the kernel and for the reference.
-/
module

public import proofs.«01_k».proof.Proof.FoxFrame
public import proofs.«01_k».proof.Proof.RowNorm
public import proofs.«01_k».proof.Proof.Gen.Reference3Ideal.Run
public import proofs.«01_k».proof.Defs
public import Idealize.ShloMosaic.Lib.Pipeline.Value

@[expose] public section

set_option maxRecDepth 16384

noncomputable section

namespace Cert.Fox

open Cert.Kernel3Ideal Cert.Kernel3Ideal.Gen
open Idealize.ShloMosaic Idealize.ShloMosaic.TcCoe Idealize.ShloMosaic.ValueIdx Idealize.SL.Sem Cert.RowNorm Finset

/-- The arguments: the residual stream, the gain, the wide and the narrow weights. -/
structure Args where
  x : S16512x2048.Idx → EReal
  g : S1x2048.Idx → EReal
  w : S8192x2048.Idx → EReal
  n : S128x2048.Idx → EReal

namespace Args
variable (a : Args)

/-- A row of the residual stream, and the gains of its columns. -/
def row (r : Fin 16512) (k : Fin 2048) : EReal := a.x (ix2 r k)
def gains (k : Fin 2048) : EReal := shapeCast S2048 a.g (by decide) (ix1 k)

/-- The wide and the narrow result. -/
def wide (i : S16512x8192.Idx) : EReal := project (a.row (i 0)) a.gains fun k => a.w (ix2 (i 1) k)
def narrow (i : S16512x128.Idx) : EReal := project (a.row (i 0)) a.gains fun k => a.n (ix2 (i 1) k)

end Args

section
variable (m : (ℓ : Loc nD τ sig) → Buf (Elt Ideal) ℓ) (c : Dev nD)

/-- The kernel's arguments. -/
def kernelArgs : Args where
  x := m ((c : Thread nD τ).loc main_arg0)
  g := m ((c : Thread nD τ).loc main_arg1)
  w := m ((c : Thread nD τ).loc main_arg2)
  n := m ((c : Thread nD τ).loc main_arg3)

theorem gain_entry (k : Fin 2048) : V m c main_v1 (ix2 0 k) = (kernelArgs m c).gains k := by
  refine broadcastInDim_apply (s := S2048) (t := S1x2048) ![1] bcast_S2048_S1x2048_1 (shapeCast S2048 (kernelArgs m c).g (by decide))
    (ix2 0 k) (ix1 k) fun a => by match a with | ⟨0, _⟩ => exact Cert.Mlstm.kept k

variable (t : Fin cfg0.N)

/-- The normalized rows of a point's row block, at an index. -/
theorem pay1_entry (r : Fin 1376) (k : Fin 2048) (i : Fin 16512) (hi : i.val = 1376 * (t.val / 8) + r.val) :
    k0_pay1 (rows m c t) (gain m c t) (ix2 r k) = Cert.RowNorm.normed ((kernelArgs m c).row i) (kernelArgs m c).gains k := by
  refine (kernel_normed (rows m c t) (gain m c t) _ _ _ _ _ _ _ r k).trans ?_
  have e1 : (fun k => rows m c t (ix2 r k)) = (kernelArgs m c).row i :=
    funext fun k => rows_apply m c t (ix2 r k) (ix2 i k) hi rfl
  have e2 : (fun k => gain m c t (ix2 0 k)) = (kernelArgs m c).gains :=
    funext fun k => (gain_apply m c t (ix2 0 k)).trans (gain_entry m c k)
  rw [e1, e2]

theorem wideOut_entry (r : Fin 1376) (j : Fin 1024) (i : S16512x8192.Idx) (hi : (i 0).val = 1376 * (t.val / 8) + r.val)
    (hj : (i 1).val = 1024 * (t.val % 8) + j.val) : wideOut m c t (ix2 r j) = (kernelArgs m c).wide i := by
  show wideOut m c t (ix2 r j) = ∑ k : Fin 2048, Cert.RowNorm.normed ((kernelArgs m c).row (i 0)) (kernelArgs m c).gains k * (kernelArgs m c).w (ix2 (i 1) k)
  refine (kernel_dot (φ₁ := .bf16) (φ₂ := .bf16) _ (Cert.Fox.normed m c t) (Cert.Fox.wide m c t) r j).trans (sum_congr rfl fun k _ => ?_)
  refine congrArg₂ (· * ·) ?_ (wide_apply m c t (ix2 j k) (ix2 (i 1) k) hj rfl)
  unfold Cert.Fox.normed k0_pay2
  rw [shapeCast_self]
  exact pay1_entry m c t r k (i 0) hi

theorem narrowOut_entry (r : Fin 1376) (j : Fin 128) (i : S16512x128.Idx) (hi : (i 0).val = 1376 * (t.val / 8) + r.val)
    (hj : (i 1).val = j.val) : narrowOut m c t (ix2 r j) = (kernelArgs m c).narrow i := by
  show narrowOut m c t (ix2 r j) = ∑ k : Fin 2048, Cert.RowNorm.normed ((kernelArgs m c).row (i 0)) (kernelArgs m c).gains k * (kernelArgs m c).n (ix2 (i 1) k)
  refine (kernel_dot (φ₁ := .bf16) (φ₂ := .bf16) _ (k0_pay1 (rows m c t) (gain m c t)) (Cert.Fox.narrow m c t) r j).trans (sum_congr rfl fun k _ => ?_)
  refine congrArg₂ (· * ·) (pay1_entry m c t r k (i 0) hi) ((narrow_apply m c t (ix2 j k)).trans ?_)
  rw [show j = i 1 from Fin.ext hj.symm]; rfl

/-- The kernel's result arrays. -/
theorem array_wide : (dats m 0 c).arrAt 4 cfg0.N = (kernelArgs m c).wide := by
  refine (dats m 0 c).arrAt_eq_of_covers 4 _ (by decide +kernel) fun t hf y => ?_
  blk_simp
  rw [after4]
  refine (congrArg (wideOut m c t) (eq_ix2 y)).trans (wideOut_entry m c t (y 0) (y 1) _ ?_ ?_)
  · blk_simp [index4]; exact congrArg (· + (y 0).val) (Nat.mul_comm _ _)
  · blk_simp [index4]; exact congrArg (· + (y 1).val) (Nat.mul_comm _ _)

theorem array_narrow : (dats m 0 c).arrAt 5 cfg0.N = (kernelArgs m c).narrow := by
  refine (dats m 0 c).arrAt_eq_of_covers 5 _ (by decide +kernel) fun t hf y => ?_
  blk_simp
  rw [after5]
  refine (congrArg (narrowOut m c t) (eq_ix2 y)).trans (narrowOut_entry m c t (y 0) (y 1) _ ?_ ?_)
  · blk_simp [index5]; exact congrArg (· + (y 0).val) (Nat.mul_comm _ _)
  · blk_simp [index5]

end

/-- The kernel and the reference end with the same two arrays. -/
theorem same : Cert.algebraic_Kernel3Ideal_Reference3Ideal := by
  intro m g m' g' _ hm
  refine ⟨fun c => (kernelArgs m c).wide, fun c => (kernelArgs m c).narrow, ?_, ?_⟩
  · refine (θ_run (Cert.Kernel3Ideal.defs (F := Ideal)) _ _).mono (fun r h c => ?_) (θ_run_and (run m g) (frame m g))
    exact ⟨((h.1.1 c).1 4).trans (array_wide m c), ((h.1.1 c).1 5).trans (array_narrow m c), h.2.1 c⟩
  · refine (θ_run (Cert.Reference3Ideal.defs (F := Ideal)) _ _).mono (fun r h c => ?_) (Cert.Reference3Ideal.Value.run m' g')
    obtain ⟨h0, h1, h2, h3⟩ := hm c
    obtain ⟨e1, e2, e3⟩ := h c
    refine ⟨e1.trans (funext fun i => ?_), e2.trans (funext fun i => ?_), e3⟩
    · rw [h0, h1, h2]
      refine (congrArg _ (eq_ix2 i)).trans (host_project (R := 16512) (K := 2048) (kernelArgs m c).x _ _ (by decide) _ _ _ _ _ _ _ _ _ (i 0) (i 1))
    · rw [h0, h1, h3]
      refine (congrArg _ (eq_ix2 i)).trans (host_project (R := 16512) (K := 2048) (kernelArgs m c).x _ _ (by decide) _ _ _ _ _ _ _ _ _ (i 0) (i 1))

end Cert.Fox

end
-- ==== Proof.FoxSame.lean ====
/-
  The projection into the attention in the original program and in its idealization: the two texts are the same, so the
  frame proved of one is the other's.
-/
module

public import proofs.«01_k».proof.Proof.FoxFrame
public import proofs.«01_k».proof.Proof.Gen.Kernel3.Frame

@[expose] public section

noncomputable section

namespace Cert.FoxSame

open Idealize.ShloMosaic Idealize.ShloMosaic.TcCoe Idealize.SL.Sem

variable {F : FTy → Type} [FloatOps F]

/-- The host's operations around the call. -/
theorem main : Cert.Kernel3.main (F := F) = Cert.Kernel3Ideal.main (F := F) := rfl

/-- The call's body, the one function the text defines. -/
theorem defs0 : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | ⟨0, _⟩, (t, s) => rfl

/-- The call with its pipeline. -/
theorem defs : Cert.Kernel3.defs (F := F) = Cert.Kernel3Ideal.defs (F := F) := by
  unfold Cert.Kernel3.defs Cert.Kernel3Ideal.defs
  exact congrArg (Pipeline.defs _) defs0

/-- The arguments of the original program end as they began, and so do its semaphores. -/
theorem frame (m : (ℓ : Loc Cert.Kernel3.nD Cert.Kernel3.τ Cert.Kernel3.sig) → Buf (Elt F) ℓ) (ρ : Dev Cert.Kernel3.nD → PrngReg) :
    θ_run (Cert.Kernel3.defs (F := F)) (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0) := by
  rw [defs]
  exact Cert.Fox.frame m ρ

end Cert.FoxSame

end
-- ==== Proof.PrepRun.lean ====
/-
  The first layer's norm and projection, run. Twelve blocks of rows are visited in order, each at twelve points, one per
  block of output columns. The first point of a row block normalizes its rows and keeps them in the scratch. Every point
  also casts one block of each of four weight arrays of later calls; one of these is put together from the rows of two
  neighbouring blocks, so that a gap of sixteen rows closes.
-/
module

public import proofs.«01_k».proof.Proof.FoxRun
public import proofs.«01_k».proof.Proof.Gen.Kernel4Ideal.Frame
public import proofs.«01_k».proof.Proof.Gen.Kernel4Ideal.Skeleton
public import Idealize.ShloMosaic.Lib.ValueIdx

@[expose] public section

set_option maxRecDepth 16384

noncomputable section

namespace Cert.Prep

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Fox (load_unread)

variable {F : FTy → Type} [FloatOps F]

local notation "𝕄" => MT nD τ sig Unit (Elt F) ℕ (UR sig nD τ) ℕ

/-- The test for the first point of a row block. -/
def starts (i : grid0.Coords) : BitVec 1 :=
  Scalar.cmpi .ne (Scalar.extui (Scalar.cmpi .eq (BitVec.ofNat 32 (i 1).val) 0#32) : BitVec 32) 0#32

/-- The rows of one block with its first sixteen dropped, and the first sixteen rows of the next. -/
def tail (a : Vec F S64x2048 .f32) : Vec F S48x2048 .f32 := VecWindow.window a ![16, 0] S48x2048.size inb_S64x2048_S48x2048_16_0
def head (b : Vec F S64x2048 .f32) : Vec F S16x2048 .f32 := VecWindow.window b ![0, 0] S16x2048.size inb_S64x2048_S16x2048_0_0

/-- The block of the long weight array. -/
def slabOut (i : grid0.Coords) (a b : Vec F S64x2048 .f32) : Vec F S64x2048 .bf16 := k0_pay5 i (tail a) (head b) a

/-- The short weight array: sixteen rows, and zeros below. -/
def shortOut (f : Vec F S16x2048 .f32) : Vec F S128x2048 .bf16 := fun y =>
  if h : (y 0).val < 16 then k0_pay6 f (ValueIdx.ix2 ⟨(y 0).val, h⟩ (y 1)) else k0_pay7 (ValueIdx.ix2 0 (y 1))

/-- A load of some rows of a whole buffer. -/
theorem load_window {sp : Space} {s : Shape} {e : EltTy} {a : Memref sig .tc sp s e} (h : a.IsWhole) (x : Vec F s e)
    {off size : Fin s.rank → ℕ} (inb : ∀ k, off k + size k ≤ s.size k) :
    a.view.readAt (Elt F) (Rect.unit off size inb).toLoadRect (h.unread x) = VecWindow.window x off size inb :=
  (View.readAt_unit a.view _ inb rfl inb).trans (congrArg (VecWindow.window · off size inb) (h.read_unread x))

/-- The two stores of the short weight array, whatever was there before. -/
theorem short_puts (x : Vec F S128x2048 .bf16) (f : Vec F S16x2048 .f32) :
    VecWindow.put (VecWindow.put x ![0, 0] S16x2048.size (k0_pay6 f)) ![16, 0] S112x2048.size (k0_pay7 (F := F)) = shortOut f := by
  funext y
  have h0 : (y 0).val < 128 := (y 0).isLt
  have h1 : (y 1).val < 2048 := (y 1).isLt
  unfold VecWindow.put shortOut
  by_cases h : (y 0).val < 16
  · rw [dif_neg (fun hh => by have := (hh 0).1; change 16 ≤ (y 0).val at this; omega),
      dif_pos (fun a => by match a with
        | ⟨0, _⟩ => exact ⟨Nat.zero_le _, by show (y 0).val < 0 + 16; omega⟩
        | ⟨1, _⟩ => exact ⟨Nat.zero_le _, by show (y 1).val < 0 + 2048; omega⟩), dif_pos h]
    refine congrArg (k0_pay6 f) (funext fun a => Fin.ext ?_)
    match a with
    | ⟨0, _⟩ => rfl
    | ⟨1, _⟩ => rfl
  · rw [dif_pos (fun a => by match a with
        | ⟨0, _⟩ => exact ⟨by show 16 ≤ (y 0).val; omega, by show (y 0).val < 16 + 112; omega⟩
        | ⟨1, _⟩ => exact ⟨Nat.zero_le _, by show (y 1).val < 0 + 2048; omega⟩), dif_neg h]
    rfl

section Body

variable (c : Dev nD) (i : grid0.Coords)
  (aX : Memref sig .tc .vmem S1376x2048 .f32) (hX : aX.IsWhole) (aG : Memref sig .tc .vmem S1x2048 .f32) (hG : aG.IsWhole)
  (aW : Memref sig .tc .vmem S2048x1024 .bf16) (hW : aW.IsWhole) (aA : Memref sig .tc .vmem S64x2048 .f32) (hA : aA.IsWhole)
  (aB : Memref sig .tc .vmem S64x2048 .f32) (hB : aB.IsWhole) (aF : Memref sig .tc .vmem S16x2048 .f32) (hF : aF.IsWhole)
  (aP : Memref sig .tc .vmem S32x2048 .f32) (hP : aP.IsWhole) (aQ : Memref sig .tc .vmem S16x2048 .f32) (hQ : aQ.IsWhole)
  (oW : Memref sig .tc .vmem S1376x1024 .bf16) (kW : oW.IsWhole) (oA : Memref sig .tc .vmem S64x2048 .bf16) (kA : oA.IsWhole)
  (oF : Memref sig .tc .vmem S128x2048 .bf16) (kF : oF.IsWhole) (oP : Memref sig .tc .vmem S32x2048 .bf16) (kP : oP.IsWhole)
  (oQ : Memref sig .tc .vmem S16x2048 .bf16) (kQ : oQ.IsWhole) (aS : Memref sig .tc .vmem S1376x2048 .bf16) (hS : aS.IsWhole)
  (x : Vec F S1376x2048 .f32) (g : Vec F S1x2048 .f32) (w : Vec F S2048x1024 .bf16) (a b : Vec F S64x2048 .f32)
  (f : Vec F S16x2048 .f32) (p : Vec F S32x2048 .f32) (q : Vec F S16x2048 .f32)

/-- The inputs' buffers, which the body leaves as they are. -/
def inputs : sProp 𝕄 :=
  iprop(owns (c : Thread nD τ) aX fullShare x ∗ owns (c : Thread nD τ) aG fullShare g ∗ owns (c : Thread nD τ) aW fullShare w
    ∗ owns (c : Thread nD τ) aA fullShare a ∗ owns (c : Thread nD τ) aB fullShare b ∗ owns (c : Thread nD τ) aF fullShare f
    ∗ owns (c : Thread nD τ) aP fullShare p ∗ owns (c : Thread nD τ) aQ fullShare q)

/-- The results' buffers before the body, -/
def anything : sProp 𝕄 :=
  iprop((∃ d, owns (c : Thread nD τ) oW fullShare d) ∗ (∃ d, owns (c : Thread nD τ) oA fullShare d)
    ∗ (∃ d, owns (c : Thread nD τ) oF fullShare d) ∗ (∃ d, owns (c : Thread nD τ) oP fullShare d) ∗ (∃ d, owns (c : Thread nD τ) oQ fullShare d))

/-- and after it, with the normalized rows at `s`. -/
def written (s : Vec F S1376x2048 .bf16) : sProp 𝕄 :=
  iprop(owns (c : Thread nD τ) oW fullShare (k0_pay4 s w) ∗ owns (c : Thread nD τ) oA fullShare (slabOut i a b)
    ∗ owns (c : Thread nD τ) oF fullShare (shortOut f) ∗ owns (c : Thread nD τ) oP fullShare (k0_pay1 p)
    ∗ owns (c : Thread nD τ) oQ fullShare (k0_pay2 q) ∗ owns (c : Thread nD τ) aS fullShare s)

set_option maxHeartbeats 4000000 in
/-- The body at the first point of a row block: the scratch is written first. -/
theorem body_first (hc : starts i = 1#1) (E : Set ℕ) (K : PUnit → sProp 𝕄) :
    iprop(inputs c aX aG aW aA aB aF aP aQ x g w a b f p q ∗ anything c oW oA oF oP oQ ∗ (∃ d, owns (c : Thread nD τ) aS fullShare d)
        ∗ (iprop(inputs c aX aG aW aA aB aF aP aQ x g w a b f p q ∗ written c i oW oA oF oP oQ aS w a b f p q (k0_pay3 x g)) -∗ K ⟨⟩))
      ⊢ wp frame (wpE (defs₀ (F := F)) Variants.none c none) E
          (cc0_mlstm_in_proj i aX hX aG hG aW hW aA hA aB hB aF hF aP hP aQ hQ oW kW oA kA oF kF oP kP oQ kQ aS hS) K := by
  simp only [cc0_mlstm_in_proj_eq_skeleton]; unfold cc0_mlstm_in_proj_skel
  simp only [k0_part1_eq_skeleton]; unfold k0_part1_skel
  unfold inputs anything written owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩,
    ⟨⟨%d8, %f8, -, H8⟩, ⟨%d9, %f9, -, H9⟩, ⟨%d10, %f10, -, H10⟩, ⟨%d11, %f11, -, H11⟩, ⟨%d12, %f12, -, H12⟩⟩, ⟨%d13, %f13, -, H13⟩, Hk⟩
  obtain rfl := hX.eq_unread hf0; obtain rfl := hG.eq_unread hf1; obtain rfl := hW.eq_unread hf2; obtain rfl := hA.eq_unread hf3
  obtain rfl := hB.eq_unread hf4; obtain rfl := hF.eq_unread hf5; obtain rfl := hP.eq_unread hf6; obtain rfl := hQ.eq_unread hf7
  sl_exec (disch := sl_exact hc)
  sl_step
  iapply Hk
  isplitl [H0 H1 H2 H3 H4 H5 H6 H7]
  · isplitl [H0]
    · iexists _; isplitr; · ipureintro; exact hX.read_unread _
      iexact H0
    isplitl [H1]
    · iexists _; isplitr; · ipureintro; exact hG.read_unread _
      iexact H1
    isplitl [H2]
    · iexists _; isplitr; · ipureintro; exact hW.read_unread _
      iexact H2
    isplitl [H3]
    · iexists _; isplitr; · ipureintro; exact hA.read_unread _
      iexact H3
    isplitl [H4]
    · iexists _; isplitr; · ipureintro; exact hB.read_unread _
      iexact H4
    isplitl [H5]
    · iexists _; isplitr; · ipureintro; exact hF.read_unread _
      iexact H5
    isplitl [H6]
    · iexists _; isplitr; · ipureintro; exact hP.read_unread _
      iexact H6
    iexists _; isplitr; · ipureintro; exact hQ.read_unread _
    iexact H7
  isplitl [H8]
  · iexists _; isplitr
    swap; · iexact H8
    ipureintro
    exact (View.read_writes_full oW.view f8 _ _ []).trans (congrArg₂ k0_pay4
      ((View.readCov_full aS.view _ inb_S1376x2048_S1376x2048_0_0 _ []).trans
        (congrArg₂ k0_pay3 (load_unread hX x _) (load_unread hG g _))) (load_unread hW w _))
  isplitl [H9]
  · iexists _; isplitr
    swap; · iexact H9
    ipureintro
    rw [View.read_writes_full, load_window hA, load_window hB, load_unread hA]; rfl
  isplitl [H10]
  · iexists _; isplitr
    swap; · iexact H10
    ipureintro
    exact (View.read_writes_cons_put oF.view f10 _ _ _ rfl).trans ((congrArg (VecWindow.put · _ _ _)
      ((View.read_writes_cons_put oF.view f10 _ _ [] rfl).trans (congrArg
        (fun z => VecWindow.put (View.read (Elt F) oF.view (oF.view.writes (Elt F) f10 [])) ![0, 0] S16x2048.size (k0_pay6 z))
        (load_unread hF f _)))).trans
      (short_puts _ f))
  isplitl [H11]
  · iexists _; isplitr
    swap; · iexact H11
    ipureintro
    exact (View.read_writes_full oP.view f11 _ _ []).trans (congrArg k0_pay1 (load_unread hP p _))
  isplitl [H12]
  · iexists _; isplitr
    swap; · iexact H12
    ipureintro
    exact (View.read_writes_full oQ.view f12 _ _ []).trans (congrArg k0_pay2 (load_unread hQ q _))
  iexists _; isplitr
  swap; · iexact H13
  ipureintro
  exact (View.read_writes_full aS.view f13 inb_S1376x2048_S1376x2048_0_0 _ []).trans
    (congrArg₂ k0_pay3 (load_unread hX x _) (load_unread hG g _))

set_option maxHeartbeats 4000000 in
/-- The body at the other points: the scratch is read. -/
theorem body_later (hc : ¬starts i = 1#1) (s : Vec F S1376x2048 .bf16) (E : Set ℕ) (K : PUnit → sProp 𝕄) :
    iprop(inputs c aX aG aW aA aB aF aP aQ x g w a b f p q ∗ anything c oW oA oF oP oQ ∗ owns (c : Thread nD τ) aS fullShare s
        ∗ (iprop(inputs c aX aG aW aA aB aF aP aQ x g w a b f p q ∗ written c i oW oA oF oP oQ aS w a b f p q s) -∗ K ⟨⟩))
      ⊢ wp frame (wpE (defs₀ (F := F)) Variants.none c none) E
          (cc0_mlstm_in_proj i aX hX aG hG aW hW aA hA aB hB aF hF aP hP aQ hQ oW kW oA kA oF kF oP kP oQ kQ aS hS) K := by
  simp only [cc0_mlstm_in_proj_eq_skeleton]; unfold cc0_mlstm_in_proj_skel
  simp only [k0_part1_eq_skeleton]; unfold k0_part1_skel
  unfold inputs anything written owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩,
    ⟨⟨%d8, %f8, -, H8⟩, ⟨%d9, %f9, -, H9⟩, ⟨%d10, %f10, -, H10⟩, ⟨%d11, %f11, -, H11⟩, ⟨%d12, %f12, -, H12⟩⟩, ⟨%f13, %hf13, H13⟩, Hk⟩
  obtain rfl := hX.eq_unread hf0; obtain rfl := hG.eq_unread hf1; obtain rfl := hW.eq_unread hf2; obtain rfl := hA.eq_unread hf3
  obtain rfl := hB.eq_unread hf4; obtain rfl := hF.eq_unread hf5; obtain rfl := hP.eq_unread hf6; obtain rfl := hQ.eq_unread hf7
  obtain rfl := hS.eq_unread hf13
  sl_exec (disch := sl_exact hc)
  sl_step
  iapply Hk
  isplitl [H0 H1 H2 H3 H4 H5 H6 H7]
  · isplitl [H0]
    · iexists _; isplitr; · ipureintro; exact hX.read_unread _
      iexact H0
    isplitl [H1]
    · iexists _; isplitr; · ipureintro; exact hG.read_unread _
      iexact H1
    isplitl [H2]
    · iexists _; isplitr; · ipureintro; exact hW.read_unread _
      iexact H2
    isplitl [H3]
    · iexists _; isplitr; · ipureintro; exact hA.read_unread _
      iexact H3
    isplitl [H4]
    · iexists _; isplitr; · ipureintro; exact hB.read_unread _
      iexact H4
    isplitl [H5]
    · iexists _; isplitr; · ipureintro; exact hF.read_unread _
      iexact H5
    isplitl [H6]
    · iexists _; isplitr; · ipureintro; exact hP.read_unread _
      iexact H6
    iexists _; isplitr; · ipureintro; exact hQ.read_unread _
    iexact H7
  isplitl [H8]
  · iexists _; isplitr
    swap; · iexact H8
    ipureintro
    rw [View.read_writes_full, load_unread hS, load_unread hW]
  isplitl [H9]
  · iexists _; isplitr
    swap; · iexact H9
    ipureintro
    rw [View.read_writes_full, load_window hA, load_window hB, load_unread hA]; rfl
  isplitl [H10]
  · iexists _; isplitr
    swap; · iexact H10
    ipureintro
    exact (View.read_writes_cons_put oF.view f10 _ _ _ rfl).trans ((congrArg (VecWindow.put · _ _ _)
      ((View.read_writes_cons_put oF.view f10 _ _ [] rfl).trans (congrArg
        (fun z => VecWindow.put (View.read (Elt F) oF.view (oF.view.writes (Elt F) f10 [])) ![0, 0] S16x2048.size (k0_pay6 z))
        (load_unread hF f _)))).trans
      (short_puts _ f))
  isplitl [H11]
  · iexists _; isplitr
    swap; · iexact H11
    ipureintro
    exact (View.read_writes_full oP.view f11 _ _ []).trans (congrArg k0_pay1 (load_unread hP p _))
  isplitl [H12]
  · iexists _; isplitr
    swap; · iexact H12
    ipureintro
    exact (View.read_writes_full oQ.view f12 _ _ []).trans (congrArg k0_pay2 (load_unread hQ q _))
  iexists _; isplitr; · ipureintro; exact hS.read_unread _
  iexact H13

end Body

end Cert.Prep
-- ==== Proof.PrepFrame.lean ====
/-
  The first layer's norm and projection over its grid: what every buffer holds after each point, the body's obligation
  there, and the run of the whole program. The block after the last of the long weight array hangs over its end; what a
  buffer holds there is unknown, and the body reads only the sixteen rows that lie inside.
-/
module

public import proofs.«01_k».proof.Proof.PrepRun
public import Idealize.ShloMosaic.Lib.Pipeline.ValueKit.Geometry
public import Idealize.ShloMosaic.Lib.ValueIdx

@[expose] public section

set_option maxRecDepth 16384

noncomputable section

namespace Cert.Prep

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem first_iff (t : Fin cfg0.N) : starts (grid0.coords t) = 1#1 ↔ t.val % 12 = 0 := by
  have ht : t.val < 144 := Nat.lt_of_lt_of_eq t.isLt N_0
  have e1 : (grid0.coords t 1).val = t.val / 1 % 12 := Pipeline.Grid.coords_val t 1 (by decide) rfl
  simp only [starts, e1]
  word_cmp

theorem index0 : ∀ t : Fin cfg0.N, win0_0.index t = ![t.val / 12, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 12] := (by decide +kernel : ∀ t : Fin grid0.N, _)
theorem index3 : ∀ t : Fin cfg0.N, win0_3.index t = ![min t.val 127, 0] := (by decide +kernel : ∀ t : Fin grid0.N, _)
theorem index4 : ∀ t : Fin cfg0.N, win0_4.index t = ![min t.val 127 + 1, 0] := (by decide +kernel : ∀ t : Fin grid0.N, _)
theorem index5 : ∀ t : Fin cfg0.N, win0_5.index t = ![384, 0] := (by decide +kernel : ∀ t : Fin grid0.N, _)
theorem index6 : ∀ t : Fin cfg0.N, win0_6.index t = ![min t.val 127, 0] := (by decide +kernel : ∀ t : Fin grid0.N, _)
theorem index7 : ∀ t : Fin cfg0.N, win0_7.index t = ![min t.val 127, 0] := (by decide +kernel : ∀ t : Fin grid0.N, _)
theorem index8 : ∀ t : Fin cfg0.N, win0_8.index t = ![t.val / 12, t.val % 12] := (by decide +kernel : ∀ t : Fin grid0.N, _)
theorem index9 : ∀ t : Fin cfg0.N, win0_9.index t = ![min t.val 127, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![min t.val 127, 0] := (by decide +kernel : ∀ t : Fin grid0.N, _)
theorem index12 : ∀ t : Fin cfg0.N, win0_12.index t = ![min t.val 127, 0] := (by decide +kernel : ∀ t : Fin grid0.N, _)

/-- The inputs' blocks at a point. -/
abbrev rows (t : Fin cfg0.N) : Vec F S1376x2048 .f32 := iblk m c 0 t
abbrev gain (t : Fin cfg0.N) : Vec F S1x2048 .f32 := iblk m c 1 t
abbrev wide (t : Fin cfg0.N) : Vec F S2048x1024 .bf16 := iblk m c 2 t
abbrev here (t : Fin cfg0.N) : Vec F S64x2048 .f32 := X0_3 m c t
abbrev gates (t : Fin cfg0.N) : Vec F S16x2048 .f32 := iblk m c 5 t
abbrev outer (t : Fin cfg0.N) : Vec F S32x2048 .f32 := iblk m c 6 t
abbrev inner (t : Fin cfg0.N) : Vec F S16x2048 .f32 := iblk m c 7 t

/-- The next block's buffer, over whatever it held before, -/
abbrev nextOver (t : Fin cfg0.N) (d : Vec F S64x2048 .f32) : Vec F S64x2048 .f32 :=
  (cfg0.win 4).fill (cfg0.grid.coords t) d (iblk m c 4 t)
/-- and over a fixed content. -/
def next (t : Fin cfg0.N) : Vec F S64x2048 .f32 := nextOver m c t (dflt0_3 (F := F))

/-- The part of the next block inside the array has sixteen rows at least. -/
theorem inside : ∀ t : Fin cfg0.N, 16 ≤ (cfg0.win 4).xsize (cfg0.grid.coords t) 0 ∧ (cfg0.win 4).xsize (cfg0.grid.coords t) 1 = 2048 := by
  decide +kernel

theorem inside_moved (t : Fin cfg0.N) (j : S64x2048.Idx) (h : (j 0).val < 16) :
    (cfg0.win 4).moved (cfg0.grid.coords t) j = true :=
  ((cfg0.win 4).moved_iff _ j).mpr fun a => by
    match a with
    | ⟨0, _⟩ => exact Nat.lt_of_lt_of_le h (inside t).1
    | ⟨1, _⟩ => exact Nat.lt_of_lt_of_eq (j 1).isLt (inside t).2.symm

/-- The rows the body reads of it do not depend on what the buffer held. -/
theorem head_over (t : Fin cfg0.N) (d : Vec F S64x2048 .f32) : head (nextOver m c t d) = head (next m c t) := by
  funext y
  have hm := inside_moved t ((Rect.unit (s := S64x2048) ![0, 0] S16x2048.size inb_S64x2048_S16x2048_0_0).emb y)
    (by have h : (y 0).val < 16 := (y 0).isLt; rw [ValueKit.rect_emb_unit_val]; show 0 + (y 0).val < 16; omega)
  show nextOver m c t d _ = next m c t _
  unfold next nextOver Pipeline.Window.fill
  rw [dif_pos hm, dif_pos hm]

theorem rows_apply (t : Fin cfg0.N) (y : S1376x2048.Idx) (i : S16512x2048.Idx)
    (h0 : (i 0).val = 1376 * (t.val / 12) + (y 0).val) (h1 : (i 1).val = (y 1).val) :
    rows m c t y = m ((c : Thread nD τ).loc main_arg0) i := by
  show iblk m c 0 t y = _
  blk_simp [iblk]
  rw [V_main_arg0]
  refine congrArg (m ((c : Thread nD τ).loc main_arg0)) (funext fun a => Fin.ext ?_)
  match a with
  | ⟨0, _⟩ => blk_simp [index0]; show t.val / 12 * 1376 + (y 0).val = (i 0).val; omega
  | ⟨1, _⟩ => blk_simp [index0]; exact h1.symm

theorem gain_apply (t : Fin cfg0.N) (y : S1x2048.Idx) : gain m c t y = V m c main_v1 y := by
  show iblk m c 1 t y = _
  blk_simp [iblk]
  refine congrArg (V m c main_v1) (funext fun a => Fin.ext ?_)
  match a with
  | ⟨0, _⟩ => blk_simp [index1]
  | ⟨1, _⟩ => blk_simp [index1]

theorem wide_apply (t : Fin cfg0.N) (y : S2048x1024.Idx) (i : S2048x12288.Idx)
    (h0 : (i 0).val = (y 0).val) (h1 : (i 1).val = 1024 * (t.val % 12) + (y 1).val) :
    wide m c t y = V m c main_v3 i := by
  show iblk m c 2 t y = _
  blk_simp [iblk]
  refine congrArg (V m c main_v3) (funext fun a => Fin.ext ?_)
  match a with
  | ⟨0, _⟩ => blk_simp [index2]; exact h0.symm
  | ⟨1, _⟩ => blk_simp [index2]; show t.val % 12 * 1024 + (y 1).val = (i 1).val; omega

theorem here_apply (t : Fin cfg0.N) (y : S64x2048.Idx) (i : S8208x2048.Idx)
    (h0 : (i 0).val = 64 * min t.val 127 + (y 0).val) (h1 : (i 1).val = (y 1).val) :
    here m c t y = V m c main_v5 i := by
  show X0_3 m c t y = _
  unfold X0_3 Pipeline.Window.fill
  rw [dif_pos (moved0_3 t _)]
  blk_simp [iblk]
  refine congrArg (V m c main_v5) (funext fun a => Fin.ext ?_)
  match a with
  | ⟨0, _⟩ => blk_simp [index3]; show min t.val 127 * 64 + (y 0).val = (i 0).val; omega
  | ⟨1, _⟩ => blk_simp [index3]; exact h1.symm

theorem next_apply (t : Fin cfg0.N) (y : S64x2048.Idx) (h : (y 0).val < 16) (i : S8208x2048.Idx)
    (h0 : (i 0).val = 64 * (min t.val 127 + 1) + (y 0).val) (h1 : (i 1).val = (y 1).val) :
    next m c t y = V m c main_v5 i := by
  unfold next nextOver Pipeline.Window.fill
  rw [dif_pos (inside_moved t y h)]
  blk_simp [iblk]
  refine congrArg (V m c main_v5) (funext fun a => Fin.ext ?_)
  match a with
  | ⟨0, _⟩ => blk_simp [index4]; show (min t.val 127 + 1) * 64 + (y 0).val = (i 0).val; omega
  | ⟨1, _⟩ => blk_simp [index4]; exact h1.symm

theorem gates_apply (t : Fin cfg0.N) (y : S16x2048.Idx) (i : S8208x2048.Idx)
    (h0 : (i 0).val = 6144 + (y 0).val) (h1 : (i 1).val = (y 1).val) :
    gates m c t y = V m c main_v5 i := by
  show iblk m c 5 t y = _
  blk_simp [iblk]
  refine congrArg (V m c main_v5) (funext fun a => Fin.ext ?_)
  match a with
  | ⟨0, _⟩ => blk_simp [index5]; show 384 * 16 + (y 0).val = (i 0).val; omega
  | ⟨1, _⟩ => blk_simp [index5]; exact h1.symm

theorem outer_apply (t : Fin cfg0.N) (y : S32x2048.Idx) (i : S4096x2048.Idx)
    (h0 : (i 0).val = 32 * min t.val 127 + (y 0).val) (h1 : (i 1).val = (y 1).val) :
    outer m c t y = V m c main_v6 i := by
  show iblk m c 6 t y = _
  blk_simp [iblk]
  refine congrArg (V m c main_v6) (funext fun a => Fin.ext ?_)
  match a with
  | ⟨0, _⟩ => blk_simp [index6]; show min t.val 127 * 32 + (y 0).val = (i 0).val; omega
  | ⟨1, _⟩ => blk_simp [index6]; exact h1.symm

theorem inner_apply (t : Fin cfg0.N) (y : S16x2048.Idx) (i : S2048x2048.Idx)
    (h0 : (i 0).val = 16 * min t.val 127 + (y 0).val) (h1 : (i 1).val = (y 1).val) :
    inner m c t y = V m c main_v7 i := by
  show iblk m c 7 t y = _
  blk_simp [iblk]
  refine congrArg (V m c main_v7) (funext fun a => Fin.ext ?_)
  match a with
  | ⟨0, _⟩ => blk_simp [index7]; show min t.val 127 * 16 + (y 0).val = (i 0).val; omega
  | ⟨1, _⟩ => blk_simp [index7]; exact h1.symm

/-- The normalized rows of a point's row block, and what the point writes. -/
def normed (t : Fin cfg0.N) : Vec F S1376x2048 .bf16 := k0_pay3 (rows m c t) (gain m c t)
def wideOut (t : Fin cfg0.N) : Vec F S1376x1024 .bf16 := k0_pay4 (normed m c t) (wide m c t)
def longOut (t : Fin cfg0.N) : Vec F S64x2048 .bf16 := slabOut (grid0.coords t) (here m c t) (next m c t)
def gatesOut (t : Fin cfg0.N) : Vec F S128x2048 .bf16 := shortOut (gates m c t)
def outerOut (t : Fin cfg0.N) : Vec F S32x2048 .bf16 := k0_pay1 (outer m c t)
def innerOut (t : Fin cfg0.N) : Vec F S16x2048 .bf16 := k0_pay2 (inner m c t)

theorem long_over (t : Fin cfg0.N) (d : Vec F S64x2048 .f32) :
    slabOut (grid0.coords t) (here m c t) (nextOver m c t d) = longOut m c t := by
  unfold longOut slabOut; rw [head_over]

theorem normed_congr {t u : Fin cfg0.N} (h : t.val / 12 = u.val / 12) : normed m c t = normed m c u := by
  have e : rows m c t = rows m c u := by
    funext y
    have ht : t.val < 144 := Nat.lt_of_lt_of_eq t.isLt N_0
    have h0 : (y 0).val < 1376 := (y 0).isLt
    rw [rows_apply m c t y (ValueIdx.ix2 ⟨1376 * (t.val / 12) + (y 0).val, by omega⟩ (y 1)) rfl rfl,
      rows_apply m c u y (ValueIdx.ix2 ⟨1376 * (t.val / 12) + (y 0).val, by omega⟩ (y 1)) (by rw [← h]) rfl]
  have e' : gain m c t = gain m c u := by funext y; rw [gain_apply, gain_apply]
  unfold normed; rw [e, e']

/-- The scratch that holds the normalized rows. -/
abbrev kept : Memref sig .tc .vmem S1376x2048 .bf16 := Memref.whole cc0_scratch0

/-- Between points: before the first the scratch holds anything, later what the point before left. -/
def between : (n : ℕ) → n ≤ cfg0.N → sProp 𝕄
  | 0, _ => Pipeline.ΦA spec0 c
  | n + 1, hn => iprop(iprop(owns (c : Thread nD τ) kept fullShare (normed m c ⟨n, hn⟩)) ∗ (∃ r, prngReg c r))

theorem start_eq : (Pipeline.ΦA spec0 c : sProp 𝕄)
    = iprop(iprop((∃ d, owns (c : Thread nD τ) kept fullShare d)) ∗ (∃ r, prngReg c r)) := by
  unfold Pipeline.ΦA; rw [scopedRest0_eq]; simp only [kept, owns_whole]; try rfl

theorem between_pos (n : ℕ) (h : n ≤ cfg0.N) (hz : n ≠ 0) : between m c n h
    = iprop(iprop(owns (c : Thread nD τ) kept fullShare (normed m c ⟨n - 1, by omega⟩)) ∗ (∃ r, prngReg c r)) := by
  cases n with
  | zero => exact absurd rfl hz
  | succ n => rfl

/-- At any point the scratch holds something. -/
theorem between_some (n : ℕ) (h : n ≤ cfg0.N) :
    between m c n h ⊢ iprop(iprop((∃ d, owns (c : Thread nD τ) kept fullShare d)) ∗ (∃ r, prngReg c r)) := by
  cases n with
  | zero => rw [show between m c 0 h = Pipeline.ΦA spec0 c from rfl, start_eq]
  | succ n =>
    rw [between_pos m c _ h (Nat.succ_ne_zero n)]
    iintro ⟨H, Hg⟩
    isplitl [H]
    · iexists _; iexact H
    iexact Hg

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => rows m c t
    | ⟨1, _⟩ => gain m c t
    | ⟨2, _⟩ => wide m c t
    | ⟨3, _⟩ => here m c t
    | ⟨4, _⟩ => next m c t
    | ⟨5, _⟩ => gates m c t
    | ⟨6, _⟩ => outer m c t
    | ⟨7, _⟩ => inner m c t
    | ⟨8, _⟩ => wideOut m c t
    | ⟨9, _⟩ => longOut m c t
    | ⟨10, _⟩ => gatesOut m c t
    | ⟨11, _⟩ => outerOut m c t
    | ⟨12, _⟩ => innerOut m c t
  Φ t := between m c t.val (Nat.le_of_lt_succ t.isLt)
  q w := Pipeline.shareOf spec0 w
  owed _ := 0

theorem A_eq (w : Fin cfg0.W) : (dats m 0 c).A w = V m c (Pipeline.arrRef spec0 w) := by dsimp only [dats]

theorem after0 (t : Fin cfg0.N) : (dats m 0 c).after 0 t = rows m c t := by dsimp only [dats]
theorem after1 (t : Fin cfg0.N) : (dats m 0 c).after 1 t = gain m c t := by dsimp only [dats]
theorem after2 (t : Fin cfg0.N) : (dats m 0 c).after 2 t = wide m c t := by dsimp only [dats]
theorem after3 (t : Fin cfg0.N) : (dats m 0 c).after 3 t = here m c t := by dsimp only [dats]
theorem after4 (t : Fin cfg0.N) : (dats m 0 c).after 4 t = next m c t := by dsimp only [dats]
theorem after5 (t : Fin cfg0.N) : (dats m 0 c).after 5 t = gates m c t := by dsimp only [dats]
theorem after6 (t : Fin cfg0.N) : (dats m 0 c).after 6 t = outer m c t := by dsimp only [dats]
theorem after7 (t : Fin cfg0.N) : (dats m 0 c).after 7 t = inner m c t := by dsimp only [dats]
theorem after8 (t : Fin cfg0.N) : (dats m 0 c).after 8 t = wideOut m c t := by dsimp only [dats]
theorem after9 (t : Fin cfg0.N) : (dats m 0 c).after 9 t = longOut m c t := by dsimp only [dats]
theorem after10 (t : Fin cfg0.N) : (dats m 0 c).after 10 t = gatesOut m c t := by dsimp only [dats]
theorem after11 (t : Fin cfg0.N) : (dats m 0 c).after 11 t = outerOut m c t := by dsimp only [dats]
theorem after12 (t : Fin cfg0.N) : (dats m 0 c).after 12 t = innerOut m c t := by dsimp only [dats]

theorem before0 (t : Fin cfg0.N) (d) : (dats m 0 c).before 0 t d = rows m c t :=
  before0_0_of m (dats m 0 c) (A_eq m c 0) (after0 m c) t d
theorem before1 (t : Fin cfg0.N) (d) : (dats m 0 c).before 1 t d = gain m c t :=
  before0_1_of m (dats m 0 c) (A_eq m c 1) (after1 m c) t d
theorem before2 (t : Fin cfg0.N) (d) : (dats m 0 c).before 2 t d = wide m c t :=
  before0_2_of m (dats m 0 c) (A_eq m c 2) (after2 m c) t d
theorem before3 (t : Fin cfg0.N) (d) : (dats m 0 c).before 3 t d = here m c t :=
  before0_3_of m (dats m 0 c) (A_eq m c 3) (after3 m c) t d
theorem before5 (t : Fin cfg0.N) (d) : (dats m 0 c).before 5 t d = gates m c t :=
  before0_5_of m (dats m 0 c) (A_eq m c 5) (after5 m c) t d
theorem before6 (t : Fin cfg0.N) (d) : (dats m 0 c).before 6 t d = outer m c t :=
  before0_6_of m (dats m 0 c) (A_eq m c 6) (after6 m c) t d
theorem before7 (t : Fin cfg0.N) (d) : (dats m 0 c).before 7 t d = inner m c t :=
  before0_7_of m (dats m 0 c) (A_eq m c 7) (after7 m c) t d

theorem fetched4 (t : Fin cfg0.N) (d) : (dats m 0 c).fetched 4 t d = nextOver m c t d := by
  unfold Dat.fetched Dat.blockOf; rw [A_eq]; rfl

theorem before4 (t : Fin cfg0.N) (d) : (dats m 0 c).before 4 t d = nextOver m c t d :=
  ((dats m 0 c).before_in_eq_fetched 4 rfl (fun _ => rfl)
    (fun t t' h => funext fun a => congrArg (fun n => Pipeline.Clip.of n ((cfg0.win 4).size a) (S8208x2048.size a)) (congrFun h a))
    (fun t => by rw [after4]; unfold next nextOver; rw [Pipeline.Window.cut_fill]; unfold Dat.blockOf iblk; rw [A_eq]) t d).trans
    (fetched4 m c t d)

/-- What the body finds at a point, -/
def found (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it leaves. -/
def left (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)

theorem leaves_exact (w : Fin cfg0.W) (t : Fin cfg0.N) (h : cfg0.loose w = false) (h' : cfg0.idle w (cfg0.grid.coords t) = false) :
    (dats m 0 c).leaves w t = owns (c : Thread nD τ) ((cfg0.win w).stage (cfg0.slots t w)) fullShare ((dats m 0 c).after w t) := by
  unfold Dat.leaves; rw [h, h']

/-- A block of the array that is cut for some point is left as it was. -/
theorem leaves_here (t : Fin cfg0.N) :
    owns (c : Thread nD τ) (st0_3 t) fullShare (here m c t) ⊢ (dats m 0 c).leaves 3 t := by
  show owns (c : Thread nD τ) (st0_3 t) fullShare (here m c t) ⊢ iprop(∃ d, owns (c : Thread nD τ) (st0_3 t) fullShare
    ((cfg0.win 3).fill (cfg0.grid.coords t) d ((cfg0.win 3).cut (cfg0.grid.coords t) ((dats m 0 c).after 3 t))))
  iintro H
  iexists (here m c t)
  rw [after3, Pipeline.Window.fill_cut]
  iexact H

theorem leaves_next (t : Fin cfg0.N) (d : Vec F S64x2048 .f32) :
    owns (c : Thread nD τ) (st0_4 t) fullShare (nextOver m c t d) ⊢ (dats m 0 c).leaves 4 t := by
  show owns (c : Thread nD τ) (st0_4 t) fullShare (nextOver m c t d) ⊢ iprop(∃ d, owns (c : Thread nD τ) (st0_4 t) fullShare
    ((cfg0.win 4).fill (cfg0.grid.coords t) d ((cfg0.win 4).cut (cfg0.grid.coords t) ((dats m 0 c).after 4 t))))
  iintro H
  iexists d
  rw [after4]; unfold next; unfold nextOver; rw [Pipeline.Window.cut_fill]
  iexact H

set_option maxHeartbeats 4000000 in
theorem body_at (t : Fin cfg0.N) :
    found m c t ⊢ wp frame (wpE (defs₀ (F := F)) Variants.none c none) Set.univ (bodyAt0 t) (fun _ => left m c t) := by
  unfold found left bodyAt0
  simp only [before0, before1, before2, before3, before4, before5, before6, before7]
  rw [show (dats m 0 c).owesAt () t.succ = (dats m 0 c).owesAt () t.castSucc from rfl,
    show (dats m 0 c).Φ t.succ = between m c (t.val + 1) t.isLt from rfl, between_pos m c _ _ (Nat.succ_ne_zero _),
    show (dats m 0 c).Φ t.castSucc = between m c t.val (Nat.le_of_lt t.isLt) from rfl,
    leaves_exact m c 0 t rfl rfl,
    leaves_exact m c 1 t rfl rfl,
    leaves_exact m c 2 t rfl rfl,
    leaves_exact m c 5 t rfl rfl,
    leaves_exact m c 6 t rfl rfl,
    leaves_exact m c 7 t rfl rfl,
    leaves_exact m c 8 t rfl rfl,
    leaves_exact m c 9 t rfl rfl,
    leaves_exact m c 10 t rfl rfl,
    leaves_exact m c 11 t rfl rfl,
    leaves_exact m c 12 t rfl rfl,
    after0, after1, after2, after5, after6, after7, after8, after9, after10, after11, after12]
  by_cases h : t.val % 12 = 0
  · refine (sep_mono_l (between_some m c _ _)).trans ?_
    show (iprop(_ ∗ _) : sProp 𝕄) ⊢ _
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_first c (grid0.coords t) _ _ _ _ _ _ _ _ _ _ _ _ _ _ _ _ _ _ _ _ _ _ _ _ _ _ _ (Memref.isWhole_whole _) (rows m c t) (gain m c t) (wide m c t)
      (here m c t) (nextOver m c t d4) (gates m c t) (outer m c t) (inner m c t) ((first_iff t).mpr h) Set.univ _)
    unfold inputs anything written
    rw [long_over]
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12]
    · isplitl [H8]; · iexists _; iexact H8
      isplitl [H9]; · iexists _; iexact H9
      isplitl [H10]; · iexists _; iexact H10
      isplitl [H11]; · iexists _; iexact H11
      iexists _; iexact H12
    isplitl [HS]; · iexact HS
    iintro ⟨⟨H0, H1, H2, H3, H4, H5, H6, H7⟩, H8, H9, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · iapply (leaves_here m c t); iexact H3
    isplitl [H4]
    · iapply (leaves_next m c t d4); iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [between_pos m c _ _ (by omega), show normed m c ⟨t.val - 1, by omega⟩ = normed m c t from
      normed_congr m c (by show (t.val - 1) / 12 = t.val / 12; omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_later c (grid0.coords t) _ _ _ _ _ _ _ _ _ _ _ _ _ _ _ _ _ _ _ _ _ _ _ _ _ _ _ (Memref.isWhole_whole _) (rows m c t) (gain m c t) (wide m c t)
      (here m c t) (nextOver m c t d4) (gates m c t) (outer m c t) (inner m c t) (fun e => h ((first_iff t).mp e)) (normed m c t) Set.univ _)
    unfold inputs anything written
    rw [long_over]
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12]
    · isplitl [H8]; · iexists _; iexact H8
      isplitl [H9]; · iexists _; iexact H9
      isplitl [H10]; · iexists _; iexact H10
      isplitl [H11]; · iexists _; iexact H11
      iexists _; iexact H12
    isplitl [HS]; · iexact HS
    iintro ⟨⟨H0, H1, H2, H3, H4, H5, H6, H7⟩, H8, H9, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · iapply (leaves_here m c t); iexact H3
    isplitl [H4]
    · iapply (leaves_next m c t d4); iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem row_eq (t : Fin cfg0.N) : defs₀ (F := F) .tc cfg0.body (cfg0.bodyArgs t (cfg0.slots t)) = bodyAt0 t := by
  unfold defs₀; rw [Defs.onTc_tc]

theorem obligation : BodyObligationLoose (dats (F := F) m 0 c) (defs₀ (F := F)) Variants.none () Set.univ := fun t => by
  rw [bigSep_W0, bigSep_W0, row_eq]
  exact triple_restated (body_at m c t) rfl .rfl fun _ => .rfl

theorem enter : Pipeline.ΦA spec0 c ⊢ (dats m 0 c).Φ 0 := by
  rw [show (dats m 0 c).Φ 0 = Pipeline.ΦA spec0 c from rfl]

theorem leave : (dats m 0 c).Φ (Fin.last cfg0.N) ⊢ Pipeline.ΦA spec0 c := by
  rw [show (dats m 0 c).Φ (Fin.last cfg0.N) = between m c cfg0.N le_rfl from rfl, start_eq]
  exact between_some m c _ _

set_option backward.isDefEq.respectTransparency.types false in
/-- The program runs; its arrays end as the points leave them, and its semaphores at zero. -/
theorem run : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => obligation m c) (hq := fun _ _ _ => rfl)
    (howed := fun _ _ => rfl) (V := V m) (hmain := hmain m Variants.none) (hA := A_eq m) (hin := enter m) (hout := leave m)

/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Prep
-- ==== Proof.PrepValue.lean ====
/-
  The first layer's norm and projection over the extended reals: the five result arrays as functions of the arguments, the
  same for the kernel and for the reference.
-/
module

public import proofs.«01_k».proof.Proof.PrepFrame
public import proofs.«01_k».proof.Proof.RowNorm
public import proofs.«01_k».proof.Proof.Gen.Reference4Ideal.Run
public import proofs.«01_k».proof.Defs
public import Idealize.ShloMosaic.Lib.Pipeline.Value

@[expose] public section

set_option maxRecDepth 16384

noncomputable section

namespace Cert.Prep

open Cert.Kernel4Ideal Cert.Kernel4Ideal.Gen
open Idealize.ShloMosaic Idealize.ShloMosaic.TcCoe Idealize.ShloMosaic.ValueIdx Idealize.SL.Sem Cert.RowNorm Finset

/-- The arguments: the residual stream, the gain, and the four weight arrays, each with its layer axis. -/
structure Args where
  x : S16512x2048.Idx → EReal
  g : S1x2048.Idx → EReal
  w : S1x2048x12288.Idx → EReal
  b : S1x2048x8208.Idx → EReal
  p : S1x4096x2048.Idx → EReal
  q : S1x2048x2048.Idx → EReal

namespace Args
variable (a : Args)

/-- A row of the residual stream, the gains of its columns, and the weights as matrices. -/
def row (r : Fin 16512) (k : Fin 2048) : EReal := a.x (ix2 r k)
def gains (k : Fin 2048) : EReal := shapeCast S2048 a.g (by decide) (ix1 k)
def wide : S2048x12288.Idx → EReal := shapeCast S2048x12288 a.w (by decide)
def mixed : S2048x8208.Idx → EReal := shapeCast S2048x8208 a.b (by decide)

/-- The five results: the projection, the two parts of the next layer's weights that are long, transposed, with the
    sixteen columns between them left out; those sixteen columns, transposed, over zeros; and two arrays only cast. -/
def projected (i : S16512x12288.Idx) : EReal := project (a.row (i 0)) a.gains fun k => a.wide (ix2 k (i 1))
def long (i : S8192x2048.Idx) : EReal :=
  if h : (i 0).val < 6144 then a.mixed (ix2 (i 1) ⟨(i 0).val, by omega⟩)
  else a.mixed (ix2 (i 1) ⟨(i 0).val + 16, by have : (i 0).val < 8192 := (i 0).isLt; omega⟩)
def short (i : S128x2048.Idx) : EReal := if h : (i 0).val < 16 then a.mixed (ix2 (i 1) ⟨6144 + (i 0).val, by omega⟩) else 0
def outer : S4096x2048.Idx → EReal := shapeCast S4096x2048 a.p (by decide)
def inner : S2048x2048.Idx → EReal := shapeCast S2048x2048 a.q (by decide)

end Args

section
variable (m : (ℓ : Loc nD τ sig) → Buf (Elt Ideal) ℓ) (c : Dev nD)

/-- The kernel's arguments. -/
def kernelArgs : Args where
  x := m ((c : Thread nD τ).loc main_arg0)
  g := m ((c : Thread nD τ).loc main_arg1)
  w := m ((c : Thread nD τ).loc main_arg2)
  b := m ((c : Thread nD τ).loc main_arg3)
  p := m ((c : Thread nD τ).loc main_arg4)
  q := m ((c : Thread nD τ).loc main_arg5)

theorem gain_entry (k : Fin 2048) : V m c main_v1 (ix2 0 k) = (kernelArgs m c).gains k := by
  refine broadcastInDim_apply (s := S2048) (t := S1x2048) ![1] bcast_S2048_S1x2048_1 (shapeCast S2048 (kernelArgs m c).g (by decide))
    (ix2 0 k) (ix1 k) fun a => by match a with | ⟨0, _⟩ => exact Cert.Mlstm.kept k

theorem wide_entry : V m c main_v3 = (kernelArgs m c).wide := rfl
theorem outer_entry : V m c main_v6 = (kernelArgs m c).outer := rfl
theorem inner_entry : V m c main_v7 = (kernelArgs m c).inner := rfl

theorem mixed_entry (i : S8208x2048.Idx) : V m c main_v5 i = (kernelArgs m c).mixed (ix2 (i 1) (i 0)) := by
  show transpose S8208x2048 [1, 0] (kernelArgs m c).mixed transposes_S2048x8208_S8208x2048_1_0 i = _
  refine congrArg (kernelArgs m c).mixed (funext fun a => Fin.ext ?_)
  match a with
  | ⟨0, _⟩ => rfl
  | ⟨1, _⟩ => rfl

variable (t : Fin cfg0.N)

/-- The normalized rows of a point's row block, at an index. -/
theorem normed_entry (r : Fin 1376) (k : Fin 2048) (i : Fin 16512) (hi : i.val = 1376 * (t.val / 12) + r.val) :
    normed m c t (ix2 r k) = Cert.RowNorm.normed ((kernelArgs m c).row i) (kernelArgs m c).gains k := by
  unfold normed k0_pay3
  rw [shapeCast_self]
  refine (kernel_normed (rows m c t) (gain m c t) _ _ _ _ _ _ _ r k).trans ?_
  have e1 : (fun k => rows m c t (ix2 r k)) = (kernelArgs m c).row i :=
    funext fun k => rows_apply m c t (ix2 r k) (ix2 i k) hi rfl
  have e2 : (fun k => gain m c t (ix2 0 k)) = (kernelArgs m c).gains :=
    funext fun k => (gain_apply m c t (ix2 0 k)).trans (gain_entry m c k)
  rw [e1, e2]

theorem wideOut_entry (r : Fin 1376) (j : Fin 1024) (i : S16512x12288.Idx) (hi : (i 0).val = 1376 * (t.val / 12) + r.val)
    (hj : (i 1).val = 1024 * (t.val % 12) + j.val) : wideOut m c t (ix2 r j) = (kernelArgs m c).projected i := by
  show wideOut m c t (ix2 r j) = ∑ k : Fin 2048, Cert.RowNorm.normed ((kernelArgs m c).row (i 0)) (kernelArgs m c).gains k * (kernelArgs m c).wide (ix2 k (i 1))
  unfold wideOut k0_pay4
  rw [shapeCast_self]
  refine (Ideal.matmul_plain_apply (φ₁ := .bf16) (φ₂ := .bf16) none (normed m c t) (wide m c t) _ r j).trans ?_
  rw [constant_apply, Ideal.ofBits_zero_f32, zero_add]
  refine sum_congr rfl fun k _ => congrArg₂ (· * ·) (normed_entry m c t r k (i 0) hi) ?_
  rw [wide_apply m c t (ix2 k j) (ix2 k (i 1)) rfl hj, wide_entry]

/-- The word that tells the blocks past the gap from those before it. -/
def pastGap (i : grid0.Coords) : BitVec 1 :=
  Scalar.cmpi .sge (Scalar.minsi (Scalar.addi (Scalar.muli (BitVec.ofNat 32 (i 0).val) 12#32) (BitVec.ofNat 32 (i 1).val)) 127#32) 96#32

theorem pastGap_eq : ∀ t : Fin cfg0.N, pastGap (grid0.coords t) = if 96 ≤ min t.val 127 then 1#1 else 0#1 :=
  (by decide +kernel : ∀ t : Fin grid0.N, _)

theorem longOut_early (h : ¬96 ≤ min t.val 127) : longOut m c t = here m c t := by
  have e := pastGap_eq t
  rw [if_neg h] at e
  unfold longOut slabOut k0_pay5
  rw [shapeCast_self, shapeCast_self, shapeCast_self]
  exact congrArg (fun z => Scalar.select z _ (here m c t)) e

theorem longOut_late (h : 96 ≤ min t.val 127) : longOut m c t
    = concatenate S64x2048 0 [⟨S48x2048, tail (here m c t)⟩, ⟨S16x2048, head (next m c t)⟩] concatenates_S48x2048_S16x2048_S64x2048_d0 := by
  have e := pastGap_eq t
  rw [if_pos h] at e
  unfold longOut slabOut k0_pay5
  rw [shapeCast_self, shapeCast_self, shapeCast_self]
  exact congrArg (fun z => Scalar.select z (concatenate S64x2048 0 [⟨S48x2048, tail (here m c t)⟩, ⟨S16x2048, head (next m c t)⟩] concatenates_S48x2048_S16x2048_S64x2048_d0) (here m c t)) e

theorem here_entry (y : S64x2048.Idx) : here m c t y
    = (kernelArgs m c).mixed (ix2 (y 1) ⟨64 * min t.val 127 + (y 0).val, by have : (y 0).val < 64 := (y 0).isLt; omega⟩) := by
  have h : (y 0).val < 64 := (y 0).isLt
  rw [here_apply m c t y (ix2 ⟨64 * min t.val 127 + (y 0).val, by omega⟩ (y 1)) rfl rfl, mixed_entry]

theorem next_entry (y : S64x2048.Idx) (h : (y 0).val < 16) : next m c t y
    = (kernelArgs m c).mixed (ix2 (y 1) ⟨64 * (min t.val 127 + 1) + (y 0).val, by omega⟩) := by
  rw [next_apply m c t y h (ix2 ⟨64 * (min t.val 127 + 1) + (y 0).val, by omega⟩ (y 1)) rfl rfl, mixed_entry]

theorem longOut_entry (r : Fin 64) (j : Fin 2048) (i : S8192x2048.Idx) (hi : (i 0).val = 64 * min t.val 127 + r.val)
    (hj : (i 1).val = j.val) : longOut m c t (ix2 r j) = (kernelArgs m c).long i := by
  have hj' : i 1 = j := Fin.ext hj
  unfold Args.long
  by_cases h : 96 ≤ min t.val 127
  · rw [longOut_late m c t h, dif_neg (by omega)]
    by_cases hr : r.val < 48
    · refine (concatenate_pair_apply_left (t := S64x2048) (s₁ := S48x2048) (s₂ := S16x2048) (0 : Fin 2) _ _ _ _ rfl (ix2 ⟨r.val, hr⟩ j)
        fun a => by match a with | ⟨0, _⟩ => rfl | ⟨1, _⟩ => rfl).trans ?_
      refine (here_entry m c t _).trans (congrArg (kernelArgs m c).mixed (funext fun a => Fin.ext ?_))
      match a with
      | ⟨0, _⟩ => rw [hj']; show ((Rect.unit (s := S64x2048) ![16, 0] S48x2048.size inb_S64x2048_S48x2048_16_0).emb (ix2 ⟨r.val, hr⟩ j) 1).val = j.val
                  rw [ValueKit.rect_emb_unit_val]; exact Nat.zero_add _
      | ⟨1, _⟩ => show 64 * min t.val 127 + ((Rect.unit (s := S64x2048) ![16, 0] S48x2048.size inb_S64x2048_S48x2048_16_0).emb (ix2 ⟨r.val, hr⟩ j) 0).val = (i 0).val + 16
                  rw [ValueKit.rect_emb_unit_val]; show 64 * min t.val 127 + (16 + r.val) = _; omega
    · refine (concatenate_pair_apply_right (t := S64x2048) (s₁ := S48x2048) (s₂ := S16x2048) (0 : Fin 2) _ _ _ _ rfl rfl (ix2 ⟨r.val - 48, by omega⟩ j)
        (fun a ha => by match a, ha with | ⟨0, _⟩, ha => exact absurd rfl ha | ⟨1, _⟩, _ => rfl) (by show r.val - 48 + 48 = r.val; omega)).trans ?_
      refine (next_entry m c t _ ?_).trans (congrArg (kernelArgs m c).mixed (funext fun a => Fin.ext ?_))
      · rw [ValueKit.rect_emb_unit_val]; show 0 + (r.val - 48) < 16; omega
      match a with
      | ⟨0, _⟩ => rw [hj']; show ((Rect.unit (s := S64x2048) ![0, 0] S16x2048.size inb_S64x2048_S16x2048_0_0).emb (ix2 ⟨r.val - 48, by omega⟩ j) 1).val = j.val
                  rw [ValueKit.rect_emb_unit_val]; exact Nat.zero_add _
      | ⟨1, _⟩ => show 64 * (min t.val 127 + 1) + ((Rect.unit (s := S64x2048) ![0, 0] S16x2048.size inb_S64x2048_S16x2048_0_0).emb (ix2 ⟨r.val - 48, by omega⟩ j) 0).val = (i 0).val + 16
                  rw [ValueKit.rect_emb_unit_val]; show 64 * (min t.val 127 + 1) + (0 + (r.val - 48)) = _; omega
  · rw [longOut_early m c t h, dif_pos (by omega), here_entry]
    refine congrArg (kernelArgs m c).mixed (funext fun a => Fin.ext ?_)
    match a with
    | ⟨0, _⟩ => exact hj.symm
    | ⟨1, _⟩ => exact hi.symm

theorem gatesOut_entry (y i : S128x2048.Idx) (hi : (i 0).val = (y 0).val) (hj : (i 1).val = (y 1).val) :
    gatesOut m c t y = (kernelArgs m c).short i := by
  obtain rfl : i = y := funext fun a => Fin.ext (by match a with | ⟨0, _⟩ => exact hi | ⟨1, _⟩ => exact hj)
  unfold gatesOut shortOut Args.short
  by_cases h : (i 0).val < 16
  · rw [dif_pos h, dif_pos h]
    unfold k0_pay6
    rw [shapeCast_self]
    refine (gates_apply m c t (ix2 ⟨(i 0).val, h⟩ (i 1)) (ix2 ⟨6144 + (i 0).val, by omega⟩ (i 1)) rfl rfl).trans ?_
    rw [mixed_entry]
  · rw [dif_neg h, dif_neg h]
    exact Ideal.ofBits_zero_bf16

theorem outerOut_entry (r : Fin 32) (j : Fin 2048) (i : S4096x2048.Idx) (hi : (i 0).val = 32 * min t.val 127 + r.val)
    (hj : (i 1).val = j.val) : outerOut m c t (ix2 r j) = (kernelArgs m c).outer i := by
  unfold outerOut k0_pay1
  rw [shapeCast_self]
  exact (outer_apply m c t (ix2 r j) i hi hj).trans (congrFun (outer_entry m c) i)

theorem innerOut_entry (r : Fin 16) (j : Fin 2048) (i : S2048x2048.Idx) (hi : (i 0).val = 16 * min t.val 127 + r.val)
    (hj : (i 1).val = j.val) : innerOut m c t (ix2 r j) = (kernelArgs m c).inner i := by
  unfold innerOut k0_pay2
  rw [shapeCast_self]
  exact (inner_apply m c t (ix2 r j) i hi hj).trans (congrFun (inner_entry m c) i)

/-- The kernel's result arrays. -/
theorem array_projected : (dats m 0 c).arrAt 8 cfg0.N = (kernelArgs m c).projected := by
  refine (dats m 0 c).arrAt_eq_of_covers 8 _ (by decide +kernel) fun t hf y => ?_
  blk_simp
  rw [after8]
  refine (congrArg (wideOut m c t) (eq_ix2 y)).trans (wideOut_entry m c t (y 0) (y 1) _ ?_ ?_)
  · blk_simp [index8]; exact congrArg (· + (y 0).val) (Nat.mul_comm _ _)
  · blk_simp [index8]; exact congrArg (· + (y 1).val) (Nat.mul_comm _ _)

theorem array_long : (dats m 0 c).arrAt 9 cfg0.N = (kernelArgs m c).long := by
  refine (dats m 0 c).arrAt_eq_of_covers 9 _ (by decide +kernel) fun t hf y => ?_
  blk_simp
  rw [after9]
  refine (congrArg (longOut m c t) (eq_ix2 y)).trans (longOut_entry m c t (y 0) (y 1) _ ?_ ?_)
  · blk_simp [index9]; exact congrArg (· + (y 0).val) (Nat.mul_comm _ _)
  · blk_simp [index9]

theorem array_short : (dats m 0 c).arrAt 10 cfg0.N = (kernelArgs m c).short := by
  refine (dats m 0 c).arrAt_eq_of_covers 10 _ (by decide +kernel) fun t hf y => ?_
  blk_simp
  rw [after10]
  refine gatesOut_entry m c t y _ ?_ ?_
  · blk_simp [index10]
  · blk_simp [index10]

theorem array_outer : (dats m 0 c).arrAt 11 cfg0.N = (kernelArgs m c).outer := by
  refine (dats m 0 c).arrAt_eq_of_covers 11 _ (by decide +kernel) fun t hf y => ?_
  blk_simp
  rw [after11]
  refine (congrArg (outerOut m c t) (eq_ix2 y)).trans (outerOut_entry m c t (y 0) (y 1) _ ?_ ?_)
  · blk_simp [index11]; exact congrArg (· + (y 0).val) (Nat.mul_comm _ _)
  · blk_simp [index11]

theorem array_inner : (dats m 0 c).arrAt 12 cfg0.N = (kernelArgs m c).inner := by
  refine (dats m 0 c).arrAt_eq_of_covers 12 _ (by decide +kernel) fun t hf y => ?_
  blk_simp
  rw [after12]
  refine (congrArg (innerOut m c t) (eq_ix2 y)).trans (innerOut_entry m c t (y 0) (y 1) _ ?_ ?_)
  · blk_simp [index12]; exact congrArg (· + (y 0).val) (Nat.mul_comm _ _)
  · blk_simp [index12]

end

/-! ## The reference -/

open Cert.Mlstm in
/-- A transposed matrix at an index. -/
theorem transposed {K N : ℕ} (z : FVec Ideal (Mat K N) .f32) (ht : (Mat K N).Transposes [1, 0] (Mat N K)) (i : (Mat N K).Idx) :
    transpose (Mat N K) [1, 0] z ht i = z (ix2 (i 1) (i 0)) := by
  refine congrArg z (funext fun a => Fin.ext ?_)
  match a with
  | ⟨0, _⟩ => rfl
  | ⟨1, _⟩ => rfl

open Cert.Mlstm in
/-- The reference's long array: two runs of columns joined, and transposed. -/
theorem host_long (a : Args) (z : FVec Ideal (Mat 2048 8208) .f32) (hz : z = a.mixed)
    (h1 : (Mat 2048 8208).Slices ![0, 0] (Mat 2048 6144)) (h2 : (Mat 2048 8208).Slices ![0, 6160] (Mat 2048 2048))
    (hc : Shape.Concatenates [Mat 2048 6144, Mat 2048 2048] (Mat 2048 8192) 1) (ht : (Mat 2048 8192).Transposes [1, 0] (Mat 8192 2048)) :
    transpose (Mat 8192 2048) [1, 0] (concatenate (Mat 2048 8192) 1 [⟨Mat 2048 6144, extractStridedSlice (Mat 2048 6144) ![0, 0] z h1⟩,
      ⟨Mat 2048 2048, extractStridedSlice (Mat 2048 2048) ![0, 6160] z h2⟩] hc) ht = a.long := by
  subst hz
  funext i
  have hi : (i 0).val < 8192 := (i 0).isLt
  refine (transposed _ ht i).trans ?_
  unfold Args.long
  by_cases h : (i 0).val < 6144
  · rw [dif_pos h]
    refine (concatenate_pair_apply_left (t := Mat 2048 8192) (s₁ := Mat 2048 6144) (s₂ := Mat 2048 2048) (1 : Fin 2) _ _ _ _ rfl (ix2 (i 1) ⟨(i 0).val, h⟩)
      fun a => by match a with | ⟨0, _⟩ => rfl | ⟨1, _⟩ => rfl).trans ?_
    refine congrArg a.mixed (funext fun a => Fin.ext ?_)
    match a with
    | ⟨0, _⟩ => exact Nat.zero_add _
    | ⟨1, _⟩ => exact Nat.zero_add _
  · rw [dif_neg h]
    refine (concatenate_pair_apply_right (t := Mat 2048 8192) (s₁ := Mat 2048 6144) (s₂ := Mat 2048 2048) (1 : Fin 2) _ _ _ _ rfl rfl
      (ix2 (i 1) ⟨(i 0).val - 6144, by omega⟩)
      (fun a ha => by match a, ha with | ⟨0, _⟩, _ => rfl | ⟨1, _⟩, ha => exact absurd rfl ha) (by show (i 0).val - 6144 + 6144 = (i 0).val; omega)).trans ?_
    refine congrArg a.mixed (funext fun a => Fin.ext ?_)
    match a with
    | ⟨0, _⟩ => exact Nat.zero_add _
    | ⟨1, _⟩ => show 6160 + ((i 0).val - 6144) = (i 0).val + 16; omega

open Cert.Mlstm in
/-- The reference's short array: a run of sixteen columns transposed, and zeros below. -/
theorem host_short (a : Args) (z : FVec Ideal (Mat 2048 8208) .f32) (hz : z = a.mixed)
    (h1 : (Mat 2048 8208).Slices ![0, 6144] (Mat 2048 16)) (ht : (Mat 2048 16).Transposes [1, 0] (Mat 16 2048))
    (hb : Sc.BroadcastsInDim (Mat 112 2048) ![]) (hc : Shape.Concatenates [Mat 16 2048, Mat 112 2048] (Mat 128 2048) 0) :
    concatenate (Mat 128 2048) 0 [⟨Mat 16 2048, transpose (Mat 16 2048) [1, 0] (extractStridedSlice (Mat 2048 16) ![0, 6144] z h1) ht⟩,
      ⟨Mat 112 2048, broadcastInDim (Mat 112 2048) ![] hb (constant (F := Ideal) Sc .f32 0x00000000#32)⟩] hc = a.short := by
  subst hz
  funext i
  have hi : (i 0).val < 128 := (i 0).isLt
  unfold Args.short
  by_cases h : (i 0).val < 16
  · rw [dif_pos h]
    refine (concatenate_pair_apply_left (t := Mat 128 2048) (s₁ := Mat 16 2048) (s₂ := Mat 112 2048) (0 : Fin 2) _ _ _ _ rfl (ix2 ⟨(i 0).val, h⟩ (i 1))
      fun a => by match a with | ⟨0, _⟩ => rfl | ⟨1, _⟩ => rfl).trans ?_
    refine congrArg a.mixed (funext fun a => Fin.ext ?_)
    match a with
    | ⟨0, _⟩ => exact Nat.zero_add _
    | ⟨1, _⟩ => rfl
  · rw [dif_neg h]
    refine (concatenate_pair_apply_right (t := Mat 128 2048) (s₁ := Mat 16 2048) (s₂ := Mat 112 2048) (0 : Fin 2) _ _ _ _ rfl rfl
      (ix2 ⟨(i 0).val - 16, by omega⟩ (i 1))
      (fun a ha => by match a, ha with | ⟨0, _⟩, ha => exact absurd rfl ha | ⟨1, _⟩, _ => rfl) (by show (i 0).val - 16 + 16 = (i 0).val; omega)).trans ?_
    exact Ideal.ofBits_zero_f32

/-- The kernel and the reference end with the same five arrays. -/
theorem same : Cert.algebraic_Kernel4Ideal_Reference4Ideal := by
  intro m g m' g' _ hm
  refine ⟨fun c => (kernelArgs m c).projected, fun c => (kernelArgs m c).long, fun c => (kernelArgs m c).short,
    fun c => (kernelArgs m c).outer, fun c => (kernelArgs m c).inner, ?_, ?_⟩
  · refine (θ_run (Cert.Kernel4Ideal.defs (F := Ideal)) _ _).mono (fun r h c => ?_) (θ_run_and (run m g) (frame m g))
    exact ⟨((h.1.1 c).1 8).trans (array_projected m c), ((h.1.1 c).1 9).trans (array_long m c), ((h.1.1 c).1 10).trans (array_short m c),
      ((h.1.1 c).1 11).trans (array_outer m c), ((h.1.1 c).1 12).trans (array_inner m c), h.2.1 c⟩
  · refine (θ_run (Cert.Reference4Ideal.defs (F := Ideal)) _ _).mono (fun r h c => ?_) (Cert.Reference4Ideal.Value.run m' g')
    obtain ⟨h0, h1, h2, h3, h4, h5⟩ := hm c
    obtain ⟨e1, e2, e3, e4, e5, e6⟩ := h c
    refine ⟨e1.trans (funext fun i => ?_), e2.trans ?_, e3.trans ?_, e4.trans ?_, e5.trans ?_, e6⟩
    · rw [h0, h1, h2]
      refine (congrArg _ (eq_ix2 i)).trans ((StackMember.dotGeneral_plain_apply none _ _ (i 0) (i 1)).trans (sum_congr rfl fun k _ =>
        congrArg (· * (kernelArgs m c).wide (ix2 k (i 1)))
          (host_normed (R := 16512) (K := 2048) (kernelArgs m c).x _ _ (by decide) _ _ _ _ _ _ (i 0) k)))
    · rw [h3]
      exact host_long (kernelArgs m c) _ rfl _ _ Cert.Reference4Ideal.Gen.concatenates_S2048x6144_S2048x2048_S2048x8192_d1 _
    · rw [h3]
      exact host_short (kernelArgs m c) _ rfl _ _ _ Cert.Reference4Ideal.Gen.concatenates_S16x2048_S112x2048_S128x2048_d0
    · rw [h4]; rfl
    · rw [h5]; rfl

end Cert.Prep

end
-- ==== Proof.PrepSame.lean ====
/-
  The first layer's norm and projection in the original program and in its idealization: the two texts are the same, so the
  frame proved of one is the other's.
-/
module

public import proofs.«01_k».proof.Proof.PrepFrame
public import proofs.«01_k».proof.Proof.Gen.Kernel4.Frame

@[expose] public section

noncomputable section

namespace Cert.PrepSame

open Idealize.ShloMosaic Idealize.ShloMosaic.TcCoe Idealize.SL.Sem

variable {F : FTy → Type} [FloatOps F]

/-- The host's operations around the call. -/
theorem main : Cert.Kernel4.main (F := F) = Cert.Kernel4Ideal.main (F := F) := rfl

/-- The call's body, the one function the text defines. -/
theorem defs0 : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | ⟨0, _⟩, (t, s) => rfl

/-- The call with its pipeline. -/
theorem defs : Cert.Kernel4.defs (F := F) = Cert.Kernel4Ideal.defs (F := F) := by
  unfold Cert.Kernel4.defs Cert.Kernel4Ideal.defs
  exact congrArg (Pipeline.defs _) defs0

/-- The arguments of the original program end as they began, and so do its semaphores. -/
theorem frame (m : (ℓ : Loc Cert.Kernel4.nD Cert.Kernel4.τ Cert.Kernel4.sig) → Buf (Elt F) ℓ) (ρ : Dev Cert.Kernel4.nD → PrngReg) :
    θ_run (Cert.Kernel4.defs (F := F)) (onTc (τ := Cert.Kernel4.τ) (Cert.Kernel4.main (F := F))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0) := by
  rw [defs]
  exact Cert.Prep.frame m ρ

end Cert.PrepSame

end
-- ==== Proof.GateRun.lean ====
/-
  The body of the gated projection at one grid point: each head's gated values, kept in a buffer of its own, and the sum of
  the eight heads' products with their rows of the weights, added to the residual block.
-/
module

public import proofs.«01_k».proof.Proof.FoxRun
public import proofs.«01_k».proof.Proof.Gen.Kernel5Ideal.Value

@[expose] public section

set_option maxRecDepth 16384

noncomputable section

namespace Cert.Gate

open Idealize.ShloMosaic Cert.Kernel5Ideal Cert.Kernel5Ideal.Gen

theorem inH (j : Fin 8) : ∀ a, (![0, 512 * j.val] : Fin 2 → ℕ) a + S192x512.size a ≤ S192x4096.size a := by
  revert j; decide
theorem inG (j : Fin 8) : ∀ a, (![0, 512 * j.val] : Fin 2 → ℕ) a + S1x512.size a ≤ S1x4096.size a := by
  revert j; decide
theorem inW (j : Fin 8) : ∀ a, (![512 * j.val, 0] : Fin 2 → ℕ) a + S512x2048.size a ≤ S4096x2048.size a := by
  revert j; decide

section
variable {F : FTy → Type} [FloatOps F] [Named F]

/-- A load of a part of a whole buffer. -/
theorem load_part {sg : RefSig} {sp : Space} {s : Shape} {e : EltTy} {a : Memref sg .tc sp s e} (h : a.IsWhole) (x : Vec F s e)
    {off size : Fin s.rank → ℕ} (inb : ∀ k, off k + size k ≤ s.size k) :
    a.view.readAt (Elt F) (Rect.unit off size inb).toLoadRect (h.unread x) = VecWindow.window x off size inb :=
  (View.readAt_unit a.view _ inb rfl inb).trans (congrArg (VecWindow.window · off size inb) (h.read_unread x))

/-- One head's gated values, from its columns of the recurrence's output, the output gate, the SiLU branch, the convolved
    branch, the norm's gain and the skip's gain. -/
def gated (h o z x : Vec F S192x512 .bf16) (n s : Vec F S1x512 .f32) : FVec F S192x512 .bf16 :=
  k0_pay8 (k0_pay5 h o n s x) (k0_pay6 z) (k0_pay7 z) (Scalar.ofBits .f32 0x3F800000#32)

/-- The sum of the eight heads' products with their rows of the weights. -/
def total (y : Fin 8 → FVec F S192x512 .bf16) (w : Fin 8 → Vec F S512x2048 .bf16) : FVec F S192x2048 .f32 :=
  let p (j : Fin 8) : FVec F S192x2048 .f32 :=
    matmul dot_S192x512_S512x2048_S192x2048_1_0_0_1_n_n none (y j) (w j) (constant S192x2048 .f32 0x00000000#32)
  addf (addf (addf (addf (addf (addf (addf (p 0) (p 1)) (p 2)) (p 3)) (p 4)) (p 5)) (p 6)) (p 7)

end

/-- What one grid point runs on: its memrefs and its input blocks. -/
structure Point (F : FTy → Type) where
  c : Dev nD
  i : grid0.Coords
  aH : Memref sig .tc .vmem S192x4096 .bf16
  hH : aH.IsWhole
  aO : Memref sig .tc .vmem S192x4096 .bf16
  hO : aO.IsWhole
  aZ : Memref sig .tc .vmem S192x4096 .bf16
  hZ : aZ.IsWhole
  aX : Memref sig .tc .vmem S192x4096 .bf16
  hX : aX.IsWhole
  aN : Memref sig .tc .vmem S1x4096 .f32
  hN : aN.IsWhole
  aS : Memref sig .tc .vmem S1x4096 .f32
  hS : aS.IsWhole
  aW : Memref sig .tc .vmem S4096x2048 .bf16
  hW : aW.IsWhole
  aR : Memref sig .tc .vmem S192x2048 .f32
  hR : aR.IsWhole
  aQ : Memref sig .tc .vmem S192x2048 .f32
  hQ : aQ.IsWhole
  aY : Fin 8 → Memref sig .tc .vmem S192x512 .bf16
  hY : ∀ j, (aY j).IsWhole
  first : cond0_0 i
  only : ¬cond0_1 i
  h : Vec F S192x4096 .bf16
  o : Vec F S192x4096 .bf16
  z : Vec F S192x4096 .bf16
  x : Vec F S192x4096 .bf16
  n : Vec F S1x4096 .f32
  s : Vec F S1x4096 .f32
  w : Vec F S4096x2048 .bf16
  r : Vec F S192x2048 .f32

namespace Point
variable {F : FTy → Type} [FloatOps F] [Named F] (a : Point F)

/-- Head `j`'s gated values, from what the body loads. -/
def head (j : Fin 8) : FVec F S192x512 .bf16 :=
  gated (a.aH.view.readAt (Elt F) (Rect.unit (s := S192x4096) ![0, 512 * j.val] S192x512.size (inH j)).toLoadRect (a.hH.unread a.h))
    (a.aO.view.readAt (Elt F) (Rect.unit (s := S192x4096) ![0, 512 * j.val] S192x512.size (inH j)).toLoadRect (a.hO.unread a.o))
    (a.aZ.view.readAt (Elt F) (Rect.unit (s := S192x4096) ![0, 512 * j.val] S192x512.size (inH j)).toLoadRect (a.hZ.unread a.z))
    (a.aX.view.readAt (Elt F) (Rect.unit (s := S192x4096) ![0, 512 * j.val] S192x512.size (inH j)).toLoadRect (a.hX.unread a.x))
    (a.aN.view.readAt (Elt F) (Rect.unit (s := S1x4096) ![0, 512 * j.val] S1x512.size (inG j)).toLoadRect (a.hN.unread a.n))
    (a.aS.view.readAt (Elt F) (Rect.unit (s := S1x4096) ![0, 512 * j.val] S1x512.size (inG j)).toLoadRect (a.hS.unread a.s))

/-- … read back from the head's buffer. -/
def kept (j : Fin 8) : FVec F S192x512 .bf16 :=
  (a.aY j).view.readCov (Val := Elt F) [⟨Rect.unit (s := S192x512) ![0, 0] S192x512.size inb_S192x512_S192x512_0_0, a.head j⟩]
    (Rect.unit (s := S192x512) ![0, 0] S192x512.size inb_S192x512_S192x512_0_0).toLoadRect

/-- Head `j`'s rows of the weights, as loaded. -/
def rows (j : Fin 8) : Vec F S512x2048 .bf16 :=
  a.aW.view.readAt (Elt F) (Rect.unit (s := S4096x2048) ![512 * j.val, 0] S512x2048.size (inW j)).toLoadRect (a.hW.unread a.w)

/-- What the body stores. -/
def stored : FVec F S192x2048 .f32 :=
  addf (a.aR.view.readAt (Elt F) (Rect.unit (s := S192x2048) ![0, 0] S192x2048.size inb_S192x2048_S192x2048_0_0).toLoadRect
    (a.hR.unread a.r)) (total a.kept a.rows)

set_option maxHeartbeats 3200000 in
/-- The run's one write to its output block. -/
theorem pieces : (kernelRun0_A a.c a.i a.aH a.hH a.aO a.hO a.aZ a.hZ a.aX a.hX a.aN a.hN a.aS a.hS a.aW a.hW a.aR a.hR a.aQ a.hQ
      (a.aY 0) (a.hY 0) (a.aY 1) (a.hY 1) (a.aY 2) (a.hY 2) (a.aY 3) (a.hY 3) (a.aY 4) (a.hY 4) (a.aY 5) (a.hY 5)
      (a.aY 6) (a.hY 6) (a.aY 7) (a.hY 7) a.first a.only a.h a.o a.z a.x a.n a.s a.w a.r).1
    = [⟨Rect.unit (s := S192x2048) ![0, 0] S192x2048.size inb_S192x2048_S192x2048_0_0, a.stored⟩] :=
  rfl

/-- What the body stores, from the input blocks' windows. -/
theorem stored_eq : a.stored = addf a.r (total
    (fun j => gated (VecWindow.window a.h ![0, 512 * j.val] S192x512.size (inH j)) (VecWindow.window a.o ![0, 512 * j.val] S192x512.size (inH j))
      (VecWindow.window a.z ![0, 512 * j.val] S192x512.size (inH j)) (VecWindow.window a.x ![0, 512 * j.val] S192x512.size (inH j))
      (VecWindow.window a.n ![0, 512 * j.val] S1x512.size (inG j)) (VecWindow.window a.s ![0, 512 * j.val] S1x512.size (inG j)))
    (fun j => VecWindow.window a.w ![512 * j.val, 0] S512x2048.size (inW j))) := by
  unfold stored
  refine congrArg₂ addf (Cert.Fox.load_unread a.hR a.r _) (congrArg₂ total (funext fun j => ?_)
    (funext fun j => (load_part a.hW a.w (inW j) :)))
  unfold kept
  rw [View.readCov_full]
  unfold head
  rw [load_part, load_part, load_part, load_part, load_part,
    load_part]

end Point

end Cert.Gate

end
-- ==== Proof.GateValue.lean ====
/-
  The gated projection over the extended reals: the result array as a function of the arguments, the same for the kernel and
  for the reference. Each head's values are the recurrence's output under the output gate, scaled by one over their root mean
  square, with the skip branch added and the SiLU branch multiplied in.
-/
module

public import proofs.«01_k».proof.Proof.GateRun
public import proofs.«01_k».proof.Proof.RowNorm
public import proofs.«01_k».proof.Proof.Inputs
public import proofs.«01_k».proof.Proof.Gen.Reference5Ideal.Run
public import proofs.«01_k».proof.Defs
public import Idealize.ShloMosaic.Lib.Pipeline.ValueKit.Geometry

@[expose] public section

set_option maxRecDepth 16384

noncomputable section

namespace Cert.Gate

open Idealize.ShloMosaic Idealize.ShloMosaic.TcCoe Idealize.ShloMosaic.ValueIdx Idealize.SL.Sem Finset
open Cert.Mlstm

/-- A logistic function written with a power of two. -/
theorem sigmoid_eq (x : EReal) :
    Ideal.div 1 (1 + Ideal.exp2 (x * ((-((Real.log 2)⁻¹) : ℝ) : EReal))) = Ideal.logistic x := by
  have hl : 0 < Real.log 2 := Real.log_pos one_lt_two
  have hc : (-((Real.log 2)⁻¹) : ℝ) < 0 := neg_lt_zero.mpr (inv_pos.mpr hl)
  refine congrArg (fun e => Ideal.div 1 (1 + e)) ?_
  show _ = Ideal.exp (-x)
  induction x with
  | bot => rw [EReal.bot_mul_coe_of_neg hc, EReal.neg_bot]; rfl
  | top => rw [EReal.top_mul_coe_of_neg hc, EReal.neg_top]; rfl
  | coe r =>
    rw [← EReal.coe_mul, ← EReal.coe_neg]
    show ((Real.rpow 2 (r * -(Real.log 2)⁻¹) : ℝ) : EReal) = ((Real.exp (-r) : ℝ) : EReal)
    refine congrArg _ ((Real.rpow_def_of_pos two_pos _).trans (congrArg Real.exp ?_))
    field_simp

/-- The number one half, as a bit pattern. -/
theorem half_eq : Ideal.ofBits .f32 0x3F000000#32 = (((1 : ℝ) / 2 : ℝ) : EReal) := by
  simp [Ideal.ofBits, Ideal.ieee, -EReal.coe_mul]; norm_num

/-- A SiLU written with a hyperbolic tangent. -/
theorem silu_eq (z : EReal) :
    Ideal.ofBits .f32 0x3F000000#32 * z * (Ideal.ofBits .f32 0x3F800000#32 + Ideal.tanh (Ideal.ofBits .f32 0x3F000000#32 * z))
      = z * Ideal.logistic z := by
  rw [half_eq, Ideal.ofBits_one_f32]
  have hp : (0 : ℝ) < 1 / 2 := by norm_num
  induction z with
  | bot =>
    rw [EReal.coe_mul_bot_of_pos hp, Ideal.logistic_bot]
    show ⊥ * (1 + (-1 : EReal)) = ⊥ * 0
    rw [show (1 : EReal) = ((1 : ℝ) : EReal) from rfl, ← EReal.coe_neg, ← EReal.coe_add, add_neg_cancel]
    rfl
  | top =>
    rw [EReal.coe_mul_top_of_pos hp, Ideal.logistic_top]
    show ⊤ * (1 + (1 : EReal)) = ⊤ * 1
    rw [mul_one]
    exact EReal.top_mul_of_pos (by norm_num)
  | coe r =>
    rw [Ideal.logistic_coe, ← EReal.coe_mul]
    show ((1 / 2 * r : ℝ) : EReal) * (((1 : ℝ) : EReal) + ((Real.tanh (1 / 2 * r) : ℝ) : EReal)) = _
    rw [← EReal.coe_add, ← EReal.coe_mul, ← EReal.coe_mul]
    refine congrArg _ ?_
    have e : Real.exp (-r) = Real.exp (-(1 / 2 * r)) * Real.exp (-(1 / 2 * r)) := by rw [← Real.exp_add]; ring_nf
    have e' : Real.exp (1 / 2 * r) * Real.exp (-(1 / 2 * r)) = 1 := by rw [← Real.exp_add, add_neg_cancel, Real.exp_zero]
    have p := Real.exp_pos (1 / 2 * r)
    have q := Real.exp_pos (-(1 / 2 * r))
    rw [Real.tanh_eq_sinh_div_cosh, Real.sinh_eq, Real.cosh_eq, e]
    generalize Real.exp (1 / 2 * r) = u at *
    generalize Real.exp (-(1 / 2 * r)) = v at *
    have hv : v ≠ 0 := q.ne'
    have hu : u = v⁻¹ := eq_inv_of_mul_eq_one_left e'
    subst hu
    field_simp
    ring

/-- A host's logistic function. -/
theorem host_gate {s : Shape} (x : FVec Ideal s .f32) (h : Sc.BroadcastsInDim s ![]) (i : s.Idx) :
    Host.divf (broadcastInDim s ![] h (constant (F := Ideal) Sc .f32 0x3F800000#32))
      (addf (broadcastInDim s ![] h (constant (F := Ideal) Sc .f32 0x3F800000#32)) (Host.exp (Host.negf x))) i = Ideal.logistic (x i) := by
  show Ideal.div (Ideal.ofBits .f32 0x3F800000#32) (Ideal.ofBits .f32 0x3F800000#32 + Ideal.exp (-(x i))) = _
  rw [Ideal.ofBits_one_f32]; rfl

/-- One over the root mean square of 512 numbers. -/
def scale {K : ℕ} (x : Fin K → EReal) : EReal :=
  Ideal.rsqrt (Ideal.div (∑ k, x k * x k) (Ideal.ofBits .f32 0x44000000#32) + Ideal.ofBits .f32 0x358637BD#32)

theorem scaled_congr {K : ℕ} {f g : Fin K → EReal} {a b : EReal} (k : Fin K) (ha : a = f k) (hb : b = g k) (h : ∀ k, f k = g k) :
    a * scale f = b * scale g := by
  rw [ha, hb, show f = g from funext h]

/-- A head's gated value at a column, from the head's columns of the inputs. -/
def entry {K : ℕ} (h o z x n s : Fin K → EReal) (k : Fin K) : EReal :=
  (h k * Ideal.logistic (o k) * (scale fun k => h k * Ideal.logistic (o k)) * n k + s k * x k) * (z k * Ideal.logistic (z k))

/-- Column `k` of head `j`, and where the projection holds the output gate's and the SiLU branch's columns. -/
def col (j : Fin 8) (k : Fin 512) : Fin 4096 := ⟨512 * j.val + k.val, by omega⟩
def gateCol (k : Fin 4096) : Fin 12288 := ⟨4096 + k.val, by omega⟩
def siluCol (k : Fin 4096) : Fin 12288 := ⟨8192 + k.val, by omega⟩

/-- A sum over all columns, head by head. -/
theorem by_head (f : Fin 4096 → EReal) : ∑ c, f c = ∑ j : Fin 8, ∑ k : Fin 512, f (col j k) := by
  rw [← Fintype.sum_prod_type' fun j k => f (col j k)]
  exact (Fintype.sum_equiv (finProdFinEquiv : Fin 8 × Fin 512 ≃ Fin (8 * 512)) _ f fun x =>
    congrArg f (Fin.ext (Nat.add_comm _ _))).symm

/-- The arguments: the recurrence's output, the projection, the convolved branch, the norm's gain, the skip's gain, the
    weights and the residual stream. -/
structure Args where
  h : (Mat 16512 4096).Idx → EReal
  p : (Mat 16512 12288).Idx → EReal
  x : (Mat 16512 4096).Idx → EReal
  n : (Mat 1 4096).Idx → EReal
  s : (Mat 1 4096).Idx → EReal
  w : (Mat 4096 2048).Idx → EReal
  r : (Mat 16512 2048).Idx → EReal

namespace Args
variable (a : Args)

/-- A token's gated value at a column of a head. -/
def val (r : Fin 16512) (j : Fin 8) (k : Fin 512) : EReal :=
  entry (fun k => a.h (ix2 r (col j k))) (fun k => a.p (ix2 r (gateCol (col j k)))) (fun k => a.p (ix2 r (siluCol (col j k))))
    (fun k => a.x (ix2 r (col j k))) (fun k => a.n (ix2 0 (col j k))) (fun k => a.s (ix2 0 (col j k))) k

/-- The result: the residual stream and the gated values' product with the weights. -/
def at' (r : Fin 16512) (c : Fin 2048) : EReal :=
  a.r (ix2 r c) + ∑ j : Fin 8, ∑ k : Fin 512, a.val r j k * a.w (ix2 (col j k) c)
def out (i : (Mat 16512 2048).Idx) : EReal := a.at' (i 0) (i 1)

theorem out_eq (i : (Mat 16512 2048).Idx) (r : Fin 16512) (c : Fin 2048) (h0 : (i 0).val = r.val) (h1 : (i 1).val = c.val) :
    a.out i = a.at' r c := by
  unfold out
  rw [show i 0 = r from Fin.ext h0, show i 1 = c from Fin.ext h1]

end Args

section Host
variable {A R K : ℕ}

/-- The scaled rows of a stack of matrices, as a host computes them. -/
theorem host_scaled (x : FVec Ideal (Cube A R K) .f32) (ht : (Cube A R K).ReducesTo [2] (Mat A R))
    (hr : (Cube A R K).Reduces [2] (Mat A R)) (hu : 0 < Sc.numel) (hc : (Mat A R).BroadcastsInDim (Cube A R 1) ![0, 1])
    (hs : Sc.BroadcastsInDim (Cube A R 1) ![]) (hb : (Cube A R 1).BroadcastsInDim (Cube A R K) ![0, 1, 2])
    (a : Fin A) (r : Fin R) (k : Fin K) :
    mulf x (broadcastInDim (Cube A R K) ![0, 1, 2] hb (Host.rsqrt (addf (Host.divf (broadcastInDim (Cube A R 1) ![0, 1] hc
          (Host.reduceAdd (mulf x x) (constant (F := Ideal) Sc .f32 0x00000000#32) ht hu))
        (broadcastInDim (Cube A R 1) ![] hs (constant (F := Ideal) Sc .f32 0x44000000#32)))
      (broadcastInDim (Cube A R 1) ![] hs (constant (F := Ideal) Sc .f32 0x358637BD#32))))) (ix3 a r k)
      = x (ix3 a r k) * scale fun k => x (ix3 a r k) := by
  rw [mulf_apply,
    broadcastInDim_apply _ hb _ (ix3 a r k) (ix3 a r 0) (fun c => by
      match c with | ⟨0, _⟩ => exact kept a | ⟨1, _⟩ => exact kept r | ⟨2, _⟩ => rfl)]
  unfold scale
  refine congrArg (x (ix3 a r k) * ·) ?_
  show Ideal.rsqrt (Ideal.div (broadcastInDim (Cube A R 1) ![0, 1] hc
    (Host.reduceAdd (mulf x x) (constant (F := Ideal) Sc .f32 0x00000000#32) ht hu) (ix3 a r 0)) _ + _) = _
  refine congrArg Ideal.rsqrt (congrArg (Ideal.div · _ + _) ?_)
  rw [broadcastInDim_apply _ hc _ (ix3 a r 0) (ix2 a r) (fun c => by match c with | ⟨0, _⟩ => exact kept a | ⟨1, _⟩ => exact kept r),
    hostReduceAdd_apply, Ideal.hostReduceAdd_single ht hr]
  refine (congrArg₂ (· + ·) Ideal.ofBits_zero_f32 (sum_congr rfl fun j _ => ?_)).trans (zero_add _)
  have e : hr.lift (ix2 a r) j = ix3 a r j := funext fun c => Fin.ext (by match c with | ⟨0, _⟩ => rfl | ⟨1, _⟩ => rfl | ⟨2, _⟩ => rfl)
  rw [e]; rfl

/-- Where a column of a head lies among all columns. -/
theorem flat (r : Fin 16512) (j : Fin 8) (k : Fin 512) :
    ((Cube 16512 8 512).rowMajor (ix3 r j k)).val = ((Mat 16512 4096).rowMajor (ix2 r (col j k))).val := by
  simp only [Shape.rowMajor_val_three, Shape.rowMajor_val_two]
  show (r.val * 8 + j.val) * 512 + k.val = r.val * 4096 + (512 * j.val + k.val)
  omega

/-- A gain spread along all rows, as a host computes it. -/
theorem host_gain (n : (Mat 1 4096).Idx → EReal) (hs : (Mat 1 4096).ShapeCasts (Row 4096))
    (h1 : (Row 4096).BroadcastsInDim (Mat 1 4096) ![1]) (h2 : (Mat 1 4096).BroadcastsInDim (Mat 16512 4096) ![0, 1])
    (r : Fin 16512) (k : Fin 4096) :
    broadcastInDim (Mat 16512 4096) ![0, 1] h2 (broadcastInDim (Mat 1 4096) ![1] h1 (shapeCast (Row 4096) n hs)) (ix2 r k) = n (ix2 0 k) :=
  (Cert.RowNorm.host_spreadRow _ h1 h2 r k).trans (shapeCast_1a_a_apply n hs k)

end Host

section Body
open Cert.Kernel5Ideal Cert.Kernel5Ideal.Gen

/-- The scaled rows of a matrix, as the body computes them. -/
theorem kernel_scaled {R K : ℕ} (x : FVec Ideal (Mat R K) .f32) (g : FVec Ideal (Mat 1 K) .f32) (hr : (Mat R K).Reduces [1] (Row R)) (hφ hacc)
    (hc : (Row R).ShapeCasts (Mat R 1)) (hb : (Mat R 1).Broadcasts (Mat R K)) (hg : (Mat 1 K).ShapeCasts (Mat 1 K))
    (hw : (Mat 1 K).Broadcasts (Mat R K)) (r : Fin R) (k : Fin K) :
    mulf (mulf x (broadcastTo (Mat R K) (rsqrt (addf (divf (shapeCast (Mat R 1)
          (multiReduction .add [1] (Row R) (mulf x x) 0x00000000#32 hr hφ hacc) hc)
        (broadcast (Mat R 1) (Scalar.ofBits (F := Ideal) .f32 0x44000000#32)))
      (broadcast (Mat R 1) (Scalar.ofBits (F := Ideal) .f32 0x358637BD#32)))) hb))
      (broadcastTo (Mat R K) (shapeCast (Mat 1 K) g hg) hw) (ix2 r k) = x (ix2 r k) * (scale fun k => x (ix2 r k)) * g (ix2 0 k) := by
  rw [mulf_apply, mulf_apply, ChunkIn.spreadCol, ChunkIn.spreadRow, shapeCast_self]
  refine congrArg (x (ix2 r k) * · * g (ix2 0 k)) ?_
  show Ideal.rsqrt (Ideal.div (shapeCast (Mat R 1) (multiReduction .add [1] (Row R) (mulf x x) 0x00000000#32 hr hφ hacc) hc (ix2 r 0)) _ + _) = _
  rw [shapeCast_a_a1_apply, ChunkIn.sumRow]; rfl

/-- The output gate, as the body computes it. -/
theorem kernel_gate (o : FVec Ideal S192x512 .bf16) (i : S192x512.Idx) :
    divf (broadcast S192x512 (Scalar.ofBits (F := Ideal) .f32 0x3F800000#32))
      (addf (broadcast S192x512 (Scalar.ofBits (F := Ideal) .f32 0x3F800000#32))
        (exp2 (mulf (extf .f32 o bitsLt_bf16_f32) (broadcast S192x512 (Named.named κ "neg_log2e" 0xBFB8AA3B#32 : Ideal .f32))))) i
      = Ideal.logistic (o i) := by
  show Ideal.div (Ideal.ofBits .f32 0x3F800000#32) (Ideal.ofBits .f32 0x3F800000#32
    + Ideal.exp2 (o i * (Named.named κ "neg_log2e" 0xBFB8AA3B#32 : Ideal .f32))) = _
  rw [IdealRules.named_const.ideal_named_scalar _ _ _ _ rfl, Ideal.ofBits_one_f32]
  exact sigmoid_eq (o i)

theorem normed_apply (h o x : FVec Ideal S192x512 .bf16) (n s : FVec Ideal S1x512 .f32) (r : Fin 192) (k : Fin 512) :
    k0_pay5 (F := Ideal) h o n s x (ix2 r k) = h (ix2 r k) * Ideal.logistic (o (ix2 r k))
      * (scale fun k => h (ix2 r k) * Ideal.logistic (o (ix2 r k))) * n (ix2 0 k) + s (ix2 0 k) * x (ix2 r k) := by
  unfold k0_pay5
  refine congrArg₂ (· + ·) ((kernel_scaled _ n _ _ _ _ _ _ _ r k).trans ?_) (congrArg (· * x (ix2 r k)) ?_)
  · refine congrArg (· * n (ix2 0 k)) (scaled_congr k rfl rfl fun k => ?_)
    exact congrArg (h (ix2 r k) * ·) (kernel_gate o (ix2 r k))
  · rw [ChunkIn.spreadRow, shapeCast_self]

theorem gated_apply (h o z x : FVec Ideal S192x512 .bf16) (n s : FVec Ideal S1x512 .f32) (r : Fin 192) (k : Fin 512) :
    gated (F := Ideal) h o z x n s (ix2 r k) = entry (fun k => h (ix2 r k)) (fun k => o (ix2 r k)) (fun k => z (ix2 r k)) (fun k => x (ix2 r k))
      (fun k => n (ix2 0 k)) (fun k => s (ix2 0 k)) k := by
  unfold gated k0_pay8
  rw [shapeCast_self]
  exact congrArg₂ (· * ·) (normed_apply h o x n s r k) (silu_eq (z (ix2 r k)))

theorem total_apply (y : Fin 8 → FVec Ideal S192x512 .bf16) (w : Fin 8 → Vec Ideal S512x2048 .bf16) (r : Fin 192) (c : Fin 2048) :
    total (F := Ideal) y w (ix2 r c) = ∑ j : Fin 8, ∑ k : Fin 512, y j (ix2 r k) * w j (ix2 k c) := by
  have p (j : Fin 8) : matmul (F := Ideal) (φ₁ := .bf16) (φ₂ := .bf16) dot_S192x512_S512x2048_S192x2048_1_0_0_1_n_n none (y j) (w j)
      (constant S192x2048 .f32 0x00000000#32) (ix2 r c) = ∑ k : Fin 512, y j (ix2 r k) * w j (ix2 k c) := by
    refine (Ideal.matmul_plain_apply none (y j) (w j) _ r c).trans ?_
    rw [constant_apply, Ideal.ofBits_zero_f32, zero_add]
  rw [Fin.sum_univ_eight, ← p, ← p, ← p, ← p, ← p, ← p, ← p, ← p]
  rfl

theorem window_col {R : ℕ} {e : EltTy} (x : Vec Ideal (Mat R 4096) e) (j : Fin 8)
    (inb : ∀ a, (![0, 512 * j.val] : Fin 2 → ℕ) a + (Mat R 512).size a ≤ (Mat R 4096).size a) (r : Fin R) (k : Fin 512) :
    VecWindow.window x ![0, 512 * j.val] (Mat R 512).size inb (ix2 r k) = x (ix2 r (col j k)) := by
  refine congrArg x (funext fun a => Fin.ext ?_)
  match a with
  | ⟨0, _⟩ => exact (ValueKit.rect_emb_unit_val _ _ _ _ _).trans (Nat.zero_add _)
  | ⟨1, _⟩ => exact ValueKit.rect_emb_unit_val _ _ _ _ _

theorem window_row {e : EltTy} (x : Vec Ideal (Mat 4096 2048) e) (j : Fin 8)
    (inb : ∀ a, (![512 * j.val, 0] : Fin 2 → ℕ) a + (Mat 512 2048).size a ≤ (Mat 4096 2048).size a) (k : Fin 512) (c : Fin 2048) :
    VecWindow.window x ![512 * j.val, 0] (Mat 512 2048).size inb (ix2 k c) = x (ix2 (col j k) c) := by
  refine congrArg x (funext fun a => Fin.ext ?_)
  match a with
  | ⟨0, _⟩ => exact ValueKit.rect_emb_unit_val _ _ _ _ _
  | ⟨1, _⟩ => exact (ValueKit.rect_emb_unit_val _ _ _ _ _).trans (Nat.zero_add _)

end Body

section Kernel
open Cert.Kernel5Ideal Cert.Kernel5Ideal.Gen
variable (m : (ℓ : Loc nD τ sig) → Buf (Elt Ideal) ℓ) (c : Dev nD) (t : Fin cfg0.N)

/-- The kernel's arguments. -/
def kernelArgs : Args where
  h := m ((c : Thread nD τ).loc main_arg0)
  p := m ((c : Thread nD τ).loc main_arg1)
  x := m ((c : Thread nD τ).loc main_arg2)
  n := m ((c : Thread nD τ).loc main_arg3)
  s := m ((c : Thread nD τ).loc main_arg4)
  w := m ((c : Thread nD τ).loc main_arg5)
  r := m ((c : Thread nD τ).loc main_arg6)

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![t.val, 2] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

/-- The token of a row of a point's block. -/
def token (r : Fin 192) : Fin 16512 := ⟨192 * t.val + r.val, by have : t.val < 86 := t.isLt; omega⟩

theorem heads_apply (r : Fin 192) (k : Fin 4096) : iblk m c 0 t (ix2 r k) = (kernelArgs m c).h (ix2 (token t r) k) := by
  blk_simp [iblk]
  rw [V_main_arg0]
  refine congrArg (m ((c : Thread nD τ).loc main_arg0)) (funext fun a => Fin.ext ?_)
  match a with
  | ⟨0, _⟩ => blk_simp [index0]; exact congrArg (· + r.val) (Nat.mul_comm _ _)
  | ⟨1, _⟩ => blk_simp [index0]

theorem gate_apply (r : Fin 192) (k : Fin 4096) : iblk m c 1 t (ix2 r k) = (kernelArgs m c).p (ix2 (token t r) (gateCol k)) := by
  blk_simp [iblk]
  rw [V_main_arg1]
  refine congrArg (m ((c : Thread nD τ).loc main_arg1)) (funext fun a => Fin.ext ?_)
  match a with
  | ⟨0, _⟩ => blk_simp [index1]; exact congrArg (· + r.val) (Nat.mul_comm _ _)
  | ⟨1, _⟩ => blk_simp [index1]; rfl

theorem silu_apply (r : Fin 192) (k : Fin 4096) : iblk m c 2 t (ix2 r k) = (kernelArgs m c).p (ix2 (token t r) (siluCol k)) := by
  blk_simp [iblk]
  rw [V_main_arg1]
  refine congrArg (m ((c : Thread nD τ).loc main_arg1)) (funext fun a => Fin.ext ?_)
  match a with
  | ⟨0, _⟩ => blk_simp [index2]; exact congrArg (· + r.val) (Nat.mul_comm _ _)
  | ⟨1, _⟩ => blk_simp [index2]; rfl

theorem conv_apply (r : Fin 192) (k : Fin 4096) : iblk m c 3 t (ix2 r k) = (kernelArgs m c).x (ix2 (token t r) k) := by
  blk_simp [iblk]
  rw [V_main_arg2]
  refine congrArg (m ((c : Thread nD τ).loc main_arg2)) (funext fun a => Fin.ext ?_)
  match a with
  | ⟨0, _⟩ => blk_simp [index3]; exact congrArg (· + r.val) (Nat.mul_comm _ _)
  | ⟨1, _⟩ => blk_simp [index3]

/-- A gain, made one row again after its layer axis is dropped. -/
theorem gain_row (n : (Mat 1 4096).Idx → EReal) (k : Fin 4096) :
    broadcastInDim S1x4096 ![1] bcast_S4096_S1x4096_1 (shapeCast S4096 n shapeCasts_S1x4096_S4096) (ix2 0 k) = n (ix2 0 k) :=
  (broadcastInDim_apply (s := S4096) (t := S1x4096) ![1] bcast_S4096_S1x4096_1 _ (ix2 0 k) (ix1 k)
    fun a => by match a with | ⟨0, _⟩ => exact kept k).trans (shapeCast_1a_a_apply n _ k)

theorem gain_apply (k : Fin 4096) : iblk m c 4 t (ix2 0 k) = (kernelArgs m c).n (ix2 0 k) := by
  blk_simp [iblk]
  refine (congrArg (V m c main_v1) (funext fun a => Fin.ext ?_)).trans (gain_row (kernelArgs m c).n k)
  match a with
  | ⟨0, _⟩ => blk_simp [index4]
  | ⟨1, _⟩ => blk_simp [index4]

theorem skip_apply (k : Fin 4096) : iblk m c 5 t (ix2 0 k) = (kernelArgs m c).s (ix2 0 k) := by
  blk_simp [iblk]
  refine (congrArg (V m c main_v3) (funext fun a => Fin.ext ?_)).trans (gain_row (kernelArgs m c).s k)
  match a with
  | ⟨0, _⟩ => blk_simp [index5]
  | ⟨1, _⟩ => blk_simp [index5]

theorem weights_eq : iblk m c 6 t = (kernelArgs m c).w := by
  funext y
  blk_simp [iblk]
  rw [V_main_arg5]
  refine congrArg (m ((c : Thread nD τ).loc main_arg5)) (funext fun a => Fin.ext ?_)
  match a with
  | ⟨0, _⟩ => blk_simp [index6]
  | ⟨1, _⟩ => blk_simp [index6]

theorem stream_apply (r : Fin 192) (k : Fin 2048) : iblk m c 7 t (ix2 r k) = (kernelArgs m c).r (ix2 (token t r) k) := by
  blk_simp [iblk]
  rw [V_main_arg6]
  refine congrArg (m ((c : Thread nD τ).loc main_arg6)) (funext fun a => Fin.ext ?_)
  match a with
  | ⟨0, _⟩ => blk_simp [index7]; exact congrArg (· + r.val) (Nat.mul_comm _ _)
  | ⟨1, _⟩ => blk_simp [index7]

/-- What a grid point runs on. -/
def point : Point Ideal where
  c := c
  i := grid0.coords t
  aH := ms0_0 t
  hH := hs0_0 t
  aO := ms0_1 t
  hO := hs0_1 t
  aZ := ms0_2 t
  hZ := hs0_2 t
  aX := ms0_3 t
  hX := hs0_3 t
  aN := ms0_4 t
  hN := hs0_4 t
  aS := ms0_5 t
  hS := hs0_5 t
  aW := ms0_6 t
  hW := hs0_6 t
  aR := ms0_7 t
  hR := hs0_7 t
  aQ := ms0_8 t
  hQ := hs0_8 t
  aY := ![scM0_0, scM0_1, scM0_2, scM0_3, scM0_4, scM0_5, scM0_6, scM0_7]
  hY := fun j => by fin_cases j <;> exact Memref.isWhole_whole _
  first := hcond0_0 t
  only := hcond0_1 t
  h := iblk m c 0 t
  o := iblk m c 1 t
  z := iblk m c 2 t
  x := iblk m c 3 t
  n := iblk m c 4 t
  s := iblk m c 5 t
  w := iblk m c 6 t
  r := iblk m c 7 t

theorem outs_eq : outsAt0 m c t = (point m c t).stored := by
  unfold outsAt0 out0_A_8
  exact (congrArg (fun l => VO0_8.read (Elt Ideal) (VO0_8.writes (Elt Ideal) VO0_8.junk l)) (point m c t).pieces).trans
    (View.read_writes_full VO0_8 _ _ _ [])

theorem outs_entry (r : Fin 192) (k : Fin 2048) : outsAt0 m c t (ix2 r k) = (kernelArgs m c).at' (token t r) k := by
  rw [outs_eq, Point.stored_eq]
  refine congrArg₂ (· + ·) (stream_apply m c t r k) ((total_apply _ _ r k).trans
    (sum_congr rfl fun j _ => sum_congr rfl fun l _ => congrArg₂ (· * ·) ((gated_apply _ _ _ _ _ _ r l).trans ?_) ?_))
  · unfold Args.val
    congr 1 <;> funext l
    · exact (window_col _ j (inH j) r l).trans (heads_apply m c t r (col j l))
    · exact (window_col _ j (inH j) r l).trans (gate_apply m c t r (col j l))
    · exact (window_col _ j (inH j) r l).trans (silu_apply m c t r (col j l))
    · exact (window_col _ j (inH j) r l).trans (conv_apply m c t r (col j l))
    · exact (window_col _ j (inG j) 0 l).trans (gain_apply m c t (col j l))
    · exact (window_col _ j (inG j) 0 l).trans (skip_apply m c t (col j l))
  · exact (window_row _ j (inW j) l k).trans (congrFun (weights_eq m c t) _)

/-- The kernel's result array. -/
theorem array : (dats m 0 c).arrAt 8 cfg0.N = (kernelArgs m c).out := by
  refine (dats m 0 c).arrAt_eq_of_covers 8 _ (by decide +kernel) fun t hf y => ?_
  blk_simp
  rw [after0_8]
  have e : y = ix2 (y 0) (y 1) := funext fun a => by match a with | ⟨0, _⟩ => rfl | ⟨1, _⟩ => rfl
  refine (congrArg (outsAt0 m c t) e).trans ((outs_entry m c t (y 0) (y 1)).trans
    (Args.out_eq _ _ (token t (y 0)) (y 1) ?_ ?_).symm)
  · blk_simp [index8]; exact congrArg (· + (y 0).val) (Nat.mul_comm _ _)
  · blk_simp [index8]

end Kernel

/-- The kernel and the reference end with the same array. -/
theorem same : Cert.algebraic_Kernel5Ideal_Reference5Ideal := by
  intro m g m' g' _ hm
  refine ⟨fun c => (kernelArgs m c).out, ?_, ?_⟩
  · refine (θ_run (Cert.Kernel5Ideal.defs (F := Ideal)) _ _).mono (fun r h c => ?_) (Cert.Kernel5Ideal.Value.run_blocks m g)
    exact ⟨(h c).1.trans (array m c), (h c).2⟩
  · refine (θ_run (Cert.Reference5Ideal.defs (F := Ideal)) _ _).mono (fun r h c => ?_) (Cert.Reference5Ideal.Value.run m' g')
    obtain ⟨h0, h1, h2, h3, h4, h5, h6⟩ := hm c
    refine ⟨(h c).1.trans (funext fun i => ?_), (h c).2⟩
    rw [h0, h1, h2, h3, h4, h5, h6]
    obtain ⟨r, n, rfl⟩ : ∃ (r : Fin 16512) (n : Fin 2048), i = ix2 r n :=
      ⟨i 0, i 1, funext fun a => by match a with | ⟨0, _⟩ => rfl | ⟨1, _⟩ => rfl⟩
    refine congrArg ((kernelArgs m c).r (ix2 r n) + ·) ((StackMember.dotGeneral_plain_apply none _ _ r n).trans
      ((by_head _).trans (sum_congr rfl fun j _ => sum_congr rfl fun k _ => congrArg (· * (kernelArgs m c).w (ix2 (col j k) n)) ?_)))
    have slice (off : ℕ) (hs) (k : Fin 4096) (k' : Fin 12288) (hk : k'.val = off + k.val) :
        extractStridedSlice (Mat 16512 4096) ![0, off] (kernelArgs m c).p hs (ix2 r k) = (kernelArgs m c).p (ix2 r k') :=
      extractStridedSlice_apply _ _ _ (ix2 r k) (ix2 r k') fun a => by
        match a with
        | ⟨0, _⟩ => exact (Nat.zero_add _).symm
        | ⟨1, _⟩ => exact hk
    refine congrArg₂ (· * ·) (congrArg₂ (· + ·) (congrArg₂ (· * ·) ?_ (host_gain (kernelArgs m c).n _ _ _ r (col j k)))
      (congrArg (· * (kernelArgs m c).x (ix2 r (col j k))) (host_gain (kernelArgs m c).s _ _ _ r (col j k)))) ?_
    · refine (shapeCast_apply _ _ _ (ix3 r j k) (flat r j k)).trans ((host_scaled _ _ (by decide) _ _ _ _ r j k).trans ?_)
      refine scaled_congr k rfl rfl fun k => ?_
      refine congrArg₂ (· * ·) (shapeCast_apply _ _ _ (ix2 r (col j k)) (flat r j k).symm)
        ((shapeCast_apply _ _ _ (ix2 r (col j k)) (flat r j k).symm).trans ((host_gate _ _ _).trans (congrArg Ideal.logistic ?_)))
      exact slice 4096 _ (col j k) (gateCol (col j k)) rfl
    · have e := slice 8192 Cert.Reference5Ideal.Gen.slices_S16512x12288_S16512x4096_0_8192 (col j k) (siluCol (col j k)) rfl
      exact congrArg₂ (· * ·) e ((host_gate _ _ _).trans (congrArg Ideal.logistic e))

end Cert.Gate

end
-- ==== Proof.lean ====
/-
  The certificate: each kernel and its reference run, leave their arguments and semaphores alone, and end with the same
  results, the recurrence on real arguments and the other four on all. Each result is read as one function of the
  arguments, so the two are equal.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite
public import proofs.«01_k».proof.Proof.KernelArray
public import proofs.«01_k».proof.Proof.RefEnd
public import proofs.«01_k».proof.Proof.Finite
public import proofs.«01_k».proof.Proof.FinalValue
public import proofs.«01_k».proof.Proof.FoxValue
public import proofs.«01_k».proof.Proof.FoxSame
public import proofs.«01_k».proof.Proof.PrepValue
public import proofs.«01_k».proof.Proof.PrepSame
public import proofs.«01_k».proof.Proof.GateValue
public import Idealize.ShloMosaic.Adequacy
public import Idealize.ShloMosaic.Init

@[expose] public section

noncomputable section

namespace Cert.Proof

open Idealize.ShloMosaic Idealize.SL.Sem

/-- The reference runs and leaves its arguments and semaphores alone. -/
theorem refFrame : Cert.quiescent_ReferenceIdeal := fun m g _ =>
  (θ_run (Cert.ReferenceIdeal.defs (F := Ideal)) _ _).mono (fun _ h => ⟨fun c => (h.1 c).2, h.2⟩) (Cert.Mlstm.ref_run m g)

/-- On finite arguments the kernel and the reference end with the recurrence's outputs. -/
theorem sameOuts : Cert.algebraic_KernelIdeal_ReferenceIdeal_pre_finite := by
  intro m g m' g' hpre hm
  have hk : ∀ c, (Cert.Mlstm.kernelArgs m c).Real := fun c => Cert.Mlstm.real_of_finite (Cert.Mlstm.kernelArgs m c) (hpre c)
  have hr : ∀ c, Cert.Mlstm.refArgs (Idealize.ShloMosaic.StableHlo.launchContents m' c) = Cert.Mlstm.kernelArgs m c := by
    intro c
    obtain ⟨h0, h1, h2, h3⟩ := hm c
    unfold Cert.Mlstm.refArgs Cert.Mlstm.kernelArgs
    congr 1
  refine ⟨fun c => (Cert.Mlstm.kernelArgs m c).outs, ?_, ?_⟩
  · refine (θ_run (Cert.KernelIdeal.defs (F := Ideal)) _ _).mono (fun r h c => ?_) (Cert.KernelIdeal.Value.run_blocks m g)
    exact ⟨(h c).1.trans (Cert.Mlstm.kernel_array m c (hk c)), (h c).2⟩
  · refine (θ_run (Cert.ReferenceIdeal.defs (F := Ideal)) _ _).mono (fun r h c => ?_) (Cert.Mlstm.ref_run m' g')
    refine ⟨(h.1 c).1.trans ?_, (h.1 c).2⟩
    have hreal : (Cert.Mlstm.refArgs (Idealize.ShloMosaic.StableHlo.launchContents m' c)).Real := by rw [hr c]; exact hk c
    exact (Cert.Mlstm.ref_result m' c hreal).trans (by rw [hr c])

/-- The closing call's reference runs and leaves its arguments and semaphores alone. -/
theorem refFrame2 : Cert.quiescent_Reference2Ideal := fun m g _ =>
  (θ_run (Cert.Reference2Ideal.defs (F := Ideal)) _ _).mono (fun r h => ⟨fun c => (h c).2, sem_eq_zero_of_no_sems (by decide) r.2⟩)
    (Cert.Reference2Ideal.Value.run m g)

/-- So does the reference of the projection into the attention. -/
theorem refFrame3 : Cert.quiescent_Reference3Ideal := fun m g _ =>
  (θ_run (Cert.Reference3Ideal.defs (F := Ideal)) _ _).mono (fun r h => ⟨fun c => (h c).2.2, sem_eq_zero_of_no_sems (by decide) r.2⟩)
    (Cert.Reference3Ideal.Value.run m g)

/-- And so does the reference of the first layer's norm and projection. -/
theorem refFrame4 : Cert.quiescent_Reference4Ideal := fun m g _ =>
  (θ_run (Cert.Reference4Ideal.defs (F := Ideal)) _ _).mono (fun r h => ⟨fun c => (h c).2.2.2.2.2, sem_eq_zero_of_no_sems (by decide) r.2⟩)
    (Cert.Reference4Ideal.Value.run m g)

/-- And the reference of the gated projection. -/
theorem refFrame5 : Cert.quiescent_Reference5Ideal := fun m g _ =>
  (θ_run (Cert.Reference5Ideal.defs (F := Ideal)) _ _).mono (fun r h => ⟨fun c => (h c).2, sem_eq_zero_of_no_sems (by decide) r.2⟩)
    (Cert.Reference5Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  fun m g _ => Cert.Kernel.Gen.frame m g,
  fun m g _ => Cert.KernelIdeal.Gen.frame m g,
  fun m g _ => Cert.KernelIdeal.Gen.frame m g,
  refFrame,
  fun m g _ => refFrame m g trivial,
  fun m g _ => Cert.Kernel2.Gen.frame m g,
  fun m g _ => Cert.Kernel2Ideal.Gen.frame m g,
  refFrame2,
  fun m g _ => Cert.FoxSame.frame m g,
  fun m g _ => Cert.Fox.frame m g,
  refFrame3,
  fun m g _ => Cert.PrepSame.frame m g,
  fun m g _ => Cert.Prep.frame m g,
  refFrame4,
  fun m g _ => Cert.Kernel5.Gen.frame m g,
  fun m g _ => Cert.Kernel5Ideal.Gen.frame m g,
  refFrame5,
  trivial,
  sameOuts,
  trivial,
  Cert.Final.same,
  trivial,
  Cert.Fox.same,
  trivial,
  Cert.Prep.same,
  IdealRules.named_const.statement Cert.Kernel5Ideal.κ "neg_log2e" .f32 0xBFB8AA3B#32 ((-((Real.log 2)⁻¹) : ℝ) : EReal) rfl,
  Cert.Gate.same⟩

end Cert.Proof

end
